-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_rows_in_range : Cert.Pre_rows_in_range.Facts) (hPre_drawn : Cert.Pre_drawn.Facts),
    quiescent_Kernel (hKernel := hKernel) (hPre_rows_in_range := hPre_rows_in_range)
    ∧ quiescent_KernelIdeal (hKernelIdeal := hKernelIdeal) (hPre_rows_in_range := hPre_rows_in_range)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S8x512x1024 : Shape := ⟨3, ![8, 512, 1024]⟩
abbrev S8x512x2 : Shape := ⟨3, ![8, 512, 2]⟩
abbrev S8x64x4 : Shape := ⟨3, ![8, 64, 4]⟩
abbrev S8x1024 : Shape := ⟨2, ![8, 1024]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S8x64x3 : Shape := ⟨3, ![8, 64, 3]⟩
abbrev S8x512x1 : Shape := ⟨3, ![8, 512, 1]⟩
abbrev S8x512 : Shape := ⟨2, ![8, 512]⟩
abbrev S8x512x512 : Shape := ⟨3, ![8, 512, 512]⟩
abbrev S_ : Shape := ⟨0, ![]⟩
abbrev S8x64x1 : Shape := ⟨3, ![8, 64, 1]⟩
abbrev S8x64 : Shape := ⟨2, ![8, 64]⟩
abbrev S8x1x512 : Shape := ⟨3, ![8, 1, 512]⟩

class Facts : Prop where
  slices_S8x64x4_S8x64x3_0_0_1 : S8x64x4.Slices ![0, 0, 1] S8x64x3
  slices_S8x512x2_S8x512x1_0_0_0 : S8x512x2.Slices ![0, 0, 0] S8x512x1
  shapeCasts_S8x512x1_S8x512 : S8x512x1.ShapeCasts S8x512
  slices_S8x512x2_S8x512x1_0_0_1 : S8x512x2.Slices ![0, 0, 1] S8x512x1
  bcast_S_S8x64x3 : S_.BroadcastsInDim S8x64x3 (![] : Fin 0 → Fin S8x64x3.rank)
  slices_S8x64x4_S8x64x1_0_0_0 : S8x64x4.Slices ![0, 0, 0] S8x64x1
  shapeCasts_S8x64x1_S8x64 : S8x64x1.ShapeCasts S8x64
  bcast_S_S8x64 : S_.BroadcastsInDim S8x64 (![] : Fin 0 → Fin S8x64.rank)
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512_S8x1x512_0_2 : S8x512.BroadcastsInDim S8x1x512 (![0, 2] : Fin 2 → Fin S8x1x512.rank)
  bcast_S8x512x1_S8x512x512_0_1_2 : S8x512x1.BroadcastsInDim S8x512x512 (![0, 1, 2] : Fin 3 → Fin S8x512x512.rank)
  bcast_S8x1x512_S8x512x512_0_1_2 : S8x1x512.BroadcastsInDim S8x512x512 (![0, 1, 2] : Fin 3 → Fin S8x512x512.rank)

variable [Facts]

def fn_part1 {F : FTy → Type} [FloatOps F] (main_v2 : IVec S8x512 32) (main_v4 : IVec S8x512 32) (main_v5 : IVec S8x512x512 32) (main_v6 : IVec S8x512x512 32) (main_v11 : IVec S8x64x3 1) (main_v15 : IVec S8x64 1) (main_v19 : IVec S8x64 1) : IVec S8x64x3 1 × IVec S8x64 1 × IVec S8x512 1 × IVec S8x512 1 × IVec S8x512x512 1 :=
  let main_v20 : IVec S8x64 1 := ori main_v15 main_v19
  let main_c_3 : IVec S_ 32 := constantI S_ 32 0#32
  let main_v21 : IVec S8x512 32 := broadcastInDim S8x512 ![] bcast_S_S8x512 main_c_3
  let main_v22 : IVec S8x512 1 := cmpi .sge main_v2 main_v21
  let main_c_4 : IVec S_ 32 := constantI S_ 32 512#32
  let main_v23 : IVec S8x512 32 := broadcastInDim S8x512 ![] bcast_S_S8x512 main_c_4
  let main_v24 : IVec S8x512 1 := cmpi .slt main_v2 main_v23
  let main_v25 : IVec S8x512 1 := andi main_v22 main_v24
  let main_c_5 : IVec S_ 32 := constantI S_ 32 0#32
  let main_v26 : IVec S8x512 32 := broadcastInDim S8x512 ![] bcast_S_S8x512 main_c_5
  let main_v27 : IVec S8x512 1 := cmpi .sge main_v4 main_v26
  let main_c_6 : IVec S_ 32 := constantI S_ 32 512#32
  let main_v28 : IVec S8x512 32 := broadcastInDim S8x512 ![] bcast_S_S8x512 main_c_6
  let main_v29 : IVec S8x512 1 := cmpi .slt main_v4 main_v28
  let main_v30 : IVec S8x512 1 := andi main_v27 main_v29
  let main_v31 : IVec S8x512x1 32 := broadcastInDim S8x512x1 ![0, 1] bcast_S8x512_S8x512x1_0_1 main_v2
  let main_v32 : IVec S8x1x512 32 := broadcastInDim S8x1x512 ![0, 2] bcast_S8x512_S8x1x512_0_2 main_v2
  let main_v33 : IVec S8x512x512 32 := broadcastInDim S8x512x512 ![0, 1, 2] bcast_S8x512x1_S8x512x512_0_1_2 main_v31
  let main_v34 : IVec S8x512x512 32 := broadcastInDim S8x512x512 ![0, 1, 2] bcast_S8x1x512_S8x512x512_0_1_2 main_v32
  let main_v35 : IVec S8x512x512 1 := cmpi .ne main_v33 main_v34
  let main_v36 : IVec S8x512x512 1 := cmpi .eq main_v5 main_v6
  let main_v37 : IVec S8x512x512 1 := ori main_v35 main_v36
  (main_v11, main_v20, main_v25, main_v30, main_v37)

def fn {F : FTy → Type} [FloatOps F] (main_arg0 : FVec F S8x512x1024 .f32) (main_arg1 : IVec S8x512x2 32) (main_arg2 : IVec S8x64x4 32) (main_arg3 : IVec S8x1024 32) (main_arg4 : FVec F S512x512 .f32) (main_arg5 : FVec F S512x512 .f32) (main_arg6 : FVec F S512x512 .f32) (main_arg7 : FVec F S512 .f32) (main_arg8 : FVec F S1024x512 .f32) (main_arg9 : FVec F S1024 .f32) : IVec S8x64x3 1 × IVec S8x64 1 × IVec S8x512 1 × IVec S8x512 1 × IVec S8x512x512 1 :=
  let main_v0 : IVec S8x64x3 32 := (extractStridedSlice S8x64x3 ![0, 0, 1] · slices_S8x64x4_S8x64x3_0_0_1) main_arg2
  let main_v1 : IVec S8x512x1 32 := (extractStridedSlice S8x512x1 ![0, 0, 0] · slices_S8x512x2_S8x512x1_0_0_0) main_arg1
  let main_v2 : IVec S8x512 32 := shapeCast S8x512 main_v1 shapeCasts_S8x512x1_S8x512
  let main_v3 : IVec S8x512x1 32 := (extractStridedSlice S8x512x1 ![0, 0, 1] · slices_S8x512x2_S8x512x1_0_0_1) main_arg1
  let main_v4 : IVec S8x512 32 := shapeCast S8x512 main_v3 shapeCasts_S8x512x1_S8x512
  let main_v5 : IVec S8x512x512 32 := iotaInDim S8x512x512 32 1
  let main_v6 : IVec S8x512x512 32 := iotaInDim S8x512x512 32 2
  let main_c : IVec S_ 32 := constantI S_ 32 0#32
  let main_v7 : IVec S8x64x3 32 := broadcastInDim S8x64x3 ![] bcast_S_S8x64x3 main_c
  let main_v8 : IVec S8x64x3 1 := cmpi .sge main_v0 main_v7
  let main_c_0 : IVec S_ 32 := constantI S_ 32 1024#32
  let main_v9 : IVec S8x64x3 32 := broadcastInDim S8x64x3 ![] bcast_S_S8x64x3 main_c_0
  let main_v10 : IVec S8x64x3 1 := cmpi .slt main_v0 main_v9
  let main_v11 : IVec S8x64x3 1 := andi main_v8 main_v10
  let main_v12 : IVec S8x64x1 32 := (extractStridedSlice S8x64x1 ![0, 0, 0] · slices_S8x64x4_S8x64x1_0_0_0) main_arg2
  let main_v13 : IVec S8x64 32 := shapeCast S8x64 main_v12 shapeCasts_S8x64x1_S8x64
  let main_c_1 : IVec S_ 32 := constantI S_ 32 1#32
  let main_v14 : IVec S8x64 32 := broadcastInDim S8x64 ![] bcast_S_S8x64 main_c_1
  let main_v15 : IVec S8x64 1 := cmpi .eq main_v13 main_v14
  let main_v16 : IVec S8x64x1 32 := (extractStridedSlice S8x64x1 ![0, 0, 0] · slices_S8x64x4_S8x64x1_0_0_0) main_arg2
  let main_v17 : IVec S8x64 32 := shapeCast S8x64 main_v16 shapeCasts_S8x64x1_S8x64
  let main_c_2 : IVec S_ 32 := constantI S_ 32 2#32
  let main_v18 : IVec S8x64 32 := broadcastInDim S8x64 ![] bcast_S_S8x64 main_c_2
  let main_v19 : IVec S8x64 1 := cmpi .eq main_v17 main_v18
  fn_part1 (F := F) main_v2 main_v4 main_v5 main_v6 main_v11 main_v15 main_v19
-- ==== Pre_rows_in_range.lean ====
abbrev S8x512x1024 : Shape := ⟨3, ![8, 512, 1024]⟩
abbrev S8x512x2 : Shape := ⟨3, ![8, 512, 2]⟩
abbrev S8x64x4 : Shape := ⟨3, ![8, 64, 4]⟩
abbrev S8x1024 : Shape := ⟨2, ![8, 1024]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S8x64x3 : Shape := ⟨3, ![8, 64, 3]⟩
abbrev S_ : Shape := ⟨0, ![]⟩

class Facts : Prop where
  slices_S8x64x4_S8x64x3_0_0_1 : S8x64x4.Slices ![0, 0, 1] S8x64x3
  bcast_S_S8x64x3 : S_.BroadcastsInDim S8x64x3 (![] : Fin 0 → Fin S8x64x3.rank)

variable [Facts]

def fn {F : FTy → Type} [FloatOps F] (main_arg0 : FVec F S8x512x1024 .f32) (main_arg1 : IVec S8x512x2 32) (main_arg2 : IVec S8x64x4 32) (main_arg3 : IVec S8x1024 32) (main_arg4 : FVec F S512x512 .f32) (main_arg5 : FVec F S512x512 .f32) (main_arg6 : FVec F S512x512 .f32) (main_arg7 : FVec F S512 .f32) (main_arg8 : FVec F S1024x512 .f32) (main_arg9 : FVec F S1024 .f32) : IVec S8x64x3 1 :=
  let main_v0 : IVec S8x64x3 32 := (extractStridedSlice S8x64x3 ![0, 0, 1] · slices_S8x64x4_S8x64x3_0_0_1) main_arg2
  let main_c : IVec S_ 32 := constantI S_ 32 0#32
  let main_v1 : IVec S8x64x3 32 := broadcastInDim S8x64x3 ![] bcast_S_S8x64x3 main_c
  let main_v2 : IVec S8x64x3 1 := cmpi .sge main_v0 main_v1
  let main_c_0 : IVec S_ 32 := constantI S_ 32 1024#32
  let main_v3 : IVec S8x64x3 32 := broadcastInDim S8x64x3 ![] bcast_S_S8x64x3 main_c_0
  let main_v4 : IVec S8x64x3 1 := cmpi .slt main_v0 main_v3
  let main_v5 : IVec S8x64x3 1 := andi main_v2 main_v4
  main_v5
-- ==== Kernel.lean ====
abbrev S8x512x1024 : Shape := ⟨3, ![8, 512, 1024]⟩
abbrev S8x512x2 : Shape := ⟨3, ![8, 512, 2]⟩
abbrev S8x64x4 : Shape := ⟨3, ![8, 64, 4]⟩
abbrev S8x1024 : Shape := ⟨2, ![8, 1024]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S1x512 : Shape := ⟨2, ![1, 512]⟩
abbrev S4096x1024 : Shape := ⟨2, ![4096, 1024]⟩
abbrev S8x512x1 : Shape := ⟨3, ![8, 512, 1]⟩
abbrev S8x512 : Shape := ⟨2, ![8, 512]⟩
abbrev S8x1x512 : Shape := ⟨3, ![8, 1, 512]⟩
abbrev S512x256 : Shape := ⟨2, ![512, 256]⟩
abbrev S_ : Shape := ⟨0, ![]⟩
abbrev S256x512 : Shape := ⟨2, ![256, 512]⟩
abbrev S512x1024 : Shape := ⟨2, ![512, 1024]⟩
abbrev S512x1536 : Shape := ⟨2, ![512, 1536]⟩
abbrev S1536 : Shape := ⟨1, ![1536]⟩
abbrev S1x1536 : Shape := ⟨2, ![1, 1536]⟩
abbrev S8x1024x1536 : Shape := ⟨3, ![8, 1024, 1536]⟩
abbrev S1x256 : Shape := ⟨2, ![1, 256]⟩
abbrev S8x512x256 : Shape := ⟨3, ![8, 512, 256]⟩
abbrev S8x1024x512 : Shape := ⟨3, ![8, 1024, 512]⟩
abbrev S16x512 : Shape := ⟨2, ![16, 512]⟩
abbrev S1x1x512 : Shape := ⟨3, ![1, 1, 512]⟩
abbrev S1x512x512 : Shape := ⟨3, ![1, 512, 512]⟩
abbrev S1x1x1 : Shape := ⟨3, ![1, 1, 1]⟩
abbrev S32x512 : Shape := ⟨2, ![32, 512]⟩
abbrev S16 : Shape := ⟨1, ![16]⟩
abbrev S16x1 : Shape := ⟨2, ![16, 1]⟩
abbrev S8x1 : Shape := ⟨2, ![8, 1]⟩
abbrev S8x256 : Shape := ⟨2, ![8, 256]⟩
abbrev S8x512x512 : Shape := ⟨3, ![8, 512, 512]⟩
abbrev S4096x512 : Shape := ⟨2, ![4096, 512]⟩
abbrev S4096x256 : Shape := ⟨2, ![4096, 256]⟩

abbrev nBuf : Space → Nat
  | .hbm => 77
  | .vmem => 15
  | .smem => 1
  | _ => 0

abbrev bufTy : (tb : Table) → Fin (tcTables nBuf tb) → BufTy
  | .hbm, ⟨0, _⟩ => ⟨S8x512x1024, .f32⟩
  | .hbm, ⟨1, _⟩ => ⟨S8x512x2, .i32⟩
  | .hbm, ⟨2, _⟩ => ⟨S8x64x4, .i32⟩
  | .hbm, ⟨3, _⟩ => ⟨S8x1024, .i32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S1024x512, .f32⟩
  | .hbm, ⟨9, _⟩ => ⟨S1024, .f32⟩
  | .hbm, ⟨10, _⟩ => ⟨S512, .f32⟩
  | .hbm, ⟨11, _⟩ => ⟨S1x512, .f32⟩
  | .hbm, ⟨12, _⟩ => ⟨S4096x1024, .f32⟩
  | .hbm, ⟨13, _⟩ => ⟨S512x512, .f32⟩
  | .hbm, ⟨14, _⟩ => ⟨S512x512, .f32⟩
  | .hbm, ⟨15, _⟩ => ⟨S1024x512, .f32⟩
  | .hbm, ⟨16, _⟩ => ⟨S1024x512, .bf16⟩
  | .hbm, ⟨17, _⟩ => ⟨S8x512x1, .i32⟩
  | .hbm, ⟨18, _⟩ => ⟨S8x512, .i32⟩
  | .hbm, ⟨19, _⟩ => ⟨S8x1x512, .i32⟩
  | .hbm, ⟨20, _⟩ => ⟨S8x512x1, .i32⟩
  | .hbm, ⟨21, _⟩ => ⟨S8x512, .i32⟩
  | .hbm, ⟨22, _⟩ => ⟨S8x1x512, .i32⟩
  | .hbm, ⟨23, _⟩ => ⟨S512x256, .i32⟩
  | .hbm, ⟨24, _⟩ => ⟨S512x256, .i32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S512x256, .i32⟩
  | .hbm, ⟨31, _⟩ => ⟨S_, .i32⟩
  | .hbm, ⟨32, _⟩ => ⟨S512x256, .i32⟩
  | .hbm, ⟨33, _⟩ => ⟨S512x256, .i32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S_, .f32⟩
  | .hbm, ⟨38, _⟩ => ⟨S512x256, .f32⟩
  | .hbm, ⟨39, _⟩ => ⟨S512x256, .f32⟩
  | .hbm, ⟨40, _⟩ => ⟨S512x256, .f32⟩
  | .hbm, ⟨41, _⟩ => ⟨S512x256, .f32⟩
  | .hbm, ⟨42, _⟩ => ⟨S512x512, .f32⟩
  | .hbm, ⟨43, _⟩ => ⟨S256x512, .i32⟩
  | .hbm, ⟨44, _⟩ => ⟨S_, .i32⟩
  | .hbm, ⟨45, _⟩ => ⟨S256x512, .i32⟩
  | .hbm, ⟨46, _⟩ => ⟨S256x512, .i1⟩
  | .hbm, ⟨47, _⟩ => ⟨S_, .f32⟩
  | .hbm, ⟨48, _⟩ => ⟨S_, .f32⟩
  | .hbm, ⟨49, _⟩ => ⟨S256x512, .f32⟩
  | .hbm, ⟨50, _⟩ => ⟨S256x512, .f32⟩
  | .hbm, ⟨51, _⟩ => ⟨S256x512, .f32⟩
  | .hbm, ⟨52, _⟩ => ⟨S512x256, .f32⟩
  | .hbm, ⟨53, _⟩ => ⟨S256x512, .f32⟩
  | .hbm, ⟨54, _⟩ => ⟨S256x512, .f32⟩
  | .hbm, ⟨55, _⟩ => ⟨S256x512, .f32⟩
  | .hbm, ⟨56, _⟩ => ⟨S_, .f32⟩
  | .hbm, ⟨57, _⟩ => ⟨S256x512, .f32⟩
  | .hbm, ⟨58, _⟩ => ⟨S256x512, .f32⟩
  | .hbm, ⟨59, _⟩ => ⟨S256x512, .f32⟩
  | .hbm, ⟨60, _⟩ => ⟨S512x256, .f32⟩
  | .hbm, ⟨61, _⟩ => ⟨S256x512, .f32⟩
  | .hbm, ⟨62, _⟩ => ⟨S256x512, .f32⟩
  | .hbm, ⟨63, _⟩ => ⟨S256x512, .f32⟩
  | .hbm, ⟨64, _⟩ => ⟨S_, .f32⟩
  | .hbm, ⟨65, _⟩ => ⟨S256x512, .f32⟩
  | .hbm, ⟨66, _⟩ => ⟨S256x512, .f32⟩
  | .hbm, ⟨67, _⟩ => ⟨S512x512, .f32⟩
  | .hbm, ⟨68, _⟩ => ⟨S512x512, .bf16⟩
  | .hbm, ⟨69, _⟩ => ⟨S512x512, .bf16⟩
  | .hbm, ⟨70, _⟩ => ⟨S512x512, .f32⟩
  | .hbm, ⟨71, _⟩ => ⟨S512x1024, .f32⟩
  | .hbm, ⟨72, _⟩ => ⟨S512x1536, .f32⟩
  | .hbm, ⟨73, _⟩ => ⟨S512x1536, .bf16⟩
  | .hbm, ⟨74, _⟩ => ⟨S1536, .f32⟩
  | .hbm, ⟨75, _⟩ => ⟨S1x1536, .f32⟩
  | .hbm, ⟨76, _⟩ => ⟨S8x1024x1536, .f32⟩
  | .local _ .vmem, ⟨0, _⟩ => ⟨S4096x1024, .f32⟩
  | .local _ .vmem, ⟨1, _⟩ => ⟨S1024x512, .bf16⟩
  | .local _ .vmem, ⟨2, _⟩ => ⟨S8x1x512, .i32⟩
  | .local _ .vmem, ⟨3, _⟩ => ⟨S8x1x512, .i32⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S512x256, .bf16⟩
  | .local _ .vmem, ⟨8, _⟩ => ⟨S512x256, .bf16⟩
  | .local _ .vmem, ⟨9, _⟩ => ⟨S1x256, .f32⟩
  | .local _ .vmem, ⟨10, _⟩ => ⟨S1x256, .f32⟩
  | .local _ .vmem, ⟨11, _⟩ => ⟨S8x512x256, .f32⟩
  | .local _ .vmem, ⟨12, _⟩ => ⟨S8x512x256, .f32⟩
  | .local _ .vmem, ⟨13, _⟩ => ⟨S8x1024x512, .f32⟩
  | .local _ .vmem, ⟨14, _⟩ => ⟨S16x512, .f32⟩
  | .local _ .smem, ⟨0, _⟩ => ⟨S8x64x4, .i32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst_0 : Ref sig .tc := ⟨.hbm, 25, rfl⟩
abbrev main_call0_cst_1 : Ref sig .tc := ⟨.hbm, 26, rfl⟩
abbrev main_call0_v14 : Ref sig .tc := ⟨.hbm, 27, rfl⟩
abbrev main_call0_cst_2 : Ref sig .tc := ⟨.hbm, 28, rfl⟩
abbrev main_call0_v15 : Ref sig .tc := ⟨.hbm, 29, rfl⟩
abbrev main_call0_v16 : Ref sig .tc := ⟨.hbm, 30, rfl⟩
abbrev main_call0_c : Ref sig .tc := ⟨.hbm, 31, rfl⟩
abbrev main_call0_v17 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_call0_v21 : Ref sig .tc := ⟨.hbm, 36, rfl⟩
abbrev main_call0_cst_3 : Ref sig .tc := ⟨.hbm, 37, rfl⟩
abbrev main_call0_v22 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_call0_v26 : Ref sig .tc := ⟨.hbm, 42, rfl⟩
abbrev main_call0_v27 : Ref sig .tc := ⟨.hbm, 43, rfl⟩
abbrev main_call0_c_4 : Ref sig .tc := ⟨.hbm, 44, rfl⟩
abbrev main_call0_v28 : Ref sig .tc := ⟨.hbm, 45, rfl⟩
abbrev main_call0_v29 : Ref sig .tc := ⟨.hbm, 46, rfl⟩
abbrev main_call0_cst_5 : Ref sig .tc := ⟨.hbm, 47, rfl⟩
abbrev main_call0_cst_6 : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_v30 : Ref sig .tc := ⟨.hbm, 51, rfl⟩
abbrev main_call0_v31 : Ref sig .tc := ⟨.hbm, 52, rfl⟩
abbrev main_call0_v32 : Ref sig .tc := ⟨.hbm, 53, rfl⟩
abbrev main_call0_v33 : Ref sig .tc := ⟨.hbm, 54, rfl⟩
abbrev main_call0_v34 : Ref sig .tc := ⟨.hbm, 55, rfl⟩
abbrev main_call0_cst_7 : Ref sig .tc := ⟨.hbm, 56, rfl⟩
abbrev main_call0_v35 : Ref sig .tc := ⟨.hbm, 57, rfl⟩
abbrev main_call0_v36 : Ref sig .tc := ⟨.hbm, 58, rfl⟩
abbrev main_call0_v37 : Ref sig .tc := ⟨.hbm, 59, rfl⟩
abbrev main_call0_v38 : Ref sig .tc := ⟨.hbm, 60, rfl⟩
abbrev main_call0_v39 : Ref sig .tc := ⟨.hbm, 61, rfl⟩
abbrev main_call0_v40 : Ref sig .tc := ⟨.hbm, 62, rfl⟩
abbrev main_call0_v41 : Ref sig .tc := ⟨.hbm, 63, rfl⟩
abbrev main_call0_cst_8 : Ref sig .tc := ⟨.hbm, 64, rfl⟩
abbrev main_call0_v42 : Ref sig .tc := ⟨.hbm, 65, rfl⟩
abbrev main_call0_v43 : Ref sig .tc := ⟨.hbm, 66, rfl⟩
abbrev main_call0_v44 : Ref sig .tc := ⟨.hbm, 67, rfl⟩
abbrev main_call0_v45 : Ref sig .tc := ⟨.hbm, 68, rfl⟩
abbrev main_call0_v46 : Ref sig .tc := ⟨.hbm, 69, rfl⟩
abbrev main_call0_v47 : Ref sig .tc := ⟨.hbm, 70, rfl⟩
abbrev main_call0_v48 : Ref sig .tc := ⟨.hbm, 71, rfl⟩
abbrev main_call0_v49 : Ref sig .tc := ⟨.hbm, 72, rfl⟩
abbrev main_call0_v50 : Ref sig .tc := ⟨.hbm, 73, rfl⟩
abbrev main_call0_v51 : Ref sig .tc := ⟨.hbm, 74, rfl⟩
abbrev main_call0_v52 : Ref sig .tc := ⟨.hbm, 75, rfl⟩
abbrev main_v0 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg9_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c6_i32 : BitVec 32 := 6#32
  let v0 : BitVec 1 := Scalar.cmpi .eq arg0 c6_i32
  let v1 : BitVec 32 := Scalar.extui v0
  let c0_i32 : BitVec 32 := 0#32
  let v2 : BitVec 1 := Scalar.cmpi .ne v1 c0_i32
  v2

@[reducible] def k0_t1_loop : Scf.Loop 32 :=
  let c0_i32_164 : BitVec 32 := 0#32
  let c64_i32 : BitVec 32 := 64#32
  let v298 : BitVec 32 := Scalar.addi c0_i32_164 c64_i32
  let c1_i32 : BitVec 32 := 1#32
  ⟨c0_i32_164, v298, c1_i32⟩
def k0_off1 (k0_t1 : Fin k0_t1_loop.trips) : Fin 3 → Nat :=
  let c0_166 : Index := 0#32
  let c0_i32_164 : BitVec 32 := 0#32
  let c1_i32 : BitVec 32 := 1#32
  let arg14 : BitVec 32 := Scf.iv c0_i32_164 c1_i32 k0_t1
  let v299 : Index := Scalar.indexCast arg14
  let c2_167 : Index := 2#32
  ![0, v299.toNat, 2]
def k0_off2 (k0_t1 : Fin k0_t1_loop.trips) : Fin 3 → Nat :=
  let c0_168 : Index := 0#32
  let c0_i32_164 : BitVec 32 := 0#32
  let c1_i32 : BitVec 32 := 1#32
  let arg14 : BitVec 32 := Scf.iv c0_i32_164 c1_i32 k0_t1
  let v301 : Index := Scalar.indexCast arg14
  let c3_169 : Index := 3#32
  ![0, v301.toNat, 3]
def k0_off3 (v300 : BitVec 32) : Fin 3 → Nat :=
  let c0_170 : Index := 0#32
  let v303 : Index := Scalar.indexCast v300
  let c0_171 : Index := 0#32
  ![0, v303.toNat, 0]

def k0_chk1 (i : grid0.Coords) (v300 : BitVec 32) : Prop :=
  (∀ (k0_h1 : k0_cond1 i = 1#1), ∀ a, (k0_off3 v300) a + S1x1x512.size a ≤ S8x1024x512.size a)
theorem k0_off3_inb : ∀ (i : grid0.Coords) (v300 : BitVec 32) (k0_hw1 : k0_chk1 i v300), ∀ (k0_h1 : k0_cond1 i = 1#1), ∀ a, (k0_off3 v300) a + S1x1x512.size a ≤ S8x1024x512.size a := fun i v300 k0_hw1 k0_h1 => k0_hw1 k0_h1

def k0_off4 (v302 : BitVec 32) : Fin 3 → Nat :=
  let c0_174 : Index := 0#32
  let v309 : Index := Scalar.indexCast v302
  let c0_175 : Index := 0#32
  ![0, v309.toNat, 0]

def k0_chk2 (i : grid0.Coords) (v302 : BitVec 32) : Prop :=
  (∀ (k0_h1 : k0_cond1 i = 1#1), ∀ a, (k0_off4 v302) a + S1x1x512.size a ≤ S8x1024x512.size a)
theorem k0_off4_inb : ∀ (i : grid0.Coords) (v302 : BitVec 32) (k0_hw2 : k0_chk2 i v302), ∀ (k0_h1 : k0_cond1 i = 1#1), ∀ a, (k0_off4 v302) a + S1x1x512.size a ≤ S8x1024x512.size a := fun i v302 k0_hw2 k0_h1 => k0_hw2 k0_h1

def k0_off5 (k0_t1 : Fin k0_t1_loop.trips) : Fin 3 → Nat :=
  let c1_177 : Index := 1#32
  let c0_i32_164 : BitVec 32 := 0#32
  let c1_i32 : BitVec 32 := 1#32
  let arg14 : BitVec 32 := Scf.iv c0_i32_164 c1_i32 k0_t1
  let v315 : Index := Scalar.indexCast arg14
  let c2_178 : Index := 2#32
  ![1, v315.toNat, 2]
def k0_off6 (k0_t1 : Fin k0_t1_loop.trips) : Fin 3 → Nat :=
  let c1_179 : Index := 1#32
  let c0_i32_164 : BitVec 32 := 0#32
  let c1_i32 : BitVec 32 := 1#32
  let arg14 : BitVec 32 := Scf.iv c0_i32_164 c1_i32 k0_t1
  let v317 : Index := Scalar.indexCast arg14
  let c3_180 : Index := 3#32
  ![1, v317.toNat, 3]
def k0_off7 (v316 : BitVec 32) : Fin 3 → Nat :=
  let c1_181 : Index := 1#32
  let v319 : Index := Scalar.indexCast v316
  let c0_182 : Index := 0#32
  ![1, v319.toNat, 0]

def k0_chk3 (i : grid0.Coords) (v316 : BitVec 32) : Prop :=
  (∀ (k0_h1 : k0_cond1 i = 1#1), ∀ a, (k0_off7 v316) a + S1x1x512.size a ≤ S8x1024x512.size a)
theorem k0_off7_inb : ∀ (i : grid0.Coords) (v316 : BitVec 32) (k0_hw3 : k0_chk3 i v316), ∀ (k0_h1 : k0_cond1 i = 1#1), ∀ a, (k0_off7 v316) a + S1x1x512.size a ≤ S8x1024x512.size a := fun i v316 k0_hw3 k0_h1 => k0_hw3 k0_h1

def k0_off8 (v318 : BitVec 32) : Fin 3 → Nat :=
  let c1_185 : Index := 1#32
  let v325 : Index := Scalar.indexCast v318
  let c0_186 : Index := 0#32
  ![1, v325.toNat, 0]

def k0_chk4 (i : grid0.Coords) (v318 : BitVec 32) : Prop :=
  (∀ (k0_h1 : k0_cond1 i = 1#1), ∀ a, (k0_off8 v318) a + S1x1x512.size a ≤ S8x1024x512.size a)
theorem k0_off8_inb : ∀ (i : grid0.Coords) (v318 : BitVec 32) (k0_hw4 : k0_chk4 i v318), ∀ (k0_h1 : k0_cond1 i = 1#1), ∀ a, (k0_off8 v318) a + S1x1x512.size a ≤ S8x1024x512.size a := fun i v318 k0_hw4 k0_h1 => k0_hw4 k0_h1

def k0_off9 (k0_t1 : Fin k0_t1_loop.trips) : Fin 3 → Nat :=
  let c2_188 : Index := 2#32
  let c0_i32_164 : BitVec 32 := 0#32
  let c1_i32 : BitVec 32 := 1#32
  let arg14 : BitVec 32 := Scf.iv c0_i32_164 c1_i32 k0_t1
  let v331 : Index := Scalar.indexCast arg14
  let c2_189 : Index := 2#32
  ![2, v331.toNat, 2]
def k0_off10 (k0_t1 : Fin k0_t1_loop.trips) : Fin 3 → Nat :=
  let c2_190 : Index := 2#32
  let c0_i32_164 : BitVec 32 := 0#32
  let c1_i32 : BitVec 32 := 1#32
  let arg14 : BitVec 32 := Scf.iv c0_i32_164 c1_i32 k0_t1
  let v333 : Index := Scalar.indexCast arg14
  let c3_191 : Index := 3#32
  ![2, v333.toNat, 3]
def k0_off11 (v332 : BitVec 32) : Fin 3 → Nat :=
  let c2_192 : Index := 2#32
  let v335 : Index := Scalar.indexCast v332
  let c0_193 : Index := 0#32
  ![2, v335.toNat, 0]

def k0_chk5 (i : grid0.Coords) (v332 : BitVec 32) : Prop :=
  (∀ (k0_h1 : k0_cond1 i = 1#1), ∀ a, (k0_off11 v332) a + S1x1x512.size a ≤ S8x1024x512.size a)
theorem k0_off11_inb : ∀ (i : grid0.Coords) (v332 : BitVec 32) (k0_hw5 : k0_chk5 i v332), ∀ (k0_h1 : k0_cond1 i = 1#1), ∀ a, (k0_off11 v332) a + S1x1x512.size a ≤ S8x1024x512.size a := fun i v332 k0_hw5 k0_h1 => k0_hw5 k0_h1

def k0_off12 (v334 : BitVec 32) : Fin 3 → Nat :=
  let c2_196 : Index := 2#32
  let v341 : Index := Scalar.indexCast v334
  let c0_197 : Index := 0#32
  ![2, v341.toNat, 0]

def k0_chk6 (i : grid0.Coords) (v334 : BitVec 32) : Prop :=
  (∀ (k0_h1 : k0_cond1 i = 1#1), ∀ a, (k0_off12 v334) a + S1x1x512.size a ≤ S8x1024x512.size a)
theorem k0_off12_inb : ∀ (i : grid0.Coords) (v334 : BitVec 32) (k0_hw6 : k0_chk6 i v334), ∀ (k0_h1 : k0_cond1 i = 1#1), ∀ a, (k0_off12 v334) a + S1x1x512.size a ≤ S8x1024x512.size a := fun i v334 k0_hw6 k0_h1 => k0_hw6 k0_h1

def k0_off13 (k0_t1 : Fin k0_t1_loop.trips) : Fin 3 → Nat :=
  let c3_199 : Index := 3#32
  let c0_i32_164 : BitVec 32 := 0#32
  let c1_i32 : BitVec 32 := 1#32
  let arg14 : BitVec 32 := Scf.iv c0_i32_164 c1_i32 k0_t1
  let v347 : Index := Scalar.indexCast arg14
  let c2_200 : Index := 2#32
  ![3, v347.toNat, 2]
def k0_off14 (k0_t1 : Fin k0_t1_loop.trips) : Fin 3 → Nat :=
  let c3_201 : Index := 3#32
  let c0_i32_164 : BitVec 32 := 0#32
  let c1_i32 : BitVec 32 := 1#32
  let arg14 : BitVec 32 := Scf.iv c0_i32_164 c1_i32 k0_t1
  let v349 : Index := Scalar.indexCast arg14
  let c3_202 : Index := 3#32
  ![3, v349.toNat, 3]
def k0_off15 (v348 : BitVec 32) : Fin 3 → Nat :=
  let c3_203 : Index := 3#32
  let v351 : Index := Scalar.indexCast v348
  let c0_204 : Index := 0#32
  ![3, v351.toNat, 0]

def k0_chk7 (i : grid0.Coords) (v348 : BitVec 32) : Prop :=
  (∀ (k0_h1 : k0_cond1 i = 1#1), ∀ a, (k0_off15 v348) a + S1x1x512.size a ≤ S8x1024x512.size a)
theorem k0_off15_inb : ∀ (i : grid0.Coords) (v348 : BitVec 32) (k0_hw7 : k0_chk7 i v348), ∀ (k0_h1 : k0_cond1 i = 1#1), ∀ a, (k0_off15 v348) a + S1x1x512.size a ≤ S8x1024x512.size a := fun i v348 k0_hw7 k0_h1 => k0_hw7 k0_h1

def k0_off16 (v350 : BitVec 32) : Fin 3 → Nat :=
  let c3_207 : Index := 3#32
  let v357 : Index := Scalar.indexCast v350
  let c0_208 : Index := 0#32
  ![3, v357.toNat, 0]

def k0_chk8 (i : grid0.Coords) (v350 : BitVec 32) : Prop :=
  (∀ (k0_h1 : k0_cond1 i = 1#1), ∀ a, (k0_off16 v350) a + S1x1x512.size a ≤ S8x1024x512.size a)
theorem k0_off16_inb : ∀ (i : grid0.Coords) (v350 : BitVec 32) (k0_hw8 : k0_chk8 i v350), ∀ (k0_h1 : k0_cond1 i = 1#1), ∀ a, (k0_off16 v350) a + S1x1x512.size a ≤ S8x1024x512.size a := fun i v350 k0_hw8 k0_h1 => k0_hw8 k0_h1

def k0_off17 (k0_t1 : Fin k0_t1_loop.trips) : Fin 3 → Nat :=
  let c4_210 : Index := 4#32
  let c0_i32_164 : BitVec 32 := 0#32
  let c1_i32 : BitVec 32 := 1#32
  let arg14 : BitVec 32 := Scf.iv c0_i32_164 c1_i32 k0_t1
  let v363 : Index := Scalar.indexCast arg14
  let c2_211 : Index := 2#32
  ![4, v363.toNat, 2]
def k0_off18 (k0_t1 : Fin k0_t1_loop.trips) : Fin 3 → Nat :=
  let c4_212 : Index := 4#32
  let c0_i32_164 : BitVec 32 := 0#32
  let c1_i32 : BitVec 32 := 1#32
  let arg14 : BitVec 32 := Scf.iv c0_i32_164 c1_i32 k0_t1
  let v365 : Index := Scalar.indexCast arg14
  let c3_213 : Index := 3#32
  ![4, v365.toNat, 3]
def k0_off19 (v364 : BitVec 32) : Fin 3 → Nat :=
  let c4_214 : Index := 4#32
  let v367 : Index := Scalar.indexCast v364
  let c0_215 : Index := 0#32
  ![4, v367.toNat, 0]

def k0_chk9 (i : grid0.Coords) (v364 : BitVec 32) : Prop :=
  (∀ (k0_h1 : k0_cond1 i = 1#1), ∀ a, (k0_off19 v364) a + S1x1x512.size a ≤ S8x1024x512.size a)
theorem k0_off19_inb : ∀ (i : grid0.Coords) (v364 : BitVec 32) (k0_hw9 : k0_chk9 i v364), ∀ (k0_h1 : k0_cond1 i = 1#1), ∀ a, (k0_off19 v364) a + S1x1x512.size a ≤ S8x1024x512.size a := fun i v364 k0_hw9 k0_h1 => k0_hw9 k0_h1

def k0_off20 (v366 : BitVec 32) : Fin 3 → Nat :=
  let c4_218 : Index := 4#32
  let v373 : Index := Scalar.indexCast v366
  let c0_219 : Index := 0#32
  ![4, v373.toNat, 0]

def k0_chk10 (i : grid0.Coords) (v366 : BitVec 32) : Prop :=
  (∀ (k0_h1 : k0_cond1 i = 1#1), ∀ a, (k0_off20 v366) a + S1x1x512.size a ≤ S8x1024x512.size a)
theorem k0_off20_inb : ∀ (i : grid0.Coords) (v366 : BitVec 32) (k0_hw10 : k0_chk10 i v366), ∀ (k0_h1 : k0_cond1 i = 1#1), ∀ a, (k0_off20 v366) a + S1x1x512.size a ≤ S8x1024x512.size a := fun i v366 k0_hw10 k0_h1 => k0_hw10 k0_h1

def k0_off21 (k0_t1 : Fin k0_t1_loop.trips) : Fin 3 → Nat :=
  let c5_221 : Index := 5#32
  let c0_i32_164 : BitVec 32 := 0#32
  let c1_i32 : BitVec 32 := 1#32
  let arg14 : BitVec 32 := Scf.iv c0_i32_164 c1_i32 k0_t1
  let v379 : Index := Scalar.indexCast arg14
  let c2_222 : Index := 2#32
  ![5, v379.toNat, 2]
def k0_off22 (k0_t1 : Fin k0_t1_loop.trips) : Fin 3 → Nat :=
  let c5_223 : Index := 5#32
  let c0_i32_164 : BitVec 32 := 0#32
  let c1_i32 : BitVec 32 := 1#32
  let arg14 : BitVec 32 := Scf.iv c0_i32_164 c1_i32 k0_t1
  let v381 : Index := Scalar.indexCast arg14
  let c3_224 : Index := 3#32
  ![5, v381.toNat, 3]
def k0_off23 (v380 : BitVec 32) : Fin 3 → Nat :=
  let c5_225 : Index := 5#32
  let v383 : Index := Scalar.indexCast v380
  let c0_226 : Index := 0#32
  ![5, v383.toNat, 0]

def k0_chk11 (i : grid0.Coords) (v380 : BitVec 32) : Prop :=
  (∀ (k0_h1 : k0_cond1 i = 1#1), ∀ a, (k0_off23 v380) a + S1x1x512.size a ≤ S8x1024x512.size a)
theorem k0_off23_inb : ∀ (i : grid0.Coords) (v380 : BitVec 32) (k0_hw11 : k0_chk11 i v380), ∀ (k0_h1 : k0_cond1 i = 1#1), ∀ a, (k0_off23 v380) a + S1x1x512.size a ≤ S8x1024x512.size a := fun i v380 k0_hw11 k0_h1 => k0_hw11 k0_h1

def k0_off24 (v382 : BitVec 32) : Fin 3 → Nat :=
  let c5_229 : Index := 5#32
  let v389 : Index := Scalar.indexCast v382
  let c0_230 : Index := 0#32
  ![5, v389.toNat, 0]

def k0_chk12 (i : grid0.Coords) (v382 : BitVec 32) : Prop :=
  (∀ (k0_h1 : k0_cond1 i = 1#1), ∀ a, (k0_off24 v382) a + S1x1x512.size a ≤ S8x1024x512.size a)
theorem k0_off24_inb : ∀ (i : grid0.Coords) (v382 : BitVec 32) (k0_hw12 : k0_chk12 i v382), ∀ (k0_h1 : k0_cond1 i = 1#1), ∀ a, (k0_off24 v382) a + S1x1x512.size a ≤ S8x1024x512.size a := fun i v382 k0_hw12 k0_h1 => k0_hw12 k0_h1

def k0_off25 (k0_t1 : Fin k0_t1_loop.trips) : Fin 3 → Nat :=
  let c6_232 : Index := 6#32
  let c0_i32_164 : BitVec 32 := 0#32
  let c1_i32 : BitVec 32 := 1#32
  let arg14 : BitVec 32 := Scf.iv c0_i32_164 c1_i32 k0_t1
  let v395 : Index := Scalar.indexCast arg14
  let c2_233 : Index := 2#32
  ![6, v395.toNat, 2]
def k0_off26 (k0_t1 : Fin k0_t1_loop.trips) : Fin 3 → Nat :=
  let c6_234 : Index := 6#32
  let c0_i32_164 : BitVec 32 := 0#32
  let c1_i32 : BitVec 32 := 1#32
  let arg14 : BitVec 32 := Scf.iv c0_i32_164 c1_i32 k0_t1
  let v397 : Index := Scalar.indexCast arg14
  let c3_235 : Index := 3#32
  ![6, v397.toNat, 3]
def k0_off27 (v396 : BitVec 32) : Fin 3 → Nat :=
  let c6_236 : Index := 6#32
  let v399 : Index := Scalar.indexCast v396
  let c0_237 : Index := 0#32
  ![6, v399.toNat, 0]

def k0_chk13 (i : grid0.Coords) (v396 : BitVec 32) : Prop :=
  (∀ (k0_h1 : k0_cond1 i = 1#1), ∀ a, (k0_off27 v396) a + S1x1x512.size a ≤ S8x1024x512.size a)
theorem k0_off27_inb : ∀ (i : grid0.Coords) (v396 : BitVec 32) (k0_hw13 : k0_chk13 i v396), ∀ (k0_h1 : k0_cond1 i = 1#1), ∀ a, (k0_off27 v396) a + S1x1x512.size a ≤ S8x1024x512.size a := fun i v396 k0_hw13 k0_h1 => k0_hw13 k0_h1

def k0_off28 (v398 : BitVec 32) : Fin 3 → Nat :=
  let c6_240 : Index := 6#32
  let v405 : Index := Scalar.indexCast v398
  let c0_241 : Index := 0#32
  ![6, v405.toNat, 0]

def k0_chk14 (i : grid0.Coords) (v398 : BitVec 32) : Prop :=
  (∀ (k0_h1 : k0_cond1 i = 1#1), ∀ a, (k0_off28 v398) a + S1x1x512.size a ≤ S8x1024x512.size a)
theorem k0_off28_inb : ∀ (i : grid0.Coords) (v398 : BitVec 32) (k0_hw14 : k0_chk14 i v398), ∀ (k0_h1 : k0_cond1 i = 1#1), ∀ a, (k0_off28 v398) a + S1x1x512.size a ≤ S8x1024x512.size a := fun i v398 k0_hw14 k0_h1 => k0_hw14 k0_h1

def k0_off29 (k0_t1 : Fin k0_t1_loop.trips) : Fin 3 → Nat :=
  let c7_243 : Index := 7#32
  let c0_i32_164 : BitVec 32 := 0#32
  let c1_i32 : BitVec 32 := 1#32
  let arg14 : BitVec 32 := Scf.iv c0_i32_164 c1_i32 k0_t1
  let v411 : Index := Scalar.indexCast arg14
  let c2_244 : Index := 2#32
  ![7, v411.toNat, 2]
def k0_off30 (k0_t1 : Fin k0_t1_loop.trips) : Fin 3 → Nat :=
  let c7_245 : Index := 7#32
  let c0_i32_164 : BitVec 32 := 0#32
  let c1_i32 : BitVec 32 := 1#32
  let arg14 : BitVec 32 := Scf.iv c0_i32_164 c1_i32 k0_t1
  let v413 : Index := Scalar.indexCast arg14
  let c3_246 : Index := 3#32
  ![7, v413.toNat, 3]
def k0_off31 (v412 : BitVec 32) : Fin 3 → Nat :=
  let c7_247 : Index := 7#32
  let v415 : Index := Scalar.indexCast v412
  let c0_248 : Index := 0#32
  ![7, v415.toNat, 0]

def k0_chk15 (i : grid0.Coords) (v412 : BitVec 32) : Prop :=
  (∀ (k0_h1 : k0_cond1 i = 1#1), ∀ a, (k0_off31 v412) a + S1x1x512.size a ≤ S8x1024x512.size a)
theorem k0_off31_inb : ∀ (i : grid0.Coords) (v412 : BitVec 32) (k0_hw15 : k0_chk15 i v412), ∀ (k0_h1 : k0_cond1 i = 1#1), ∀ a, (k0_off31 v412) a + S1x1x512.size a ≤ S8x1024x512.size a := fun i v412 k0_hw15 k0_h1 => k0_hw15 k0_h1

def k0_off32 (v414 : BitVec 32) : Fin 3 → Nat :=
  let c7_251 : Index := 7#32
  let v421 : Index := Scalar.indexCast v414
  let c0_252 : Index := 0#32
  ![7, v421.toNat, 0]

def k0_chk16 (i : grid0.Coords) (v414 : BitVec 32) : Prop :=
  (∀ (k0_h1 : k0_cond1 i = 1#1), ∀ a, (k0_off32 v414) a + S1x1x512.size a ≤ S8x1024x512.size a)
theorem k0_off32_inb : ∀ (i : grid0.Coords) (v414 : BitVec 32) (k0_hw16 : k0_chk16 i v414), ∀ (k0_h1 : k0_cond1 i = 1#1), ∀ a, (k0_off32 v414) a + S1x1x512.size a ≤ S8x1024x512.size a := fun i v414 k0_hw16 k0_h1 => k0_hw16 k0_h1

def k0_off33 (k0_t1 : Fin k0_t1_loop.trips) : Fin 3 → Nat :=
  let c0_271 : Index := 0#32
  let c0_i32_164 : BitVec 32 := 0#32
  let c1_i32 : BitVec 32 := 1#32
  let arg14 : BitVec 32 := Scf.iv c0_i32_164 c1_i32 k0_t1
  let v490 : Index := Scalar.indexCast arg14
  let c0_272 : Index := 0#32
  ![0, v490.toNat, 0]
def k0_off34 (k0_t1 : Fin k0_t1_loop.trips) : Fin 3 → Nat :=
  let c0_273 : Index := 0#32
  let c0_i32_164 : BitVec 32 := 0#32
  let c1_i32 : BitVec 32 := 1#32
  let arg14 : BitVec 32 := Scf.iv c0_i32_164 c1_i32 k0_t1
  let v492 : Index := Scalar.indexCast arg14
  let c1_274 : Index := 1#32
  ![0, v492.toNat, 1]
def k0_off35 (v493 : BitVec 32) : Fin 3 → Nat :=
  let c0_276 : Index := 0#32
  let v505 : Index := Scalar.indexCast v493
  let c0_277 : Index := 0#32
  ![0, v505.toNat, 0]

def k0_chk17 (i : grid0.Coords) (v493 : BitVec 32) : Prop :=
  (∀ (k0_h1 : k0_cond1 i = 1#1), ∀ a, (k0_off35 v493) a + S1x1x512.size a ≤ S8x1024x512.size a)
theorem k0_off35_inb : ∀ (i : grid0.Coords) (v493 : BitVec 32) (k0_hw17 : k0_chk17 i v493), ∀ (k0_h1 : k0_cond1 i = 1#1), ∀ a, (k0_off35 v493) a + S1x1x512.size a ≤ S8x1024x512.size a := fun i v493 k0_hw17 k0_h1 => k0_hw17 k0_h1

def k0_off36 (k0_t1 : Fin k0_t1_loop.trips) : Fin 3 → Nat :=
  let c1_278 : Index := 1#32
  let c0_i32_164 : BitVec 32 := 0#32
  let c1_i32 : BitVec 32 := 1#32
  let arg14 : BitVec 32 := Scf.iv c0_i32_164 c1_i32 k0_t1
  let v509 : Index := Scalar.indexCast arg14
  let c0_279 : Index := 0#32
  ![1, v509.toNat, 0]
def k0_off37 (k0_t1 : Fin k0_t1_loop.trips) : Fin 3 → Nat :=
  let c1_280 : Index := 1#32
  let c0_i32_164 : BitVec 32 := 0#32
  let c1_i32 : BitVec 32 := 1#32
  let arg14 : BitVec 32 := Scf.iv c0_i32_164 c1_i32 k0_t1
  let v511 : Index := Scalar.indexCast arg14
  let c1_281 : Index := 1#32
  ![1, v511.toNat, 1]
def k0_off38 (v512 : BitVec 32) : Fin 3 → Nat :=
  let c1_284 : Index := 1#32
  let v524 : Index := Scalar.indexCast v512
  let c0_285 : Index := 0#32
  ![1, v524.toNat, 0]

def k0_chk18 (i : grid0.Coords) (v512 : BitVec 32) : Prop :=
  (∀ (k0_h1 : k0_cond1 i = 1#1), ∀ a, (k0_off38 v512) a + S1x1x512.size a ≤ S8x1024x512.size a)
theorem k0_off38_inb : ∀ (i : grid0.Coords) (v512 : BitVec 32) (k0_hw18 : k0_chk18 i v512), ∀ (k0_h1 : k0_cond1 i = 1#1), ∀ a, (k0_off38 v512) a + S1x1x512.size a ≤ S8x1024x512.size a := fun i v512 k0_hw18 k0_h1 => k0_hw18 k0_h1

def k0_off39 (k0_t1 : Fin k0_t1_loop.trips) : Fin 3 → Nat :=
  let c2_286 : Index := 2#32
  let c0_i32_164 : BitVec 32 := 0#32
  let c1_i32 : BitVec 32 := 1#32
  let arg14 : BitVec 32 := Scf.iv c0_i32_164 c1_i32 k0_t1
  let v528 : Index := Scalar.indexCast arg14
  let c0_287 : Index := 0#32
  ![2, v528.toNat, 0]
def k0_off40 (k0_t1 : Fin k0_t1_loop.trips) : Fin 3 → Nat :=
  let c2_288 : Index := 2#32
  let c0_i32_164 : BitVec 32 := 0#32
  let c1_i32 : BitVec 32 := 1#32
  let arg14 : BitVec 32 := Scf.iv c0_i32_164 c1_i32 k0_t1
  let v530 : Index := Scalar.indexCast arg14
  let c1_289 : Index := 1#32
  ![2, v530.toNat, 1]
def k0_off41 (v531 : BitVec 32) : Fin 3 → Nat :=
  let c2_292 : Index := 2#32
  let v543 : Index := Scalar.indexCast v531
  let c0_293 : Index := 0#32
  ![2, v543.toNat, 0]

def k0_chk19 (i : grid0.Coords) (v531 : BitVec 32) : Prop :=
  (∀ (k0_h1 : k0_cond1 i = 1#1), ∀ a, (k0_off41 v531) a + S1x1x512.size a ≤ S8x1024x512.size a)
theorem k0_off41_inb : ∀ (i : grid0.Coords) (v531 : BitVec 32) (k0_hw19 : k0_chk19 i v531), ∀ (k0_h1 : k0_cond1 i = 1#1), ∀ a, (k0_off41 v531) a + S1x1x512.size a ≤ S8x1024x512.size a := fun i v531 k0_hw19 k0_h1 => k0_hw19 k0_h1

def k0_off42 (k0_t1 : Fin k0_t1_loop.trips) : Fin 3 → Nat :=
  let c3_294 : Index := 3#32
  let c0_i32_164 : BitVec 32 := 0#32
  let c1_i32 : BitVec 32 := 1#32
  let arg14 : BitVec 32 := Scf.iv c0_i32_164 c1_i32 k0_t1
  let v547 : Index := Scalar.indexCast arg14
  let c0_295 : Index := 0#32
  ![3, v547.toNat, 0]
def k0_off43 (k0_t1 : Fin k0_t1_loop.trips) : Fin 3 → Nat :=
  let c3_296 : Index := 3#32
  let c0_i32_164 : BitVec 32 := 0#32
  let c1_i32 : BitVec 32 := 1#32
  let arg14 : BitVec 32 := Scf.iv c0_i32_164 c1_i32 k0_t1
  let v549 : Index := Scalar.indexCast arg14
  let c1_297 : Index := 1#32
  ![3, v549.toNat, 1]
def k0_off44 (v550 : BitVec 32) : Fin 3 → Nat :=
  let c3_300 : Index := 3#32
  let v562 : Index := Scalar.indexCast v550
  let c0_301 : Index := 0#32
  ![3, v562.toNat, 0]

def k0_chk20 (i : grid0.Coords) (v550 : BitVec 32) : Prop :=
  (∀ (k0_h1 : k0_cond1 i = 1#1), ∀ a, (k0_off44 v550) a + S1x1x512.size a ≤ S8x1024x512.size a)
theorem k0_off44_inb : ∀ (i : grid0.Coords) (v550 : BitVec 32) (k0_hw20 : k0_chk20 i v550), ∀ (k0_h1 : k0_cond1 i = 1#1), ∀ a, (k0_off44 v550) a + S1x1x512.size a ≤ S8x1024x512.size a := fun i v550 k0_hw20 k0_h1 => k0_hw20 k0_h1

def k0_off45 (k0_t1 : Fin k0_t1_loop.trips) : Fin 3 → Nat :=
  let c4_302 : Index := 4#32
  let c0_i32_164 : BitVec 32 := 0#32
  let c1_i32 : BitVec 32 := 1#32
  let arg14 : BitVec 32 := Scf.iv c0_i32_164 c1_i32 k0_t1
  let v566 : Index := Scalar.indexCast arg14
  let c0_303 : Index := 0#32
  ![4, v566.toNat, 0]
def k0_off46 (k0_t1 : Fin k0_t1_loop.trips) : Fin 3 → Nat :=
  let c4_304 : Index := 4#32
  let c0_i32_164 : BitVec 32 := 0#32
  let c1_i32 : BitVec 32 := 1#32
  let arg14 : BitVec 32 := Scf.iv c0_i32_164 c1_i32 k0_t1
  let v568 : Index := Scalar.indexCast arg14
  let c1_305 : Index := 1#32
  ![4, v568.toNat, 1]
def k0_off47 (v569 : BitVec 32) : Fin 3 → Nat :=
  let c4_308 : Index := 4#32
  let v581 : Index := Scalar.indexCast v569
  let c0_309 : Index := 0#32
  ![4, v581.toNat, 0]

def k0_chk21 (i : grid0.Coords) (v569 : BitVec 32) : Prop :=
  (∀ (k0_h1 : k0_cond1 i = 1#1), ∀ a, (k0_off47 v569) a + S1x1x512.size a ≤ S8x1024x512.size a)
theorem k0_off47_inb : ∀ (i : grid0.Coords) (v569 : BitVec 32) (k0_hw21 : k0_chk21 i v569), ∀ (k0_h1 : k0_cond1 i = 1#1), ∀ a, (k0_off47 v569) a + S1x1x512.size a ≤ S8x1024x512.size a := fun i v569 k0_hw21 k0_h1 => k0_hw21 k0_h1

def k0_off48 (k0_t1 : Fin k0_t1_loop.trips) : Fin 3 → Nat :=
  let c5_310 : Index := 5#32
  let c0_i32_164 : BitVec 32 := 0#32
  let c1_i32 : BitVec 32 := 1#32
  let arg14 : BitVec 32 := Scf.iv c0_i32_164 c1_i32 k0_t1
  let v585 : Index := Scalar.indexCast arg14
  let c0_311 : Index := 0#32
  ![5, v585.toNat, 0]
def k0_off49 (k0_t1 : Fin k0_t1_loop.trips) : Fin 3 → Nat :=
  let c5_312 : Index := 5#32
  let c0_i32_164 : BitVec 32 := 0#32
  let c1_i32 : BitVec 32 := 1#32
  let arg14 : BitVec 32 := Scf.iv c0_i32_164 c1_i32 k0_t1
  let v587 : Index := Scalar.indexCast arg14
  let c1_313 : Index := 1#32
  ![5, v587.toNat, 1]
def k0_off50 (v588 : BitVec 32) : Fin 3 → Nat :=
  let c5_316 : Index := 5#32
  let v600 : Index := Scalar.indexCast v588
  let c0_317 : Index := 0#32
  ![5, v600.toNat, 0]

def k0_chk22 (i : grid0.Coords) (v588 : BitVec 32) : Prop :=
  (∀ (k0_h1 : k0_cond1 i = 1#1), ∀ a, (k0_off50 v588) a + S1x1x512.size a ≤ S8x1024x512.size a)
theorem k0_off50_inb : ∀ (i : grid0.Coords) (v588 : BitVec 32) (k0_hw22 : k0_chk22 i v588), ∀ (k0_h1 : k0_cond1 i = 1#1), ∀ a, (k0_off50 v588) a + S1x1x512.size a ≤ S8x1024x512.size a := fun i v588 k0_hw22 k0_h1 => k0_hw22 k0_h1

def k0_off51 (k0_t1 : Fin k0_t1_loop.trips) : Fin 3 → Nat :=
  let c6_318 : Index := 6#32
  let c0_i32_164 : BitVec 32 := 0#32
  let c1_i32 : BitVec 32 := 1#32
  let arg14 : BitVec 32 := Scf.iv c0_i32_164 c1_i32 k0_t1
  let v604 : Index := Scalar.indexCast arg14
  let c0_319 : Index := 0#32
  ![6, v604.toNat, 0]
def k0_off52 (k0_t1 : Fin k0_t1_loop.trips) : Fin 3 → Nat :=
  let c6_320 : Index := 6#32
  let c0_i32_164 : BitVec 32 := 0#32
  let c1_i32 : BitVec 32 := 1#32
  let arg14 : BitVec 32 := Scf.iv c0_i32_164 c1_i32 k0_t1
  let v606 : Index := Scalar.indexCast arg14
  let c1_321 : Index := 1#32
  ![6, v606.toNat, 1]
def k0_off53 (v607 : BitVec 32) : Fin 3 → Nat :=
  let c6_324 : Index := 6#32
  let v619 : Index := Scalar.indexCast v607
  let c0_325 : Index := 0#32
  ![6, v619.toNat, 0]

def k0_chk23 (i : grid0.Coords) (v607 : BitVec 32) : Prop :=
  (∀ (k0_h1 : k0_cond1 i = 1#1), ∀ a, (k0_off53 v607) a + S1x1x512.size a ≤ S8x1024x512.size a)
theorem k0_off53_inb : ∀ (i : grid0.Coords) (v607 : BitVec 32) (k0_hw23 : k0_chk23 i v607), ∀ (k0_h1 : k0_cond1 i = 1#1), ∀ a, (k0_off53 v607) a + S1x1x512.size a ≤ S8x1024x512.size a := fun i v607 k0_hw23 k0_h1 => k0_hw23 k0_h1

def k0_off54 (k0_t1 : Fin k0_t1_loop.trips) : Fin 3 → Nat :=
  let c7_326 : Index := 7#32
  let c0_i32_164 : BitVec 32 := 0#32
  let c1_i32 : BitVec 32 := 1#32
  let arg14 : BitVec 32 := Scf.iv c0_i32_164 c1_i32 k0_t1
  let v623 : Index := Scalar.indexCast arg14
  let c0_327 : Index := 0#32
  ![7, v623.toNat, 0]
def k0_off55 (k0_t1 : Fin k0_t1_loop.trips) : Fin 3 → Nat :=
  let c7_328 : Index := 7#32
  let c0_i32_164 : BitVec 32 := 0#32
  let c1_i32 : BitVec 32 := 1#32
  let arg14 : BitVec 32 := Scf.iv c0_i32_164 c1_i32 k0_t1
  let v625 : Index := Scalar.indexCast arg14
  let c1_329 : Index := 1#32
  ![7, v625.toNat, 1]
def k0_off56 (v626 : BitVec 32) : Fin 3 → Nat :=
  let c7_332 : Index := 7#32
  let v638 : Index := Scalar.indexCast v626
  let c0_333 : Index := 0#32
  ![7, v638.toNat, 0]

def k0_chk24 (i : grid0.Coords) (v626 : BitVec 32) : Prop :=
  (∀ (k0_h1 : k0_cond1 i = 1#1), ∀ a, (k0_off56 v626) a + S1x1x512.size a ≤ S8x1024x512.size a)
theorem k0_off56_inb : ∀ (i : grid0.Coords) (v626 : BitVec 32) (k0_hw24 : k0_chk24 i v626), ∀ (k0_h1 : k0_cond1 i = 1#1), ∀ a, (k0_off56 v626) a + S1x1x512.size a ≤ S8x1024x512.size a := fun i v626 k0_hw24 k0_h1 => k0_hw24 k0_h1

def k0_cond2 (i : grid0.Coords) : BitVec 1 :=
  let arg0 : BitVec 32 := BitVec.ofNat 32 (i 0).val
  let c6_i32_0 : BitVec 32 := 6#32
  let v3 : BitVec 1 := Scalar.cmpi .sge arg0 c6_i32_0
  let v4 : BitVec 32 := Scalar.extui v3
  let c0_i32_1 : BitVec 32 := 0#32
  let v5 : BitVec 1 := Scalar.cmpi .ne v4 c0_i32_1
  v5

def k0_off57 (i : grid0.Coords) : Fin 3 → Nat :=
  let c0 : Index := 0#32
  let arg0 : BitVec 32 := BitVec.ofNat 32 (i 0).val
  let c8_i32 : BitVec 32 := 8#32
  let v9 : BitVec 1 := Scalar.cmpi .slt arg0 c8_i32
  let c0_i32_4 : BitVec 32 := 0#32
  let c512_i32 : BitVec 32 := 512#32
  let v10 : BitVec 32 := Scalar.select v9 c0_i32_4 c512_i32
  let v11 : Index := Scalar.indexCast v10
  let c0_5 : Index := 0#32
  ![0, v11.toNat, 0]
def k0_cond3 (i : grid0.Coords) : BitVec 1 :=
  let arg0 : BitVec 32 := BitVec.ofNat 32 (i 0).val
  let c6_i32_2 : BitVec 32 := 6#32
  let v6 : BitVec 1 := Scalar.cmpi .slt arg0 c6_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let v0 : BitVec 1 := Scalar.cmpi .slt arg0 c4_i32
  let c6_i32 : BitVec 32 := 6#32
  let v1 : BitVec 1 := Scalar.cmpi .slt arg0 c6_i32
  let c8_i32 : BitVec 32 := 8#32
  let v2 : BitVec 1 := Scalar.cmpi .slt arg0 c8_i32
  let c0_i32 : BitVec 32 := 0#32
  let c1_i32 : BitVec 32 := 1#32
  let v3 : BitVec 32 := Scalar.select v2 c0_i32 c1_i32
  let c1_i32_0 : BitVec 32 := 1#32
  let v4 : BitVec 32 := Scalar.select v1 c1_i32_0 v3
  let c0_i32_1 : BitVec 32 := 0#32
  let v5 : BitVec 32 := Scalar.select v0 c0_i32_1 v4
  let c4_i32_2 : BitVec 32 := 4#32
  let v6 : BitVec 1 := Scalar.cmpi .slt arg0 c4_i32_2
  let c2_i32 : BitVec 32 := 2#32
  let v7 : BitVec 32 := Scalar.addi arg0 c2_i32
  let c6_i32_3 : BitVec 32 := 6#32
  let v8 : BitVec 1 := Scalar.cmpi .slt arg0 c6_i32_3
  let c4_i32_4 : BitVec 32 := 4#32
  let v9 : BitVec 32 := Scalar.subi arg0 c4_i32_4
  let c6_i32_5 : BitVec 32 := 6#32
  let v10 : BitVec 32 := Scalar.subi arg0 c6_i32_5
  let v11 : BitVec 32 := Scalar.select v8 v9 v10
  let v12 : BitVec 32 := Scalar.select v6 v7 v11
  let c0_i32_6 : BitVec 32 := 0#32
  let c0_i32_7 : BitVec 32 := 0#32
  ![c0_i32_6.toNat, v12.toNat]

def cc0_transform_8 (i : grid0.Coords) : Fin 2 → Nat :=
  let arg0 : BitVec 32 := BitVec.ofNat 32 (i 0).val
  let c4_i32 : BitVec 32 := 4#32
  let v0 : BitVec 1 := Scalar.cmpi .slt arg0 c4_i32
  let c6_i32 : BitVec 32 := 6#32
  let v1 : BitVec 1 := Scalar.cmpi .slt arg0 c6_i32
  let c8_i32 : BitVec 32 := 8#32
  let v2 : BitVec 1 := Scalar.cmpi .slt arg0 c8_i32
  let c0_i32 : BitVec 32 := 0#32
  let c1_i32 : BitVec 32 := 1#32
  let v3 : BitVec 32 := Scalar.select v2 c0_i32 c1_i32
  let c1_i32_0 : BitVec 32 := 1#32
  let v4 : BitVec 32 := Scalar.select v1 c1_i32_0 v3
  let c0_i32_1 : BitVec 32 := 0#32
  let v5 : BitVec 32 := Scalar.select v0 c0_i32_1 v4
  let c4_i32_2 : BitVec 32 := 4#32
  let v6 : BitVec 1 := Scalar.cmpi .slt arg0 c4_i32_2
  let c2_i32 : BitVec 32 := 2#32
  let v7 : BitVec 32 := Scalar.addi arg0 c2_i32
  let c6_i32_3 : BitVec 32 := 6#32
  let v8 : BitVec 1 := Scalar.cmpi .slt arg0 c6_i32_3
  let c4_i32_4 : BitVec 32 := 4#32
  let v9 : BitVec 32 := Scalar.subi arg0 c4_i32_4
  let c6_i32_5 : BitVec 32 := 6#32
  let v10 : BitVec 32 := Scalar.subi arg0 c6_i32_5
  let v11 : BitVec 32 := Scalar.select v8 v9 v10
  let v12 : BitVec 32 := Scalar.select v6 v7 v11
  let c0_i32_6 : BitVec 32 := 0#32
  let c0_i32_7 : BitVec 32 := 0#32
  ![c0_i32_6.toNat, v12.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c4_i32 : BitVec 32 := 4#32
  let v0 : BitVec 1 := Scalar.cmpi .slt arg0 c4_i32
  let c6_i32 : BitVec 32 := 6#32
  let v1 : BitVec 1 := Scalar.cmpi .slt arg0 c6_i32
  let c8_i32 : BitVec 32 := 8#32
  let v2 : BitVec 1 := Scalar.cmpi .slt arg0 c8_i32
  let c0_i32 : BitVec 32 := 0#32
  let c1_i32 : BitVec 32 := 1#32
  let v3 : BitVec 32 := Scalar.select v2 c0_i32 c1_i32
  let c1_i32_0 : BitVec 32 := 1#32
  let v4 : BitVec 32 := Scalar.select v1 c1_i32_0 v3
  let c0_i32_1 : BitVec 32 := 0#32
  let v5 : BitVec 32 := Scalar.select v0 c0_i32_1 v4
  let c4_i32_2 : BitVec 32 := 4#32
  let v6 : BitVec 1 := Scalar.cmpi .slt arg0 c4_i32_2
  let c2_i32 : BitVec 32 := 2#32
  let v7 : BitVec 32 := Scalar.addi arg0 c2_i32
  let c6_i32_3 : BitVec 32 := 6#32
  let v8 : BitVec 1 := Scalar.cmpi .slt arg0 c6_i32_3
  let c4_i32_4 : BitVec 32 := 4#32
  let v9 : BitVec 32 := Scalar.subi arg0 c4_i32_4
  let c6_i32_5 : BitVec 32 := 6#32
  let v10 : BitVec 32 := Scalar.subi arg0 c6_i32_5
  let v11 : BitVec 32 := Scalar.select v8 v9 v10
  let v12 : BitVec 32 := Scalar.select v6 v7 v11
  let c4_i32_6 : BitVec 32 := 4#32
  let v13 : BitVec 1 := Scalar.cmpi .slt arg0 c4_i32_6
  let c6_i32_7 : BitVec 32 := 6#32
  let v14 : BitVec 1 := Scalar.cmpi .slt arg0 c6_i32_7
  let c8_i32_8 : BitVec 32 := 8#32
  let v15 : BitVec 1 := Scalar.cmpi .slt arg0 c8_i32_8
  let c0_i32_9 : BitVec 32 := 0#32
  let c1_i32_10 : BitVec 32 := 1#32
  let v16 : BitVec 32 := Scalar.select v15 c0_i32_9 c1_i32_10
  let c1_i32_11 : BitVec 32 := 1#32
  let v17 : BitVec 32 := Scalar.select v14 c1_i32_11 v16
  let c0_i32_12 : BitVec 32 := 0#32
  let v18 : BitVec 32 := Scalar.select v13 c0_i32_12 v17
  let c4_i32_13 : BitVec 32 := 4#32
  let v19 : BitVec 1 := Scalar.cmpi .slt arg0 c4_i32_13
  let c2_i32_14 : BitVec 32 := 2#32
  let v20 : BitVec 32 := Scalar.addi arg0 c2_i32_14
  let c6_i32_15 : BitVec 32 := 6#32
  let v21 : BitVec 1 := Scalar.cmpi .slt arg0 c6_i32_15
  let c4_i32_16 : BitVec 32 := 4#32
  let v22 : BitVec 32 := Scalar.subi arg0 c4_i32_16
  let c6_i32_17 : BitVec 32 := 6#32
  let v23 : BitVec 32 := Scalar.subi arg0 c6_i32_17
  let v24 : BitVec 32 := Scalar.select v21 v22 v23
  let v25 : BitVec 32 := Scalar.select v19 v20 v24
  let c0_i32_18 : BitVec 32 := 0#32
  let c0_i32_19 : BitVec 32 := 0#32
  ![c0_i32_18.toNat, v5.toNat, v25.toNat]

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S8x64x4 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x512x1024 : Shape := ⟨3, ![8, 512, 1024]⟩
abbrev S8x512x2 : Shape := ⟨3, ![8, 512, 2]⟩
abbrev S8x64x4 : Shape := ⟨3, ![8, 64, 4]⟩
abbrev S8x1024 : Shape := ⟨2, ![8, 1024]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S8x512x512 : Shape := ⟨3, ![8, 512, 512]⟩
abbrev S_ : Shape := ⟨0, ![]⟩
abbrev S8 : Shape := ⟨1, ![8]⟩
abbrev S8x1 : Shape := ⟨2, ![8, 1]⟩
abbrev S8x512x1 : Shape := ⟨3, ![8, 512, 1]⟩
abbrev S8x512 : Shape := ⟨2, ![8, 512]⟩
abbrev S8x1024x512 : Shape := ⟨3, ![8, 1024, 512]⟩
abbrev S8x1x4 : Shape := ⟨3, ![8, 1, 4]⟩
abbrev S8x4 : Shape := ⟨2, ![8, 4]⟩
abbrev S8x2 : Shape := ⟨2, ![8, 2]⟩
abbrev S512x1 : Shape := ⟨2, ![512, 1]⟩
abbrev S1x512 : Shape := ⟨2, ![1, 512]⟩
abbrev S512x512x1 : Shape := ⟨3, ![512, 512, 1]⟩
abbrev S1x1x512 : Shape := ⟨3, ![1, 1, 512]⟩
abbrev S8x1024x1 : Shape := ⟨3, ![8, 1024, 1]⟩
abbrev S512x1024 : Shape := ⟨2, ![512, 1024]⟩
abbrev S8x1024x1024 : Shape := ⟨3, ![8, 1024, 1024]⟩
abbrev S1x1x1024 : Shape := ⟨3, ![1, 1, 1024]⟩
abbrev S8x1024x1536 : Shape := ⟨3, ![8, 1024, 1536]⟩

abbrev nBuf : Space → Nat
  | .hbm => 291
  | .vmem => 0
  | .smem => 0
  | _ => 0

abbrev hbmTy0_0 (i : Nat) : BufTy := match i % 128 with
  | 0 => ⟨S8x512x1024, .f32⟩
  | 1 => ⟨S8x512x2, .i32⟩
  | 2 => ⟨S8x64x4, .i32⟩
  | 3 => ⟨S8x1024, .i32⟩
  | 4 => ⟨S512x512, .f32⟩
  | 5 => ⟨S512x512, .f32⟩
  | 6 => ⟨S512x512, .f32⟩
  | 7 => ⟨S512, .f32⟩
  | 8 => ⟨S1024x512, .f32⟩
  | 9 => ⟨S1024, .f32⟩
  | 10 => ⟨S8x512x512, .f32⟩
  | 11 => ⟨S8x512x512, .f32⟩
  | 12 => ⟨S512x512, .f32⟩
  | 13 => ⟨S8x512x512, .f32⟩
  | 14 => ⟨S512x512, .f32⟩
  | 15 => ⟨S8x512x512, .f32⟩
  | 16 => ⟨S8x512x512, .f32⟩
  | 17 => ⟨S_, .f32⟩
  | 18 => ⟨S_, .f32⟩
  | 19 => ⟨S8x512x512, .f32⟩
  | 20 => ⟨S8x512x512, .i1⟩
  | 21 => ⟨S_, .f32⟩
  | 22 => ⟨S8x512x512, .f32⟩
  | 23 => ⟨S8x512x512, .f32⟩
  | 24 => ⟨S8x512x512, .f32⟩
  | 25 => ⟨S8, .i32⟩
  | 26 => ⟨S8x1, .i32⟩
  | 27 => ⟨S8x512x1, .i32⟩
  | 28 => ⟨S8x512, .i32⟩
  | 29 => ⟨S8x512x1, .i32⟩
  | 30 => ⟨S8x512, .i32⟩
  | 31 => ⟨S_, .f32⟩
  | 32 => ⟨S8x1024x512, .f32⟩
  | 33 => ⟨S_, .i32⟩
  | 34 => ⟨S8x1, .i32⟩
  | 35 => ⟨S8x1, .i1⟩
  | 36 => ⟨S_, .i32⟩
  | 37 => ⟨S8x1, .i32⟩
  | 38 => ⟨S8x1, .i32⟩
  | 39 => ⟨S8x1, .i32⟩
  | 40 => ⟨S_, .i32⟩
  | 41 => ⟨S8x512, .i32⟩
  | 42 => ⟨S8x512, .i1⟩
  | 43 => ⟨S_, .i32⟩
  | 44 => ⟨S8x512, .i32⟩
  | 45 => ⟨S8x512, .i32⟩
  | 46 => ⟨S8x512, .i32⟩
  | 47 => ⟨S8x512, .i32⟩
  | 48 => ⟨S8x512x1, .i32⟩
  | 49 => ⟨S8x512x1, .i32⟩
  | 50 => ⟨S8x512x2, .i32⟩
  | 51 => ⟨S8x512x512, .f32⟩
  | 52 => ⟨S_, .i32⟩
  | 53 => ⟨S8x1, .i32⟩
  | 54 => ⟨S8x1, .i1⟩
  | 55 => ⟨S_, .i32⟩
  | 56 => ⟨S8x1, .i32⟩
  | 57 => ⟨S8x1, .i32⟩
  | 58 => ⟨S8x1, .i32⟩
  | 59 => ⟨S_, .i32⟩
  | 60 => ⟨S8x512, .i32⟩
  | 61 => ⟨S8x512, .i1⟩
  | 62 => ⟨S_, .i32⟩
  | 63 => ⟨S8x512, .i32⟩
  | 64 => ⟨S8x512, .i32⟩
  | 65 => ⟨S8x512, .i32⟩
  | 66 => ⟨S8x512, .i32⟩
  | 67 => ⟨S8x512x1, .i32⟩
  | 68 => ⟨S8x512x1, .i32⟩
  | 69 => ⟨S8x512x2, .i32⟩
  | 70 => ⟨S8x1024x512, .f32⟩
  | 71 => ⟨S_, .i1⟩
  | 72 => ⟨S8x1024, .i1⟩
  | 73 => ⟨S_, .i32⟩
  | 74 => ⟨S8x1, .i32⟩
  | 75 => ⟨S8x1, .i1⟩
  | 76 => ⟨S_, .i32⟩
  | 77 => ⟨S8x1, .i32⟩
  | 78 => ⟨S8x1, .i32⟩
  | 79 => ⟨S8x1, .i32⟩
  | 80 => ⟨S_, .i32⟩
  | 81 => ⟨S8x512, .i32⟩
  | 82 => ⟨S8x512, .i1⟩
  | 83 => ⟨S_, .i32⟩
  | 84 => ⟨S8x512, .i32⟩
  | 85 => ⟨S8x512, .i32⟩
  | 86 => ⟨S8x512, .i32⟩
  | 87 => ⟨S8x512, .i32⟩
  | 88 => ⟨S8x512x1, .i32⟩
  | 89 => ⟨S8x512x1, .i32⟩
  | 90 => ⟨S8x512x2, .i32⟩
  | 91 => ⟨S_, .i1⟩
  | 92 => ⟨S8x512, .i1⟩
  | 93 => ⟨S8x1024, .i1⟩
  | 94 => ⟨S8, .i32⟩
  | 95 => ⟨S_, .i32⟩
  | 96 => ⟨S_, .i32⟩
  | 97 => ⟨S8x64x4, .i32⟩
  | 98 => ⟨S8, .i32⟩
  | 99 => ⟨S_, .i32⟩
  | 100 => ⟨S_, .i32⟩
  | 101 => ⟨S8x1024x512, .f32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S_, .i32⟩
  | _ => ⟨S8x512x1024, .f32⟩

abbrev hbmTy0_1 (i : Nat) : BufTy := match i % 128 with
  | 0 => ⟨S8x1x4, .i32⟩
  | 1 => ⟨S8x4, .i32⟩
  | 2 => ⟨S8x1, .i32⟩
  | 3 => ⟨S8, .i32⟩
  | 4 => ⟨S8x1, .i32⟩
  | 5 => ⟨S8, .i32⟩
  | 6 => ⟨S8x1, .i32⟩
  | 7 => ⟨S8, .i32⟩
  | 8 => ⟨S8x1, .i32⟩
  | 9 => ⟨S8, .i32⟩
  | 10 => ⟨S_, .i32⟩
  | 11 => ⟨S8, .i32⟩
  | 12 => ⟨S8, .i1⟩
  | 13 => ⟨S_, .i32⟩
  | 14 => ⟨S8, .i32⟩
  | 15 => ⟨S8, .i32⟩
  | 16 => ⟨S8, .i32⟩
  | 17 => ⟨S_, .i32⟩
  | 18 => ⟨S8, .i32⟩
  | 19 => ⟨S8, .i1⟩
  | 20 => ⟨S_, .i32⟩
  | 21 => ⟨S8, .i32⟩
  | 22 => ⟨S8, .i32⟩
  | 23 => ⟨S8, .i32⟩
  | 24 => ⟨S8x1, .i32⟩
  | 25 => ⟨S8x1, .i32⟩
  | 26 => ⟨S8x2, .i32⟩
  | 27 => ⟨S8x512, .f32⟩
  | 28 => ⟨S_, .i32⟩
  | 29 => ⟨S8, .i32⟩
  | 30 => ⟨S8, .i1⟩
  | 31 => ⟨S_, .i32⟩
  | 32 => ⟨S8, .i32⟩
  | 33 => ⟨S8, .i32⟩
  | 34 => ⟨S8, .i32⟩
  | 35 => ⟨S_, .i32⟩
  | 36 => ⟨S8, .i32⟩
  | 37 => ⟨S8, .i1⟩
  | 38 => ⟨S_, .i32⟩
  | 39 => ⟨S8, .i32⟩
  | 40 => ⟨S8, .i32⟩
  | 41 => ⟨S8, .i32⟩
  | 42 => ⟨S8x1, .i32⟩
  | 43 => ⟨S8x1, .i32⟩
  | 44 => ⟨S8x2, .i32⟩
  | 45 => ⟨S8x512, .f32⟩
  | 46 => ⟨S8x512, .f32⟩
  | 47 => ⟨S_, .f32⟩
  | 48 => ⟨S8, .f32⟩
  | 49 => ⟨S8x1, .f32⟩
  | 50 => ⟨S8x1, .f32⟩
  | 51 => ⟨S_, .f32⟩
  | 52 => ⟨S8x1, .f32⟩
  | 53 => ⟨S8x1, .f32⟩
  | 54 => ⟨S8x512, .f32⟩
  | 55 => ⟨S8x512, .f32⟩
  | 56 => ⟨S8x512, .f32⟩
  | 57 => ⟨S_, .f32⟩
  | 58 => ⟨S8, .f32⟩
  | 59 => ⟨S8x1, .f32⟩
  | 60 => ⟨S8x1, .f32⟩
  | 61 => ⟨S_, .f32⟩
  | 62 => ⟨S8x1, .f32⟩
  | 63 => ⟨S8x1, .f32⟩
  | 64 => ⟨S8x512, .f32⟩
  | 65 => ⟨S8x512, .f32⟩
  | 66 => ⟨S512, .i32⟩
  | 67 => ⟨S512x1, .i32⟩
  | 68 => ⟨S1x512, .i32⟩
  | 69 => ⟨S512x512, .i32⟩
  | 70 => ⟨S512x512, .i32⟩
  | 71 => ⟨S512x512, .i32⟩
  | 72 => ⟨S_, .i32⟩
  | 73 => ⟨S512x512, .i32⟩
  | 74 => ⟨S512x512, .i32⟩
  | 75 => ⟨S_, .i32⟩
  | 76 => ⟨S512x512, .i32⟩
  | 77 => ⟨S512x512, .i1⟩
  | 78 => ⟨S_, .i32⟩
  | 79 => ⟨S512x512, .i32⟩
  | 80 => ⟨S512x512, .i32⟩
  | 81 => ⟨S512x512, .i32⟩
  | 82 => ⟨S512x512x1, .i32⟩
  | 83 => ⟨S8x512x512, .f32⟩
  | 84 => ⟨S8x512x1, .f32⟩
  | 85 => ⟨S8x512x512, .f32⟩
  | 86 => ⟨S8x512x512, .f32⟩
  | 87 => ⟨S_, .f32⟩
  | 88 => ⟨S8x512, .f32⟩
  | 89 => ⟨S_, .i32⟩
  | 90 => ⟨S8, .i32⟩
  | 91 => ⟨S8, .i1⟩
  | 92 => ⟨S8x1, .i1⟩
  | 93 => ⟨S8x512, .i1⟩
  | 94 => ⟨S8x512, .f32⟩
  | 95 => ⟨S_, .i32⟩
  | 96 => ⟨S8, .i32⟩
  | 97 => ⟨S8, .i1⟩
  | 98 => ⟨S_, .i32⟩
  | 99 => ⟨S8, .i32⟩
  | 100 => ⟨S8, .i1⟩
  | 101 => ⟨S8, .i1⟩
  | 102 => ⟨S8x1, .i1⟩
  | 103 => ⟨S_, .i32⟩
  | 104 => ⟨S8, .i32⟩
  | 105 => ⟨S8, .i1⟩
  | 106 => ⟨S_, .i32⟩
  | 107 => ⟨S8, .i32⟩
  | 108 => ⟨S8, .i32⟩
  | 109 => ⟨S8, .i32⟩
  | 110 => ⟨S_, .i32⟩
  | 111 => ⟨S8, .i32⟩
  | 112 => ⟨S8, .i1⟩
  | 113 => ⟨S_, .i32⟩
  | 114 => ⟨S8, .i32⟩
  | 115 => ⟨S8, .i32⟩
  | 116 => ⟨S8, .i32⟩
  | 117 => ⟨S8x1, .i32⟩
  | 118 => ⟨S8x1, .i32⟩
  | 119 => ⟨S8x2, .i32⟩
  | 120 => ⟨S8x512, .f32⟩
  | 121 => ⟨S8x512, .i1⟩
  | 122 => ⟨S8x512, .f32⟩
  | 123 => ⟨S_, .i32⟩
  | 124 => ⟨S8, .i32⟩
  | 125 => ⟨S8, .i1⟩
  | 126 => ⟨S_, .i32⟩
  | 127 => ⟨S8, .i32⟩
  | _ => ⟨S8x512x1024, .f32⟩

abbrev hbmTy0_2 (i : Nat) : BufTy := match i % 128 with
  | 0 => ⟨S8, .i32⟩
  | 1 => ⟨S8, .i32⟩
  | 2 => ⟨S_, .i32⟩
  | 3 => ⟨S8, .i32⟩
  | 4 => ⟨S8, .i1⟩
  | 5 => ⟨S_, .i32⟩
  | 6 => ⟨S8, .i32⟩
  | 7 => ⟨S8, .i32⟩
  | 8 => ⟨S8, .i32⟩
  | 9 => ⟨S8x1, .i32⟩
  | 10 => ⟨S8x1, .i32⟩
  | 11 => ⟨S8x2, .i32⟩
  | 12 => ⟨S8x1024x512, .f32⟩
  | 13 => ⟨S_, .i32⟩
  | 14 => ⟨S_, .i32⟩
  | 15 => ⟨S512x512, .f32⟩
  | 16 => ⟨S8x1024x512, .f32⟩
  | 17 => ⟨S1x1x512, .f32⟩
  | 18 => ⟨S8x1024x512, .f32⟩
  | 19 => ⟨S8x1024x512, .f32⟩
  | 20 => ⟨S8x1024x1, .i1⟩
  | 21 => ⟨S8x1024x1, .f32⟩
  | 22 => ⟨S8x1024x512, .f32⟩
  | 23 => ⟨S8x1024x512, .f32⟩
  | 24 => ⟨S512x1024, .f32⟩
  | 25 => ⟨S8x1024x1024, .f32⟩
  | 26 => ⟨S1x1x1024, .f32⟩
  | 27 => ⟨S8x1024x1024, .f32⟩
  | 28 => ⟨S8x1024x1024, .f32⟩
  | 29 => ⟨S8x1024, .i1⟩
  | 30 => ⟨S8x1024x1, .i1⟩
  | 31 => ⟨S8x1024x1, .f32⟩
  | 32 => ⟨S8x1024x1024, .f32⟩
  | 33 => ⟨S8x1024x1024, .f32⟩
  | 34 => ⟨S8x1024x1536, .f32⟩
  | _ => ⟨S8x512x1024, .f32⟩

abbrev hbmTy (i : Nat) : BufTy := match i / 128 with
  | 0 => hbmTy0_0 i
  | 1 => hbmTy0_1 i
  | 2 => hbmTy0_2 i
  | _ => ⟨S8x512x1024, .f32⟩

abbrev bufTy : (tb : Table) → Fin (tcTables nBuf tb) → BufTy
  | .hbm, ⟨i, _⟩ => hbmTy i
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_c_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_8 : Ref sig .tc := ⟨.hbm, 71, rfl⟩
abbrev main_v45 : Ref sig .tc := ⟨.hbm, 72, rfl⟩
abbrev main_c_9 : Ref sig .tc := ⟨.hbm, 73, rfl⟩
abbrev main_v46 : Ref sig .tc := ⟨.hbm, 74, rfl⟩
abbrev main_v47 : Ref sig .tc := ⟨.hbm, 75, rfl⟩
abbrev main_c_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_11 : Ref sig .tc := ⟨.hbm, 80, rfl⟩
abbrev main_v51 : Ref sig .tc := ⟨.hbm, 81, rfl⟩
abbrev main_v52 : Ref sig .tc := ⟨.hbm, 82, rfl⟩
abbrev main_c_12 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_14 : Ref sig .tc := ⟨.hbm, 95, rfl⟩
abbrev main_c_15 : Ref sig .tc := ⟨.hbm, 96, rfl⟩
abbrev main_v63_0 : Ref sig .tc := ⟨.hbm, 97, rfl⟩
abbrev main_v63_1 : Ref sig .tc := ⟨.hbm, 98, rfl⟩
abbrev main_v63_2 : Ref sig .tc := ⟨.hbm, 99, rfl⟩
abbrev main_v63_3 : Ref sig .tc := ⟨.hbm, 100, rfl⟩
abbrev main_v63_4 : Ref sig .tc := ⟨.hbm, 101, rfl⟩
abbrev main_while0c_c_20 : Ref sig .tc := ⟨.hbm, 102, rfl⟩
abbrev main_while0c_v84 : Ref sig .tc := ⟨.hbm, 103, rfl⟩
abbrev main_while0b_c_20 : Ref sig .tc := ⟨.hbm, 104, rfl⟩
abbrev main_while0b_v84 : Ref sig .tc := ⟨.hbm, 105, rfl⟩
abbrev main_while0b_v85 : Ref sig .tc := ⟨.hbm, 106, rfl⟩
abbrev main_while0b_c_21 : Ref sig .tc := ⟨.hbm, 107, rfl⟩
abbrev main_while0b_c_22 : Ref sig .tc := ⟨.hbm, 108, rfl⟩
abbrev main_while0b_v86 : Ref sig .tc := ⟨.hbm, 109, rfl⟩
abbrev main_while0b_c_23 : Ref sig .tc := ⟨.hbm, 110, rfl⟩
abbrev main_while0b_c_24 : Ref sig .tc := ⟨.hbm, 111, rfl⟩
abbrev main_while0b_v87 : Ref sig .tc := ⟨.hbm, 112, rfl⟩
abbrev main_while0b_c_25 : Ref sig .tc := ⟨.hbm, 113, rfl⟩
abbrev main_while0b_v88 : Ref sig .tc := ⟨.hbm, 114, rfl⟩
abbrev main_while0b_c_26 : Ref sig .tc := ⟨.hbm, 115, rfl⟩
abbrev main_while0b_v89 : Ref sig .tc := ⟨.hbm, 116, rfl⟩
abbrev main_while0b_c_27 : Ref sig .tc := ⟨.hbm, 117, rfl⟩
abbrev main_while0b_v90 : Ref sig .tc := ⟨.hbm, 118, rfl⟩
abbrev main_while0b_v91 : Ref sig .tc := ⟨.hbm, 119, rfl⟩
abbrev main_while0b_c_28 : Ref sig .tc := ⟨.hbm, 120, rfl⟩
abbrev main_while0b_c_29 : Ref sig .tc := ⟨.hbm, 121, rfl⟩
abbrev main_while0b_v92 : Ref sig .tc := ⟨.hbm, 122, rfl⟩
abbrev main_while0b_c_30 : Ref sig .tc := ⟨.hbm, 123, rfl⟩
abbrev main_while0b_c_31 : Ref sig .tc := ⟨.hbm, 124, rfl⟩
abbrev main_while0b_v93 : Ref sig .tc := ⟨.hbm, 125, rfl⟩
abbrev main_while0b_c_32 : Ref sig .tc := ⟨.hbm, 126, rfl⟩
abbrev main_while0b_v94 : Ref sig .tc := ⟨.hbm, 127, rfl⟩
abbrev main_while0b_v95 : Ref sig .tc := ⟨.hbm, 128, rfl⟩
abbrev main_while0b_v96 : Ref sig .tc := ⟨.hbm, 129, rfl⟩
abbrev main_while0b_v97 : Ref sig .tc := ⟨.hbm, 130, rfl⟩
abbrev main_while0b_v98 : Ref sig .tc := ⟨.hbm, 131, rfl⟩
abbrev main_while0b_v99 : Ref sig .tc := ⟨.hbm, 132, rfl⟩
abbrev main_while0b_v100 : Ref sig .tc := ⟨.hbm, 133, rfl⟩
abbrev main_while0b_v101 : Ref sig .tc := ⟨.hbm, 134, rfl⟩
abbrev main_while0b_v102 : Ref sig .tc := ⟨.hbm, 135, rfl⟩
abbrev main_while0b_v103 : Ref sig .tc := ⟨.hbm, 136, rfl⟩
abbrev main_while0b_v104 : Ref sig .tc := ⟨.hbm, 137, rfl⟩
abbrev main_while0b_c_33 : Ref sig .tc := ⟨.hbm, 138, rfl⟩
abbrev main_while0b_v105 : Ref sig .tc := ⟨.hbm, 139, rfl⟩
abbrev main_while0b_v106 : Ref sig .tc := ⟨.hbm, 140, rfl⟩
abbrev main_while0b_c_34 : Ref sig .tc := ⟨.hbm, 141, rfl⟩
abbrev main_while0b_v107 : Ref sig .tc := ⟨.hbm, 142, rfl⟩
abbrev main_while0b_v108 : Ref sig .tc := ⟨.hbm, 143, rfl⟩
abbrev main_while0b_v109 : Ref sig .tc := ⟨.hbm, 144, rfl⟩
abbrev main_while0b_c_35 : Ref sig .tc := ⟨.hbm, 145, rfl⟩
abbrev main_while0b_v110 : Ref sig .tc := ⟨.hbm, 146, rfl⟩
abbrev main_while0b_v111 : Ref sig .tc := ⟨.hbm, 147, rfl⟩
abbrev main_while0b_c_36 : Ref sig .tc := ⟨.hbm, 148, rfl⟩
abbrev main_while0b_v112 : Ref sig .tc := ⟨.hbm, 149, rfl⟩
abbrev main_while0b_v113 : Ref sig .tc := ⟨.hbm, 150, rfl⟩
abbrev main_while0b_v114 : Ref sig .tc := ⟨.hbm, 151, rfl⟩
abbrev main_while0b_v115 : Ref sig .tc := ⟨.hbm, 152, rfl⟩
abbrev main_while0b_v116 : Ref sig .tc := ⟨.hbm, 153, rfl⟩
abbrev main_while0b_v117 : Ref sig .tc := ⟨.hbm, 154, rfl⟩
abbrev main_while0b_v118 : Ref sig .tc := ⟨.hbm, 155, rfl⟩
abbrev main_while0b_c_37 : Ref sig .tc := ⟨.hbm, 156, rfl⟩
abbrev main_while0b_v119 : Ref sig .tc := ⟨.hbm, 157, rfl⟩
abbrev main_while0b_v120 : Ref sig .tc := ⟨.hbm, 158, rfl⟩
abbrev main_while0b_c_38 : Ref sig .tc := ⟨.hbm, 159, rfl⟩
abbrev main_while0b_v121 : Ref sig .tc := ⟨.hbm, 160, rfl⟩
abbrev main_while0b_v122 : Ref sig .tc := ⟨.hbm, 161, rfl⟩
abbrev main_while0b_v123 : Ref sig .tc := ⟨.hbm, 162, rfl⟩
abbrev main_while0b_c_39 : Ref sig .tc := ⟨.hbm, 163, rfl⟩
abbrev main_while0b_v124 : Ref sig .tc := ⟨.hbm, 164, rfl⟩
abbrev main_while0b_v125 : Ref sig .tc := ⟨.hbm, 165, rfl⟩
abbrev main_while0b_c_40 : Ref sig .tc := ⟨.hbm, 166, rfl⟩
abbrev main_while0b_v126 : Ref sig .tc := ⟨.hbm, 167, rfl⟩
abbrev main_while0b_v127 : Ref sig .tc := ⟨.hbm, 168, rfl⟩
abbrev main_while0b_v128 : Ref sig .tc := ⟨.hbm, 169, rfl⟩
abbrev main_while0b_v129 : Ref sig .tc := ⟨.hbm, 170, rfl⟩
abbrev main_while0b_v130 : Ref sig .tc := ⟨.hbm, 171, rfl⟩
abbrev main_while0b_v131 : Ref sig .tc := ⟨.hbm, 172, rfl⟩
abbrev main_while0b_v132 : Ref sig .tc := ⟨.hbm, 173, rfl⟩
abbrev main_while0b_call1_v0 : Ref sig .tc := ⟨.hbm, 174, rfl⟩
abbrev main_while0b_call1_cst : Ref sig .tc := ⟨.hbm, 175, rfl⟩
abbrev main_while0b_call1_v1 : Ref sig .tc := ⟨.hbm, 176, rfl⟩
abbrev main_while0b_call1_v2 : Ref sig .tc := ⟨.hbm, 177, rfl⟩
abbrev main_while0b_v133 : Ref sig .tc := ⟨.hbm, 178, rfl⟩
abbrev main_while0b_cst_41 : Ref sig .tc := ⟨.hbm, 179, rfl⟩
abbrev main_while0b_v134 : Ref sig .tc := ⟨.hbm, 180, rfl⟩
abbrev main_while0b_v135 : Ref sig .tc := ⟨.hbm, 181, rfl⟩
abbrev main_while0b_v136 : Ref sig .tc := ⟨.hbm, 182, rfl⟩
abbrev main_while0b_v137 : Ref sig .tc := ⟨.hbm, 183, rfl⟩
abbrev main_while0b_call2_v0 : Ref sig .tc := ⟨.hbm, 184, rfl⟩
abbrev main_while0b_call2_cst : Ref sig .tc := ⟨.hbm, 185, rfl⟩
abbrev main_while0b_call2_v1 : Ref sig .tc := ⟨.hbm, 186, rfl⟩
abbrev main_while0b_call2_v2 : Ref sig .tc := ⟨.hbm, 187, rfl⟩
abbrev main_while0b_v138 : Ref sig .tc := ⟨.hbm, 188, rfl⟩
abbrev main_while0b_cst_42 : Ref sig .tc := ⟨.hbm, 189, rfl⟩
abbrev main_while0b_v139 : Ref sig .tc := ⟨.hbm, 190, rfl⟩
abbrev main_while0b_v140 : Ref sig .tc := ⟨.hbm, 191, rfl⟩
abbrev main_while0b_v141 : Ref sig .tc := ⟨.hbm, 192, rfl⟩
abbrev main_while0b_v142 : Ref sig .tc := ⟨.hbm, 193, rfl⟩
abbrev main_while0b_v143 : Ref sig .tc := ⟨.hbm, 194, rfl⟩
abbrev main_while0b_v144 : Ref sig .tc := ⟨.hbm, 195, rfl⟩
abbrev main_while0b_v145 : Ref sig .tc := ⟨.hbm, 196, rfl⟩
abbrev main_while0b_v146 : Ref sig .tc := ⟨.hbm, 197, rfl⟩
abbrev main_while0b_v147 : Ref sig .tc := ⟨.hbm, 198, rfl⟩
abbrev main_while0b_v148 : Ref sig .tc := ⟨.hbm, 199, rfl⟩
abbrev main_while0b_c_43 : Ref sig .tc := ⟨.hbm, 200, rfl⟩
abbrev main_while0b_v149 : Ref sig .tc := ⟨.hbm, 201, rfl⟩
abbrev main_while0b_v150 : Ref sig .tc := ⟨.hbm, 202, rfl⟩
abbrev main_while0b_c_44 : Ref sig .tc := ⟨.hbm, 203, rfl⟩
abbrev main_while0b_v151 : Ref sig .tc := ⟨.hbm, 204, rfl⟩
abbrev main_while0b_v152 : Ref sig .tc := ⟨.hbm, 205, rfl⟩
abbrev main_while0b_c_45 : Ref sig .tc := ⟨.hbm, 206, rfl⟩
abbrev main_while0b_v153 : Ref sig .tc := ⟨.hbm, 207, rfl⟩
abbrev main_while0b_v154 : Ref sig .tc := ⟨.hbm, 208, rfl⟩
abbrev main_while0b_v155 : Ref sig .tc := ⟨.hbm, 209, rfl⟩
abbrev main_while0b_v156 : Ref sig .tc := ⟨.hbm, 210, rfl⟩
abbrev main_while0b_v157 : Ref sig .tc := ⟨.hbm, 211, rfl⟩
abbrev main_while0b_v158 : Ref sig .tc := ⟨.hbm, 212, rfl⟩
abbrev main_while0b_v159 : Ref sig .tc := ⟨.hbm, 213, rfl⟩
abbrev main_while0b_v160 : Ref sig .tc := ⟨.hbm, 214, rfl⟩
abbrev main_while0b_cst_46 : Ref sig .tc := ⟨.hbm, 215, rfl⟩
abbrev main_while0b_v161 : Ref sig .tc := ⟨.hbm, 216, rfl⟩
abbrev main_while0b_c_47 : Ref sig .tc := ⟨.hbm, 217, rfl⟩
abbrev main_while0b_v162 : Ref sig .tc := ⟨.hbm, 218, rfl⟩
abbrev main_while0b_v163 : Ref sig .tc := ⟨.hbm, 219, rfl⟩
abbrev main_while0b_v164 : Ref sig .tc := ⟨.hbm, 220, rfl⟩
abbrev main_while0b_call3_v0 : Ref sig .tc := ⟨.hbm, 221, rfl⟩
abbrev main_while0b_v165 : Ref sig .tc := ⟨.hbm, 222, rfl⟩
abbrev main_while0b_c_48 : Ref sig .tc := ⟨.hbm, 223, rfl⟩
abbrev main_while0b_v166 : Ref sig .tc := ⟨.hbm, 224, rfl⟩
abbrev main_while0b_v167 : Ref sig .tc := ⟨.hbm, 225, rfl⟩
abbrev main_while0b_c_49 : Ref sig .tc := ⟨.hbm, 226, rfl⟩
abbrev main_while0b_v168 : Ref sig .tc := ⟨.hbm, 227, rfl⟩
abbrev main_while0b_v169 : Ref sig .tc := ⟨.hbm, 228, rfl⟩
abbrev main_while0b_v170 : Ref sig .tc := ⟨.hbm, 229, rfl⟩
abbrev main_while0b_v171 : Ref sig .tc := ⟨.hbm, 230, rfl⟩
abbrev main_while0b_c_50 : Ref sig .tc := ⟨.hbm, 231, rfl⟩
abbrev main_while0b_v172 : Ref sig .tc := ⟨.hbm, 232, rfl⟩
abbrev main_while0b_v173 : Ref sig .tc := ⟨.hbm, 233, rfl⟩
abbrev main_while0b_c_51 : Ref sig .tc := ⟨.hbm, 234, rfl⟩
abbrev main_while0b_v174 : Ref sig .tc := ⟨.hbm, 235, rfl⟩
abbrev main_while0b_v175 : Ref sig .tc := ⟨.hbm, 236, rfl⟩
abbrev main_while0b_v176 : Ref sig .tc := ⟨.hbm, 237, rfl⟩
abbrev main_while0b_c_52 : Ref sig .tc := ⟨.hbm, 238, rfl⟩
abbrev main_while0b_v177 : Ref sig .tc := ⟨.hbm, 239, rfl⟩
abbrev main_while0b_v178 : Ref sig .tc := ⟨.hbm, 240, rfl⟩
abbrev main_while0b_c_53 : Ref sig .tc := ⟨.hbm, 241, rfl⟩
abbrev main_while0b_v179 : Ref sig .tc := ⟨.hbm, 242, rfl⟩
abbrev main_while0b_v180 : Ref sig .tc := ⟨.hbm, 243, rfl⟩
abbrev main_while0b_v181 : Ref sig .tc := ⟨.hbm, 244, rfl⟩
abbrev main_while0b_v182 : Ref sig .tc := ⟨.hbm, 245, rfl⟩
abbrev main_while0b_v183 : Ref sig .tc := ⟨.hbm, 246, rfl⟩
abbrev main_while0b_v184 : Ref sig .tc := ⟨.hbm, 247, rfl⟩
abbrev main_while0b_v185 : Ref sig .tc := ⟨.hbm, 248, rfl⟩
abbrev main_while0b_call4_v0 : Ref sig .tc := ⟨.hbm, 249, rfl⟩
abbrev main_while0b_v186 : Ref sig .tc := ⟨.hbm, 250, rfl⟩
abbrev main_while0b_c_54 : Ref sig .tc := ⟨.hbm, 251, rfl⟩
abbrev main_while0b_v187 : Ref sig .tc := ⟨.hbm, 252, rfl⟩
abbrev main_while0b_v188 : Ref sig .tc := ⟨.hbm, 253, rfl⟩
abbrev main_while0b_c_55 : Ref sig .tc := ⟨.hbm, 254, rfl⟩
abbrev main_while0b_v189 : Ref sig .tc := ⟨.hbm, 255, rfl⟩
abbrev main_while0b_v190 : Ref sig .tc := ⟨.hbm, 256, rfl⟩
abbrev main_while0b_v191 : Ref sig .tc := ⟨.hbm, 257, rfl⟩
abbrev main_while0b_c_56 : Ref sig .tc := ⟨.hbm, 258, rfl⟩
abbrev main_while0b_v192 : Ref sig .tc := ⟨.hbm, 259, rfl⟩
abbrev main_while0b_v193 : Ref sig .tc := ⟨.hbm, 260, rfl⟩
abbrev main_while0b_c_57 : Ref sig .tc := ⟨.hbm, 261, rfl⟩
abbrev main_while0b_v194 : Ref sig .tc := ⟨.hbm, 262, rfl⟩
abbrev main_while0b_v195 : Ref sig .tc := ⟨.hbm, 263, rfl⟩
abbrev main_while0b_v196 : Ref sig .tc := ⟨.hbm, 264, rfl⟩
abbrev main_while0b_v197 : Ref sig .tc := ⟨.hbm, 265, rfl⟩
abbrev main_while0b_v198 : Ref sig .tc := ⟨.hbm, 266, rfl⟩
abbrev main_while0b_v199 : Ref sig .tc := ⟨.hbm, 267, rfl⟩
abbrev main_while0b_v200 : Ref sig .tc := ⟨.hbm, 268, rfl⟩
abbrev main_while0b_c_58 : Ref sig .tc := ⟨.hbm, 269, rfl⟩
abbrev main_while0b_v201 : Ref sig .tc := ⟨.hbm, 270, rfl⟩
abbrev main_v64 : Ref sig .tc := ⟨.hbm, 271, rfl⟩
abbrev main_v65 : Ref sig .tc := ⟨.hbm, 272, rfl⟩
abbrev main_v66 : Ref sig .tc := ⟨.hbm, 273, rfl⟩
abbrev main_v67 : Ref sig .tc := ⟨.hbm, 274, rfl⟩
abbrev main_v68 : Ref sig .tc := ⟨.hbm, 275, rfl⟩
abbrev main_v69 : Ref sig .tc := ⟨.hbm, 276, rfl⟩
abbrev main_v70 : Ref sig .tc := ⟨.hbm, 277, rfl⟩
abbrev main_v71 : Ref sig .tc := ⟨.hbm, 278, rfl⟩
abbrev main_v72 : Ref sig .tc := ⟨.hbm, 279, rfl⟩
abbrev main_v73 : Ref sig .tc := ⟨.hbm, 280, rfl⟩
abbrev main_v74 : Ref sig .tc := ⟨.hbm, 281, rfl⟩
abbrev main_v75 : Ref sig .tc := ⟨.hbm, 282, rfl⟩
abbrev main_v76 : Ref sig .tc := ⟨.hbm, 283, rfl⟩
abbrev main_v77 : Ref sig .tc := ⟨.hbm, 284, rfl⟩
abbrev main_v78 : Ref sig .tc := ⟨.hbm, 285, rfl⟩
abbrev main_v79 : Ref sig .tc := ⟨.hbm, 286, rfl⟩
abbrev main_v80 : Ref sig .tc := ⟨.hbm, 287, rfl⟩
abbrev main_v81 : Ref sig .tc := ⟨.hbm, 288, rfl⟩
abbrev main_v82 : Ref sig .tc := ⟨.hbm, 289, rfl⟩
abbrev main_v83 : Ref sig .tc := ⟨.hbm, 290, rfl⟩

abbrev nD : Nat := 1
abbrev τ : Topo := Topo.v7x

variable {F : FTy → Type} [FloatOps F]

abbrev main_while0_count : Scf.Loop 32 := ⟨0#32, 64#32, 1#32⟩
-- ==== Proof.PreRows.lean ====
module

public import proofs.«01_k».proof.Proof.Gen.Pre_rows_in_range
public import Idealize.ShloMosaic.Lib.Pipeline.ValueKit
public import Idealize.ShloMosaic.Lib.ValueIdxCore
public import Idealize.ShloMosaic.Lib.IdealHost
public import Idealize.ShloMosaic.Lib.WordCmp

@[expose] public section

noncomputable section

namespace Cert.Hand

open Idealize.ShloMosaic

/-- Two comparisons of a word with a range say that its natural lies in the range. -/
theorem lt_of_range {k : Nat} (hk : k < 2 ^ 31) (x : BitVec 32)
    (h : IntOp.andi (IntOp.cmpi .sge x 0#32) (IntOp.cmpi .slt x (BitVec.ofNat 32 k)) = 1#1) : x.toNat < k := by
  rw [WordCmp.andi_sge_zero_slt_ofNat (by simpa using hk)] at h
  by_contra hc
  rw [decide_eq_false hc] at h
  exact absurd h (by decide)

/-- Two equality tests joined by "or" say that one of them holds. -/
theorem eq_or_of_ori (x y z w : BitVec 32) (h : IntOp.ori (IntOp.cmpi .eq x y) (IntOp.cmpi .eq z w) = 1#1) : x = y ∨ z = w := by
  by_contra hc
  push Not at hc
  have e : IntOp.ori (IntOp.cmpi .eq x y) (IntOp.cmpi .eq z w) = 0#1 := by
    simp only [IntOp.cmpi, IntOp.ori]
    rw [show (x == y) = false from by simpa using hc.1, show (z == w) = false from by simpa using hc.2]
    rfl
  rw [e] at h
  exact absurd h (by decide)

/-- An inequality test or an equality test: where the first words agree, so do the second. -/
theorem eq_of_ori_ne (x y z w : BitVec 32) (h : IntOp.ori (IntOp.cmpi .ne x y) (IntOp.cmpi .eq z w) = 1#1) (hx : x = y) : z = w := by
  by_contra hc
  have e : IntOp.ori (IntOp.cmpi .ne x y) (IntOp.cmpi .eq z w) = 0#1 := by
    simp only [IntOp.cmpi, IntOp.ori]
    rw [show (x != y) = false from by simpa using hx, show (z == w) = false from by simpa using hc]
    rfl
  rw [e] at h
  exact absurd h (by decide)

/-- Dropping a trailing unit axis. -/
theorem cast_drop {a b : Nat} {α : Type} (v : (⟨3, ![a, b, 1]⟩ : Shape).Idx → α) (h : (⟨3, ![a, b, 1]⟩ : Shape).ShapeCasts ⟨2, ![a, b]⟩)
    (i : Fin a) (j : Fin b) : shapeCast ⟨2, ![a, b]⟩ v h (ix2 i j) = v (ix3 i j 0) := by
  refine shapeCast_apply v h _ _ ?_
  rw [Shape.rowMajor_val_two, Shape.rowMajor_val_three]
  simp

/-- One column of the last axis. -/
theorem col_slice {a b c k : Nat} {α : Type} (hk : k < c) (v : (⟨3, ![a, b, c]⟩ : Shape).Idx → α)
    (h : (⟨3, ![a, b, c]⟩ : Shape).Slices ![0, 0, k] ⟨3, ![a, b, 1]⟩) (i : Fin a) (j : Fin b) :
    extractStridedSlice ⟨3, ![a, b, 1]⟩ ![0, 0, k] v h (ix3 i j 0) = v (ix3 i j ⟨k, hk⟩) := by
  refine extractStridedSlice_apply _ v h _ _ fun d => ?_
  match d with | ⟨0, _⟩ => simp | ⟨1, _⟩ => simp | ⟨2, _⟩ => simp

/-- The columns after the first. -/
theorem tail_slice {a b : Nat} {α : Type} (v : (⟨3, ![a, b, 4]⟩ : Shape).Idx → α)
    (h : (⟨3, ![a, b, 4]⟩ : Shape).Slices ![0, 0, 1] ⟨3, ![a, b, 3]⟩) (i : Fin a) (j : Fin b) (k : Fin 3) :
    extractStridedSlice ⟨3, ![a, b, 3]⟩ ![0, 0, 1] v h (ix3 i j k) = v (ix3 i j k.succ) := by
  refine extractStridedSlice_apply _ v h _ _ fun d => ?_
  match d with | ⟨0, _⟩ => simp | ⟨1, _⟩ => simp | ⟨2, _⟩ => simp [Nat.add_comm]

section Rows
variable {F : FTy → Type} [FloatOps F]

/-- The rows a word array names are below 1024, where the first precondition holds. -/
theorem rows_lt (a0 a1 a2 a3 a4 a5 a6 a7 a8 a9) (h : Cert.Pre_rows_in_range.fn (F := F) a0 a1 a2 a3 a4 a5 a6 a7 a8 a9 = fun _ => 1#1)
    (i : Fin 8) (j : Fin 64) (k : Fin 3) : (a2 (ix3 i j k.succ)).toNat < 1024 := by
  have e := congrFun h (ix3 i j k)
  rw [← tail_slice a2 Cert.Pre_rows_in_range.Facts.slices_S8x64x4_S8x64x3_0_0_1]
  exact lt_of_range (by decide) _ e
end Rows

end Cert.Hand

end
-- ==== Proof.KI.Trip.lean ====
module

public import Idealize.ShloMosaic.Lib.Pointwise
public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import Idealize.ShloMosaic.Lib.WholeRead
public import Idealize.ShloMosaic.Lib.WritesUnit
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Word `c` of composition step `n` of sentence `b`. -/
def word (x9 : Vec F S8x64x4 .i32) (b : Fin 8) (n : Nat) (c : Fin 4) : BitVec 32 :=
  x9 (ix3 b ⟨n % 64, Nat.mod_lt _ (by decide)⟩ c)

/-- The row of the vector buffer that a word names. -/
def row (w : BitVec 32) : Fin 1024 := ⟨w.toNat % 1024, Nat.mod_lt _ (by decide)⟩

/-- Every row a composition step names is a row of the vector buffer. -/
def RowsOk (x9 : Vec F S8x64x4 .i32) : Prop :=
  ∀ j : S8x64x4.Idx, 1 ≤ (j 2).val → (x9 j).toNat < 1024

/-- The sixteen rows one composition step works on: rows 0–7 the left children, rows 8–15 the right children. -/
def childRows (x9 : Vec F S8x64x4 .i32) (n : Nat) (v : Vec F S8x1024x512 .f32) : Vec F S16x512 .f32 := fun p =>
  if h : (p 0).val < 8 then v (ix3 ⟨(p 0).val, h⟩ (row (word x9 ⟨(p 0).val, h⟩ n 2)) (p 1))
  else v (ix3 ⟨(p 0).val - 8, by have := (p 0).isLt; have e : S16x512.size 0 = 16 := rfl; omega⟩
    (row (word x9 ⟨(p 0).val - 8, by have := (p 0).isLt; have e : S16x512.size 0 = 16 := rfl; omega⟩ n 3)) (p 1))

/-- The composed rows of one step, one per sentence, computed from the sixteen child rows. -/
def composed (x4 x5 : Vec F S512x512 .bf16) (x6 : Vec F S1x512 .f32) (u : Vec F S16x512 .f32) : FVec F S8x512 .f32 :=
  k0_pay26 u (k0_pay23 u) (k0_pay24 u x4) (k0_pay25 u) x5 x6 x6

/-- The row one step writes for sentence `b`: the composed row when the step has two children, else the left child. -/
def newRow (x4 x5 : Vec F S512x512 .bf16) (x6 : Vec F S1x512 .f32) (u : Vec F S16x512 .f32) (w : BitVec 32) : Fin 8 → FVec F S1x1x512 .f32
  | 0 => k0_pay28 (k0_pay27 u (k0_pay23 u) (k0_pay24 u x4) (k0_pay25 u) x5 x6 x6 w)
  | 1 => k0_pay29 u (composed x4 x5 x6 u) w
  | 2 => k0_pay31 (k0_pay30 u (composed x4 x5 x6 u) w)
  | 3 => k0_pay32 u (composed x4 x5 x6 u) w
  | 4 => k0_pay34 (k0_pay33 u (composed x4 x5 x6 u) w)
  | 5 => k0_pay35 u (composed x4 x5 x6 u) w
  | 6 => k0_pay36 u (composed x4 x5 x6 u) w
  | 7 => k0_pay1 u (composed x4 x5 x6 u) w

/-- The vector buffer after composition step `n`: the parent row of each sentence is replaced, every other row stays. -/
def tripVec (x4 x5 : Vec F S512x512 .bf16) (x6 : Vec F S1x512 .f32) (x9 : Vec F S8x64x4 .i32) (n : Nat)
    (v : Vec F S8x1024x512 .f32) : Vec F S8x1024x512 .f32 := fun p =>
  if (p 1).val = (row (word x9 (p 0) n 1)).val then
    newRow x4 x5 x6 (childRows x9 n v) (word x9 (p 0) n 0) (p 0) (ix3 0 0 (p 2))
  else v p

/-- The trip counter as the body computes it. -/
theorem iv_toNat (k : Fin k0_t1_loop.trips) :
    (Scalar.indexCast (Scf.iv (0#32) (1#32) k) : Index).toNat = k.val % 64 := by
  revert k; decide +kernel

/-- A word of the staged table, read at the slot its three offsets name. -/
theorem read_word {M : Memref sig .tc .smem S8x64x4 .i32} (hM : M.IsWhole) (x9 : Vec F S8x64x4 .i32)
    {off : Fin 3 → Nat} (hoff : ∀ a, off a + S1x1x1.size a ≤ S8x64x4.size a) {b : Fin 8} {n : Nat} {c : Fin 4}
    (h0 : off 0 = b.val) (h1 : off 1 = n % 64) (h2 : off 2 = c.val) (p) :
    (View.readAt (Elt F) M.view (Rect.unit (s := S8x64x4) off S1x1x1.size hoff).toLoadRect (hM.unread x9) p : BitVec 32)
      = word x9 b n c := by
  rw [hM.readAt_unread]
  unfold word
  congr 1
  funext a
  apply Fin.ext
  fin_cases a
  · show off 0 + 1 * (p 0).val = b.val; have hp : (p 0).val < 1 := (p 0).isLt; omega
  · show off 1 + 1 * (p 1).val = n % 64; have hp : (p 1).val < 1 := (p 1).isLt; omega
  · show off 2 + 1 * (p 2).val = c.val; have hp : (p 2).val < 1 := (p 2).isLt; omega

/-- A word of the staged table at a slot that names a row is a row. -/
theorem word_lt {M : Memref sig .tc .smem S8x64x4 .i32} (hM : M.IsWhole) {x9 : Vec F S8x64x4 .i32} (hx : RowsOk x9)
    {off : Fin 3 → Nat} (hoff : ∀ a, off a + S1x1x1.size a ≤ S8x64x4.size a) (h2 : 1 ≤ off 2) (p) :
    (View.readAt (Elt F) M.view (Rect.unit (s := S8x64x4) off S1x1x1.size hoff).toLoadRect (hM.unread x9) p : BitVec 32).toNat < 1024 := by
  rw [hM.readAt_unread]
  refine hx _ ?_
  show 1 ≤ off 2 + 1 * (p 2).val
  omega

/-- A word that names a row names itself. -/
theorem row_val {x9 : Vec F S8x64x4 .i32} (hx : RowsOk x9) (b : Fin 8) (n : Nat) (c : Fin 4) (hc : 1 ≤ c.val) :
    (row (word x9 b n c)).val = (word x9 b n c).toNat :=
  Nat.mod_eq_of_lt (hx _ hc)

/-- The side condition of a row access at a row of the buffer. -/
theorem chk_of {i : grid0.Coords} {b : Nat} (hb : b < 8) {v : BitVec 32} (hv : v.toNat < 1024) :
    ∀ (h1 : k0_cond1 i = 1#1), ∀ a, (![b, (Scalar.indexCast v).toNat, 0] : Fin 3 → Nat) a + S1x1x512.size a ≤ S8x1024x512.size a := by
  intro _ a
  fin_cases a
  · show b + 1 ≤ 8; omega
  · show v.toNat + 1 ≤ 1024; omega
  · show 0 + 512 ≤ 512; omega

/-- One row of the vector buffer, loaded and viewed as a row of the child buffer. -/
theorem read_row {M : Memref sig .tc .vmem S8x1024x512 .f32} (hM : M.IsWhole) (v : Vec F S8x1024x512 .f32)
    {off : Fin 3 → Nat} (hoff : ∀ a, off a + S1x1x512.size a ≤ S8x1024x512.size a) (hs : S1x1x512.ShapeCasts S1x512) (hs' : S1x512.ShapeCasts S1x512)
    {b : Fin 8} {r : Fin 1024} (h0 : off 0 = b.val) (h1 : off 1 = r.val) (h2 : off 2 = 0) (p : S1x512.Idx) :
    shapeCast S1x512 (shapeCast S1x512 (View.readAt (Elt F) M.view (Rect.unit (s := S8x1024x512) off S1x1x512.size hoff).toLoadRect (hM.unread v)) hs) hs' p
      = v (ix3 b r (p 1)) := by
  rw [shapeCast_self]
  refine (shapeCast_dropUnit_apply ![1, 512] _ hs p).trans ?_
  rw [hM.readAt_unread]
  congr 1
  funext a
  apply Fin.ext
  have hp := (p 0).isLt
  have e : S1x512.size 0 = 1 := rfl
  fin_cases a
  · show off 0 + 1 * 0 = b.val; omega
  · show off 1 + 1 * (p 0).val = r.val; omega
  · show off 2 + 1 * (p 1).val = (p 1).val; omega

/-- Reading a list of whole-row writes of the child buffer, one piece at a time. -/
theorem rows_step {M : Memref sig .tc .vmem S16x512 .f32} (f : M.view.ty.Contents (Elt F)) (G : Vec F S16x512 .f32) (y : S16x512.Idx)
    {off : Fin 2 → Nat} {o : Nat} (inb : ∀ a, off a + S1x512.size a ≤ S16x512.size a)
    (w : (Rect.unit (s := S16x512) off S1x512.size inb).shape.Idx → Elt F .f32) (L : List (View.Piece (Elt F) S16x512 .f32))
    (hoff : off = ![o, 0])
    (hw : (y 0).val = o → w (ix2 0 (y 1)) = G y)
    (hL : (y 0).val ≠ o → M.view.read (Elt F) (M.view.writes (Elt F) f L) y = G y) :
    M.view.read (Elt F) (M.view.writes (Elt F) f ((⟨Rect.unit (s := S16x512) off S1x512.size inb, w⟩ : View.Piece (Elt F) S16x512 .f32) :: L)) y = G y := by
  by_cases h : (y 0).val = o
  · rw [View.read_writes_cons_rows_of_mem M.view f inb w L y (ix2 0 (y 1)) hoff (by show (y 0).val = o + 0; omega) rfl]
    exact hw h
  · rw [View.read_writes_cons_rows_of_not_mem (W := 1) M.view f inb w L y hoff rfl (by omega)]
    exact hL h

/-- Reading a list of single-row writes of the vector buffer, one piece at a time. -/
theorem vec_step {M : Memref sig .tc .vmem S8x1024x512 .f32} (f : M.view.ty.Contents (Elt F)) (G : Vec F S8x1024x512 .f32) (y : S8x1024x512.Idx)
    {off : Fin 3 → Nat} {b r : Nat} (inb : ∀ a, off a + S1x1x512.size a ≤ S8x1024x512.size a)
    (w : (Rect.unit (s := S8x1024x512) off S1x1x512.size inb).shape.Idx → Elt F .f32) (L : List (View.Piece (Elt F) S8x1024x512 .f32))
    (hoff : off = ![b, r, 0])
    (hw : (y 0).val = b → (y 1).val = r → w (ix3 0 0 (y 2)) = G y)
    (hL : ((y 0).val = b → (y 1).val ≠ r) → M.view.read (Elt F) (M.view.writes (Elt F) f L) y = G y) :
    M.view.read (Elt F) (M.view.writes (Elt F) f ((⟨Rect.unit (s := S8x1024x512) off S1x1x512.size inb, w⟩ : View.Piece (Elt F) S8x1024x512 .f32) :: L)) y = G y := by
  by_cases h : (y 0).val = b
  · by_cases h' : (y 1).val = r
    · rw [View.read_writes_cons_unit_of_mem M.view f inb w L y (ix3 0 0 (y 2)) hoff (by
        intro a
        fin_cases a
        · show (y 0).val = b + 0; omega
        · show (y 1).val = r + 0; omega
        · show (y 2).val = 0 + (y 2).val; omega)]
      exact hw h h'
    · rw [View.read_writes_cons_unit_of_not_mem M.view f inb w L y hoff 1 (by
        show (y 1).val < r ∨ r + 1 ≤ (y 1).val; omega)]
      exact hL fun _ => h'
  · rw [View.read_writes_cons_unit_of_not_mem M.view f inb w L y hoff 0 (by
        show (y 0).val < b ∨ b + 1 ≤ (y 0).val; omega)]
    exact hL fun e => absurd e h

/-- A word of the staged table at a slot that names a row, as a row number. -/
theorem read_word_row {M : Memref sig .tc .smem S8x64x4 .i32} (hM : M.IsWhole) {x9 : Vec F S8x64x4 .i32} (hx : RowsOk x9)
    {off : Fin 3 → Nat} (hoff : ∀ a, off a + S1x1x1.size a ≤ S8x64x4.size a) {b : Fin 8} {n : Nat} {c : Fin 4} (hc : 1 ≤ c.val)
    (h0 : off 0 = b.val) (h1 : off 1 = n % 64) (h2 : off 2 = c.val) (p) :
    (View.readAt (Elt F) M.view (Rect.unit (s := S8x64x4) off S1x1x1.size hoff).toLoadRect (hM.unread x9) p : BitVec 32).toNat
      = (row (word x9 b n c)).val := by
  rw [read_word hM x9 hoff h0 h1 h2 p, row_val hx b n c hc]

/-- Row `b` of the child buffer is the left child of sentence `b`. -/
theorem childRows_left (x9 : Vec F S8x64x4 .i32) (n : Nat) (v : Vec F S8x1024x512 .f32) (y : S16x512.Idx) (b : Fin 8)
    (h : (y 0).val = b.val) : childRows x9 n v y = v (ix3 b (row (word x9 b n 2)) (y 1)) := by
  have hb : (⟨(y 0).val, h ▸ b.isLt⟩ : Fin 8) = b := Fin.ext h
  unfold childRows
  rw [dif_pos (h ▸ b.isLt), hb]

/-- Row `8 + b` of the child buffer is the right child of sentence `b`. -/
theorem childRows_right (x9 : Vec F S8x64x4 .i32) (n : Nat) (v : Vec F S8x1024x512 .f32) (y : S16x512.Idx) (b : Fin 8)
    (h : (y 0).val = 8 + b.val) : childRows x9 n v y = v (ix3 b (row (word x9 b n 3)) (y 1)) := by
  have hb : ∀ q, (⟨(y 0).val - 8, q⟩ : Fin 8) = b := fun q => Fin.ext (by show (y 0).val - 8 = b.val; omega)
  unfold childRows
  rw [dif_neg (by omega), hb]

/-- A load of a whole rank-2 memref reads its contents. -/
theorem read_all2 {d0 d1 : Nat} {e : EltTy} {sp : Space} {M : Memref sig .tc sp (⟨2, ![d0, d1]⟩ : Shape) e} (hM : M.IsWhole)
    (x : Vec F (⟨2, ![d0, d1]⟩ : Shape) e) (inb : ∀ a, (![0, 0] : Fin 2 → Nat) a + (⟨2, ![d0, d1]⟩ : Shape).size a ≤ (⟨2, ![d0, d1]⟩ : Shape).size a) :
    View.readAt (Elt F) M.view (Rect.unit (s := ⟨2, ![d0, d1]⟩) ![0, 0] (⟨2, ![d0, d1]⟩ : Shape).size inb).toLoadRect (hM.unread x) = x := by
  funext p
  rw [hM.readAt_unread]
  congr 1
  funext a
  apply Fin.ext
  fin_cases a
  · show 0 + 1 * (p 0).val = (p 0).val; omega
  · show 0 + 1 * (p 1).val = (p 1).val; omega

/-- The parent row of sentence `b` after a step. -/
theorem tripVec_hit (x4 x5 : Vec F S512x512 .bf16) (x6 : Vec F S1x512 .f32) (x9 : Vec F S8x64x4 .i32) (n : Nat)
    (v : Vec F S8x1024x512 .f32) (y : S8x1024x512.Idx) (b : Fin 8) (h0 : (y 0).val = b.val) (h1 : (y 1).val = (row (word x9 b n 1)).val) :
    tripVec x4 x5 x6 x9 n v y = newRow x4 x5 x6 (childRows x9 n v) (word x9 b n 0) b (ix3 0 0 (y 2)) := by
  have hb : y 0 = b := Fin.ext h0
  unfold tripVec
  rw [hb, if_pos h1]

/-- Every row that is nobody's parent stays as it was. -/
theorem tripVec_miss (x4 x5 : Vec F S512x512 .bf16) (x6 : Vec F S1x512 .f32) (x9 : Vec F S8x64x4 .i32) (n : Nat)
    (v : Vec F S8x1024x512 .f32) (y : S8x1024x512.Idx) (h : ∀ b : Fin 8, (y 0).val = b.val → (y 1).val ≠ (row (word x9 b n 1)).val) :
    tripVec x4 x5 x6 x9 n v y = v y := by
  unfold tripVec
  rw [if_neg (h (y 0) rfl)]

set_option maxHeartbeats 4000000 in
set_option maxRecDepth 65536 in
/-- One composition step run on the buffers. -/
theorem trip (c : Dev nD) (i : grid0.Coords) (arg1 : Memref sig .tc .vmem S4096x1024 .f32) (harg1 : arg1.IsWhole) (arg2 : Memref sig .tc .vmem S1024x512 .bf16) (harg2 : arg2.IsWhole) (arg3 : Memref sig .tc .vmem S8x1x512 .i32) (harg3 : arg3.IsWhole) (arg4 : Memref sig .tc .vmem S8x1x512 .i32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x256 .bf16) (harg8 : arg8.IsWhole) (arg9 : Memref sig .tc .vmem S1x256 .f32) (harg9 : arg9.IsWhole) (arg10 : Memref sig .tc .smem S8x64x4 .i32) (harg10 : arg10.IsWhole) (arg11 : Memref sig .tc .vmem S8x512x256 .f32) (harg11 : arg11.IsWhole) (arg12 : Memref sig .tc .vmem S8x1024x512 .f32) (harg12 : arg12.IsWhole) (arg13 : Memref sig .tc .vmem S16x512 .f32) (harg13 : arg13.IsWhole) (h1 : k0_cond1 i = 1#1) (k : Fin k0_t1_loop.trips)
    (x4 x5 : Vec F S512x512 .bf16) (x6 : Vec F S1x512 .f32) (x9 : Vec F S8x64x4 .i32) (hx : RowsOk x9) (v12 : Vec F S8x1024x512 .f32) (v13 : Vec F S16x512 .f32) (K : PUnit → sProp 𝕄) :
    iprop(owns (c : Thread nD τ) arg5 fullShare x4 ∗ owns (c : Thread nD τ) arg6 fullShare x5 ∗ owns (c : Thread nD τ) arg7 fullShare x6 ∗ owns (c : Thread nD τ) arg10 fullShare x9 ∗ owns (c : Thread nD τ) arg12 fullShare v12 ∗ owns (c : Thread nD τ) arg13 fullShare v13
      ∗ (owns (c : Thread nD τ) arg5 fullShare x4 ∗ owns (c : Thread nD τ) arg6 fullShare x5 ∗ owns (c : Thread nD τ) arg7 fullShare x6 ∗ owns (c : Thread nD τ) arg10 fullShare x9 ∗ owns (c : Thread nD τ) arg12 fullShare (tripVec x4 x5 x6 x9 k.val v12) ∗ (∃ d, owns (c : Thread nD τ) arg13 fullShare d) -∗ K ⟨⟩))
      ⊢ wp frame (wpE (defs₀ (F := F)) Variants.none c none) Set.univ (k0_t1_body i arg1 harg1 arg2 harg2 arg3 harg3 arg4 harg4 arg5 harg5 arg6 harg6 arg7 harg7 arg8 harg8 arg9 harg9 arg10 harg10 arg11 harg11 arg12 harg12 arg13 harg13 h1 k ⟨⟩) K := by
  unfold owns
  iintro ⟨⟨%f4, %hf4, H4⟩, ⟨%f5, %hf5, H5⟩, ⟨%f6, %hf6, H6⟩, ⟨%f9, %hf9, H9⟩, ⟨%f12, %hf12, H12⟩, ⟨%f13, %hf13, H13⟩, Hk⟩
  obtain rfl := harg5.eq_unread hf4; obtain rfl := harg6.eq_unread hf5; obtain rfl := harg7.eq_unread hf6; obtain rfl := harg10.eq_unread hf9; obtain rfl := harg12.eq_unread hf12; obtain rfl := harg13.eq_unread hf13
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  sl_exec (disch := exact chk_of (Nat.le_of_ble_eq_true rfl) (word_lt harg10 hx _ (Nat.le_of_ble_eq_true rfl) _))
  have e427 : trip.sl.v427 i arg10 harg10 arg12 harg12 arg13 h1 k x9 hx v12 = childRows x9 k.val v12 := by
    delta trip.sl.v427 trip.sl.H13_16
    funext y
    have hy : (Rect.unit (s := S16x512) ![0, 0] S16x512.size inb_S16x512_S16x512_0_0).toLoadRect.idx y = y := by
      funext a
      apply Fin.ext
      fin_cases a
      · show 0 + 1 * (y 0).val = (y 0).val; omega
      · show 0 + 1 * (y 1).val = (y 1).val; omega
    refine (congrArg (View.read (Elt F) arg13.view _) hy).trans ?_
    refine rows_step _ _ y _ _ _ rfl (fun h => (read_row harg12 v12 _ _ _ (b := 7) (r := row (word x9 7 k.val 3)) rfl (read_word_row harg10 hx _ (b := 7) (c := 3) (n := k.val) (by decide) rfl (iv_toNat k) rfl _) rfl _).trans (childRows_right x9 k.val v12 y 7 h).symm) (fun n15 => ?_)
    refine rows_step _ _ y _ _ _ rfl (fun h => (read_row harg12 v12 _ _ _ (b := 7) (r := row (word x9 7 k.val 2)) rfl (read_word_row harg10 hx _ (b := 7) (c := 2) (n := k.val) (by decide) rfl (iv_toNat k) rfl _) rfl _).trans (childRows_left x9 k.val v12 y 7 h).symm) (fun n7 => ?_)
    refine rows_step _ _ y _ _ _ rfl (fun h => (read_row harg12 v12 _ _ _ (b := 6) (r := row (word x9 6 k.val 3)) rfl (read_word_row harg10 hx _ (b := 6) (c := 3) (n := k.val) (by decide) rfl (iv_toNat k) rfl _) rfl _).trans (childRows_right x9 k.val v12 y 6 h).symm) (fun n14 => ?_)
    refine rows_step _ _ y _ _ _ rfl (fun h => (read_row harg12 v12 _ _ _ (b := 6) (r := row (word x9 6 k.val 2)) rfl (read_word_row harg10 hx _ (b := 6) (c := 2) (n := k.val) (by decide) rfl (iv_toNat k) rfl _) rfl _).trans (childRows_left x9 k.val v12 y 6 h).symm) (fun n6 => ?_)
    refine rows_step _ _ y _ _ _ rfl (fun h => (read_row harg12 v12 _ _ _ (b := 5) (r := row (word x9 5 k.val 3)) rfl (read_word_row harg10 hx _ (b := 5) (c := 3) (n := k.val) (by decide) rfl (iv_toNat k) rfl _) rfl _).trans (childRows_right x9 k.val v12 y 5 h).symm) (fun n13 => ?_)
    refine rows_step _ _ y _ _ _ rfl (fun h => (read_row harg12 v12 _ _ _ (b := 5) (r := row (word x9 5 k.val 2)) rfl (read_word_row harg10 hx _ (b := 5) (c := 2) (n := k.val) (by decide) rfl (iv_toNat k) rfl _) rfl _).trans (childRows_left x9 k.val v12 y 5 h).symm) (fun n5 => ?_)
    refine rows_step _ _ y _ _ _ rfl (fun h => (read_row harg12 v12 _ _ _ (b := 4) (r := row (word x9 4 k.val 3)) rfl (read_word_row harg10 hx _ (b := 4) (c := 3) (n := k.val) (by decide) rfl (iv_toNat k) rfl _) rfl _).trans (childRows_right x9 k.val v12 y 4 h).symm) (fun n12 => ?_)
    refine rows_step _ _ y _ _ _ rfl (fun h => (read_row harg12 v12 _ _ _ (b := 4) (r := row (word x9 4 k.val 2)) rfl (read_word_row harg10 hx _ (b := 4) (c := 2) (n := k.val) (by decide) rfl (iv_toNat k) rfl _) rfl _).trans (childRows_left x9 k.val v12 y 4 h).symm) (fun n4 => ?_)
    refine rows_step _ _ y _ _ _ rfl (fun h => (read_row harg12 v12 _ _ _ (b := 3) (r := row (word x9 3 k.val 3)) rfl (read_word_row harg10 hx _ (b := 3) (c := 3) (n := k.val) (by decide) rfl (iv_toNat k) rfl _) rfl _).trans (childRows_right x9 k.val v12 y 3 h).symm) (fun n11 => ?_)
    refine rows_step _ _ y _ _ _ rfl (fun h => (read_row harg12 v12 _ _ _ (b := 3) (r := row (word x9 3 k.val 2)) rfl (read_word_row harg10 hx _ (b := 3) (c := 2) (n := k.val) (by decide) rfl (iv_toNat k) rfl _) rfl _).trans (childRows_left x9 k.val v12 y 3 h).symm) (fun n3 => ?_)
    refine rows_step _ _ y _ _ _ rfl (fun h => (read_row harg12 v12 _ _ _ (b := 2) (r := row (word x9 2 k.val 3)) rfl (read_word_row harg10 hx _ (b := 2) (c := 3) (n := k.val) (by decide) rfl (iv_toNat k) rfl _) rfl _).trans (childRows_right x9 k.val v12 y 2 h).symm) (fun n10 => ?_)
    refine rows_step _ _ y _ _ _ rfl (fun h => (read_row harg12 v12 _ _ _ (b := 2) (r := row (word x9 2 k.val 2)) rfl (read_word_row harg10 hx _ (b := 2) (c := 2) (n := k.val) (by decide) rfl (iv_toNat k) rfl _) rfl _).trans (childRows_left x9 k.val v12 y 2 h).symm) (fun n2 => ?_)
    refine rows_step _ _ y _ _ _ rfl (fun h => (read_row harg12 v12 _ _ _ (b := 1) (r := row (word x9 1 k.val 3)) rfl (read_word_row harg10 hx _ (b := 1) (c := 3) (n := k.val) (by decide) rfl (iv_toNat k) rfl _) rfl _).trans (childRows_right x9 k.val v12 y 1 h).symm) (fun n9 => ?_)
    refine rows_step _ _ y _ _ _ rfl (fun h => (read_row harg12 v12 _ _ _ (b := 1) (r := row (word x9 1 k.val 2)) rfl (read_word_row harg10 hx _ (b := 1) (c := 2) (n := k.val) (by decide) rfl (iv_toNat k) rfl _) rfl _).trans (childRows_left x9 k.val v12 y 1 h).symm) (fun n1 => ?_)
    refine rows_step _ _ y _ _ _ rfl (fun h => (read_row harg12 v12 _ _ _ (b := 0) (r := row (word x9 0 k.val 3)) rfl (read_word_row harg10 hx _ (b := 0) (c := 3) (n := k.val) (by decide) rfl (iv_toNat k) rfl _) rfl _).trans (childRows_right x9 k.val v12 y 0 h).symm) (fun n8 => ?_)
    refine rows_step _ _ y _ _ _ rfl (fun h => (read_row harg12 v12 _ _ _ (b := 0) (r := row (word x9 0 k.val 2)) rfl (read_word_row harg10 hx _ (b := 0) (c := 2) (n := k.val) (by decide) rfl (iv_toNat k) rfl _) rfl _).trans (childRows_left x9 k.val v12 y 0 h).symm) (fun n0 => ?_)
    exact absurd (show (y 0).val < 16 from (y 0).isLt) (by omega)
  have e24 : trip.sl.r_24 i arg5 harg5 arg6 harg6 arg7 harg7 arg10 harg10 arg12 harg12 arg13 h1 k x4 x5 x6 x9 hx v12 = composed x4 x5 x6 (childRows x9 k.val v12) := by
    delta trip.sl.r_24 trip.sl.r_19 trip.sl.r_20 trip.sl.r_21
    rw [e427, read_all2 harg5, read_all2 harg6, read_all2 harg7]
    rfl
  have pay_0 : ∀ q, k0_pay28 (trip.sl.r_25 i arg5 harg5 arg6 harg6 arg7 harg7 arg10 harg10 arg12 harg12 arg13 h1 k x4 x5 x6 x9 hx v12) q = newRow x4 x5 x6 (childRows x9 k.val v12) (word x9 0 k.val 0) 0 q := by
    delta trip.sl.r_25 trip.sl.r_19 trip.sl.r_20 trip.sl.r_21
    rw [e427, read_all2 harg5, read_all2 harg6, read_all2 harg7]
    exact fun q => congrFun (congrArg (fun w => newRow x4 x5 x6 (childRows x9 k.val v12) w 0) (read_word harg10 x9 _ (b := 0) (c := 0) (n := k.val) rfl (iv_toNat k) rfl _)) q
  have pay_1 : ∀ q, k0_pay29 (childRows x9 k.val v12) (trip.sl.r_24 i arg5 harg5 arg6 harg6 arg7 harg7 arg10 harg10 arg12 harg12 arg13 h1 k x4 x5 x6 x9 hx v12) (trip.sl.r_26 i arg10 harg10 h1 k x9) q = newRow x4 x5 x6 (childRows x9 k.val v12) (word x9 1 k.val 0) 1 q := by
    rw [e24, show trip.sl.r_26 i arg10 harg10 h1 k x9 = word x9 1 k.val 0 from (read_word harg10 x9 _ (b := 1) (c := 0) (n := k.val) rfl (iv_toNat k) rfl _)]; exact fun _ => rfl
  have pay_2 : ∀ q, k0_pay31 (trip.sl.r_30 i arg5 harg5 arg6 harg6 arg7 harg7 arg10 harg10 arg12 harg12 arg13 h1 k x4 x5 x6 x9 hx v12) q = newRow x4 x5 x6 (childRows x9 k.val v12) (word x9 2 k.val 0) 2 q := by
    delta trip.sl.r_30
    rw [e427, e24]
    exact fun q => congrFun (congrArg (fun w => newRow x4 x5 x6 (childRows x9 k.val v12) w 2) (read_word harg10 x9 _ (b := 2) (c := 0) (n := k.val) rfl (iv_toNat k) rfl _)) q
  have pay_3 : ∀ q, k0_pay32 (childRows x9 k.val v12) (trip.sl.r_24 i arg5 harg5 arg6 harg6 arg7 harg7 arg10 harg10 arg12 harg12 arg13 h1 k x4 x5 x6 x9 hx v12) (trip.sl.r_31 i arg10 harg10 h1 k x9) q = newRow x4 x5 x6 (childRows x9 k.val v12) (word x9 3 k.val 0) 3 q := by
    rw [e24, show trip.sl.r_31 i arg10 harg10 h1 k x9 = word x9 3 k.val 0 from (read_word harg10 x9 _ (b := 3) (c := 0) (n := k.val) rfl (iv_toNat k) rfl _)]; exact fun _ => rfl
  have pay_4 : ∀ q, k0_pay34 (trip.sl.r_35 i arg5 harg5 arg6 harg6 arg7 harg7 arg10 harg10 arg12 harg12 arg13 h1 k x4 x5 x6 x9 hx v12) q = newRow x4 x5 x6 (childRows x9 k.val v12) (word x9 4 k.val 0) 4 q := by
    delta trip.sl.r_35
    rw [e427, e24]
    exact fun q => congrFun (congrArg (fun w => newRow x4 x5 x6 (childRows x9 k.val v12) w 4) (read_word harg10 x9 _ (b := 4) (c := 0) (n := k.val) rfl (iv_toNat k) rfl _)) q
  have pay_5 : ∀ q, k0_pay35 (childRows x9 k.val v12) (trip.sl.r_24 i arg5 harg5 arg6 harg6 arg7 harg7 arg10 harg10 arg12 harg12 arg13 h1 k x4 x5 x6 x9 hx v12) (trip.sl.r_36 i arg10 harg10 h1 k x9) q = newRow x4 x5 x6 (childRows x9 k.val v12) (word x9 5 k.val 0) 5 q := by
    rw [e24, show trip.sl.r_36 i arg10 harg10 h1 k x9 = word x9 5 k.val 0 from (read_word harg10 x9 _ (b := 5) (c := 0) (n := k.val) rfl (iv_toNat k) rfl _)]; exact fun _ => rfl
  have pay_6 : ∀ q, k0_pay36 (childRows x9 k.val v12) (trip.sl.r_24 i arg5 harg5 arg6 harg6 arg7 harg7 arg10 harg10 arg12 harg12 arg13 h1 k x4 x5 x6 x9 hx v12) (trip.sl.r_38 i arg10 harg10 h1 k x9) q = newRow x4 x5 x6 (childRows x9 k.val v12) (word x9 6 k.val 0) 6 q := by
    rw [e24, show trip.sl.r_38 i arg10 harg10 h1 k x9 = word x9 6 k.val 0 from (read_word harg10 x9 _ (b := 6) (c := 0) (n := k.val) rfl (iv_toNat k) rfl _)]; exact fun _ => rfl
  have pay_7 : ∀ q, k0_pay1 (childRows x9 k.val v12) (trip.sl.r_24 i arg5 harg5 arg6 harg6 arg7 harg7 arg10 harg10 arg12 harg12 arg13 h1 k x4 x5 x6 x9 hx v12) (trip.sl.r_40 i arg10 harg10 h1 k x9) q = newRow x4 x5 x6 (childRows x9 k.val v12) (word x9 7 k.val 0) 7 q := by
    rw [e24, show trip.sl.r_40 i arg10 harg10 h1 k x9 = word x9 7 k.val 0 from (read_word harg10 x9 _ (b := 7) (c := 0) (n := k.val) rfl (iv_toNat k) rfl _)]; exact fun _ => rfl
  sl_step
  iapply Hk
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H9]
  · iexists _; isplitr; · ipureintro; exact harg10.read_unread _
    iexact H9
  isplitl [H12]
  · iexists _
    isplitr
    swap; iexact H12
    ipureintro
    funext y
    rw [e427]
    refine vec_step (r := (row (word x9 7 k.val 1)).val) (b := 7) _ _ y _ _ _ (congrArg (fun q => (![7, q, 0] : Fin 3 → Nat)) (read_word_row harg10 hx _ (b := 7) (c := 1) (n := k.val) (by decide) rfl (iv_toNat k) rfl _)) (fun h0 h1 => (pay_7 _).trans (tripVec_hit x4 x5 x6 x9 k.val v12 y 7 h0 h1).symm) (fun n7 => ?_)
    refine vec_step (r := (row (word x9 6 k.val 1)).val) (b := 6) _ _ y _ _ _ (congrArg (fun q => (![6, q, 0] : Fin 3 → Nat)) (read_word_row harg10 hx _ (b := 6) (c := 1) (n := k.val) (by decide) rfl (iv_toNat k) rfl _)) (fun h0 h1 => (pay_6 _).trans (tripVec_hit x4 x5 x6 x9 k.val v12 y 6 h0 h1).symm) (fun n6 => ?_)
    refine vec_step (r := (row (word x9 5 k.val 1)).val) (b := 5) _ _ y _ _ _ (congrArg (fun q => (![5, q, 0] : Fin 3 → Nat)) (read_word_row harg10 hx _ (b := 5) (c := 1) (n := k.val) (by decide) rfl (iv_toNat k) rfl _)) (fun h0 h1 => (pay_5 _).trans (tripVec_hit x4 x5 x6 x9 k.val v12 y 5 h0 h1).symm) (fun n5 => ?_)
    refine vec_step (r := (row (word x9 4 k.val 1)).val) (b := 4) _ _ y _ _ _ (congrArg (fun q => (![4, q, 0] : Fin 3 → Nat)) (read_word_row harg10 hx _ (b := 4) (c := 1) (n := k.val) (by decide) rfl (iv_toNat k) rfl _)) (fun h0 h1 => (pay_4 _).trans (tripVec_hit x4 x5 x6 x9 k.val v12 y 4 h0 h1).symm) (fun n4 => ?_)
    refine vec_step (r := (row (word x9 3 k.val 1)).val) (b := 3) _ _ y _ _ _ (congrArg (fun q => (![3, q, 0] : Fin 3 → Nat)) (read_word_row harg10 hx _ (b := 3) (c := 1) (n := k.val) (by decide) rfl (iv_toNat k) rfl _)) (fun h0 h1 => (pay_3 _).trans (tripVec_hit x4 x5 x6 x9 k.val v12 y 3 h0 h1).symm) (fun n3 => ?_)
    refine vec_step (r := (row (word x9 2 k.val 1)).val) (b := 2) _ _ y _ _ _ (congrArg (fun q => (![2, q, 0] : Fin 3 → Nat)) (read_word_row harg10 hx _ (b := 2) (c := 1) (n := k.val) (by decide) rfl (iv_toNat k) rfl _)) (fun h0 h1 => (pay_2 _).trans (tripVec_hit x4 x5 x6 x9 k.val v12 y 2 h0 h1).symm) (fun n2 => ?_)
    refine vec_step (r := (row (word x9 1 k.val 1)).val) (b := 1) _ _ y _ _ _ (congrArg (fun q => (![1, q, 0] : Fin 3 → Nat)) (read_word_row harg10 hx _ (b := 1) (c := 1) (n := k.val) (by decide) rfl (iv_toNat k) rfl _)) (fun h0 h1 => (pay_1 _).trans (tripVec_hit x4 x5 x6 x9 k.val v12 y 1 h0 h1).symm) (fun n1 => ?_)
    refine vec_step (r := (row (word x9 0 k.val 1)).val) (b := 0) _ _ y _ _ _ (congrArg (fun q => (![0, q, 0] : Fin 3 → Nat)) (read_word_row harg10 hx _ (b := 0) (c := 1) (n := k.val) (by decide) rfl (iv_toNat k) rfl _)) (fun h0 h1 => (pay_0 _).trans (tripVec_hit x4 x5 x6 x9 k.val v12 y 0 h0 h1).symm) (fun n0 => ?_)
    refine (congrFun (harg12.read_unread v12) y).trans (tripVec_miss x4 x5 x6 x9 k.val v12 y fun b hb => ?_).symm
    fin_cases b
    · exact n0 hb
    · exact n1 hb
    · exact n2 hb
    · exact n3 hb
    · exact n4 hb
    · exact n5 hb
    · exact n6 hb
    · exact n7 hb
  · iexists _, _
    isplitr
    swap; iexact H13
    ipureintro
    rfl

end Cert.KernelIdeal.Hand
-- ==== Proof.KI.Steps.lean ====
module

public import proofs.«01_k».proof.Proof.KI.Trip

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The vector buffer after the first `n` composition steps. -/
def tripN (x4 x5 : Vec F S512x512 .bf16) (x6 : Vec F S1x512 .f32) (x9 : Vec F S8x64x4 .i32) (v : Vec F S8x1024x512 .f32) : Nat → Vec F S8x1024x512 .f32
  | 0 => v
  | n + 1 => tripVec x4 x5 x6 x9 n (tripN x4 x5 x6 x9 v n)

/-- Rows `512 b` to `512 b + 511` of the flattened input: sentence `b`. -/
def sentence (x0 : Vec F S4096x1024 .f32) (b : Fin 8) : Vec F S512x1024 .f32 := fun p =>
  x0 (ix2 ⟨512 * b.val + (p 0).val, by have := b.isLt; have : (p 0).val < 512 := (p 0).isLt; omega⟩ (p 1))

/-- Positions of sentence `b`. -/
def posRow (x : Vec F S8x1x512 .i32) (b : Fin 8) : Vec F S1x1x512 .i32 := fun p => x (ix3 b 0 (p 2))

/-- The vector buffer before the first composition step: rows below 512 the placed word vectors, the rest zero. -/
def initVec (x0 : Vec F S4096x1024 .f32) (x1 : Vec F S1024x512 .bf16) (x2 x3 : Vec F S8x1x512 .i32) : Vec F S8x1024x512 .f32 := fun p =>
  if h : (p 1).val < 512 then k0_pay37 (sentence x0 (p 0)) x1 (posRow x2 (p 0)) (posRow x3 (p 0)) (ix3 0 ⟨(p 1).val, h⟩ (p 2))
  else k0_pay38 (ix3 0 ⟨(p 1).val - 512, by have : (p 1).val < 1024 := (p 1).isLt; omega⟩ (p 2))

/-- The vector buffer after the last composition step. -/
def finalVec (x0 : Vec F S4096x1024 .f32) (x1 : Vec F S1024x512 .bf16) (x2 x3 : Vec F S8x1x512 .i32)
    (x4 x5 : Vec F S512x512 .bf16) (x6 : Vec F S1x512 .f32) (x9 : Vec F S8x64x4 .i32) : Vec F S8x1024x512 .f32 :=
  tripN x4 x5 x6 x9 (initVec x0 x1 x2 x3) 64

theorem trips_eq : k0_t1_loop.trips = 64 := by decide +kernel

set_option maxHeartbeats 1000000 in
/-- All 64 composition steps, at the head of a program. -/
theorem steps (c : Dev nD) (i : grid0.Coords) (arg1 : Memref sig .tc .vmem S4096x1024 .f32) (harg1 : arg1.IsWhole) (arg2 : Memref sig .tc .vmem S1024x512 .bf16) (harg2 : arg2.IsWhole) (arg3 : Memref sig .tc .vmem S8x1x512 .i32) (harg3 : arg3.IsWhole) (arg4 : Memref sig .tc .vmem S8x1x512 .i32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x256 .bf16) (harg8 : arg8.IsWhole) (arg9 : Memref sig .tc .vmem S1x256 .f32) (harg9 : arg9.IsWhole) (arg10 : Memref sig .tc .smem S8x64x4 .i32) (harg10 : arg10.IsWhole) (arg11 : Memref sig .tc .vmem S8x512x256 .f32) (harg11 : arg11.IsWhole) (arg12 : Memref sig .tc .vmem S8x1024x512 .f32) (harg12 : arg12.IsWhole) (arg13 : Memref sig .tc .vmem S16x512 .f32) (harg13 : arg13.IsWhole) (h1 : k0_cond1 i = 1#1)
    (x4 x5 : Vec F S512x512 .bf16) (x6 : Vec F S1x512 .f32) (x9 : Vec F S8x64x4 .i32) (hx : RowsOk x9) (v12 : Vec F S8x1024x512 .f32)
    {β : Type} (kk : Unit → Prog (TpuEff nD τ sig (Elt F) Λ₀ .tc) β) (Q : β → sProp 𝕄) :
    iprop(owns (c : Thread nD τ) arg5 fullShare x4 ∗ owns (c : Thread nD τ) arg6 fullShare x5 ∗ owns (c : Thread nD τ) arg7 fullShare x6 ∗ owns (c : Thread nD τ) arg10 fullShare x9 ∗ owns (c : Thread nD τ) arg12 fullShare v12 ∗ (∃ d, owns (c : Thread nD τ) arg13 fullShare d)
      ∗ ((owns (c : Thread nD τ) arg5 fullShare x4 ∗ owns (c : Thread nD τ) arg6 fullShare x5 ∗ owns (c : Thread nD τ) arg7 fullShare x6 ∗ owns (c : Thread nD τ) arg10 fullShare x9 ∗ owns (c : Thread nD τ) arg12 fullShare (tripN x4 x5 x6 x9 v12 64) ∗ (∃ d, owns (c : Thread nD τ) arg13 fullShare d)) -∗ wp frame (wpE (defs₀ (F := F)) Variants.none c none) Set.univ (kk ⟨⟩) Q))
      ⊢ wp frame (wpE (defs₀ (F := F)) Variants.none c none) Set.univ (Scf.Loop.for k0_t1_loop (k0_t1_ok i h1) ⟨⟩ (k0_t1_body i arg1 harg1 arg2 harg2 arg3 harg3 arg4 harg4 arg5 harg5 arg6 harg6 arg7 harg7 arg8 harg8 arg9 harg9 arg10 harg10 arg11 harg11 arg12 harg12 arg13 harg13 h1) >>= kk) Q := by
  iintro ⟨H5, H6, H7, H10, H12, H13, Hk⟩
  iapply (Scf.wp_for_bind frame (wpE (defs₀ (F := F)) Variants.none c none) Set.univ k0_t1_loop.lb k0_t1_loop.ub k0_t1_loop.st (k0_t1_ok i h1) () (k0_t1_body i arg1 harg1 arg2 harg2 arg3 harg3 arg4 harg4 arg5 harg5 arg6 harg6 arg7 harg7 arg8 harg8 arg9 harg9 arg10 harg10 arg11 harg11 arg12 harg12 arg13 harg13 h1)
    (fun n _ => iprop(owns (c : Thread nD τ) arg5 fullShare x4 ∗ owns (c : Thread nD τ) arg6 fullShare x5 ∗ owns (c : Thread nD τ) arg7 fullShare x6 ∗ owns (c : Thread nD τ) arg10 fullShare x9 ∗ owns (c : Thread nD τ) arg12 fullShare (tripN x4 x5 x6 x9 v12 n) ∗ (∃ d, owns (c : Thread nD τ) arg13 fullShare d))) ?_) $$ [H5 H6 H7 H10 H12 H13]
  · intro k _
    iintro ⟨H5, H6, H7, H10, H12, ⟨%d, H13⟩⟩
    iapply (trip c i arg1 harg1 arg2 harg2 arg3 harg3 arg4 harg4 arg5 harg5 arg6 harg6 arg7 harg7 arg8 harg8 arg9 harg9 arg10 harg10 arg11 harg11 arg12 harg12 arg13 harg13 h1 k x4 x5 x6 x9 hx (tripN x4 x5 x6 x9 v12 k.val) d)
    isplitl [H5]; · iexact H5
    isplitl [H6]; · iexact H6
    isplitl [H7]; · iexact H7
    isplitl [H10]; · iexact H10
    isplitl [H12]; · iexact H12
    isplitl [H13]; · iexact H13
    iintro H
    iexact H
  · isplitl [H5]; · iexact H5
    isplitl [H6]; · iexact H6
    isplitl [H7]; · iexact H7
    isplitl [H10]; · iexact H10
    isplitl [H12]; · iexact H12
    iexact H13
  · iintro %_ H
    iapply Hk
    iexact H

end Cert.KernelIdeal.Hand
-- ==== Proof.KI.Runs.lean ====
module

public import proofs.«01_k».proof.Proof.KI.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rows the second or later step of the grid reads: those below 512, or those from 512 on. -/
def half (i : grid0.Coords) (v : Vec F S8x1024x512 .f32) : Vec F S8x512x512 .f32 := fun p =>
  v (ix3 (p 0) ⟨((k0_off57 i) 1 + (p 1).val) % 1024, Nat.mod_lt _ (by decide)⟩ (p 2))

/-- A load of half of the vector buffer. -/
theorem read_half {M : Memref sig .tc .vmem S8x1024x512 .f32} (hM : M.IsWhole) (v : Vec F S8x1024x512 .f32) (i : grid0.Coords)
    (h : ∀ a, (k0_off57 i) a + S8x512x512.size a ≤ S8x1024x512.size a) :
    View.readAt (Elt F) M.view (Rect.unit (s := S8x1024x512) (k0_off57 i) S8x512x512.size h).toLoadRect (hM.unread v) = half i v := by
  funext p
  rw [hM.readAt_unread]
  unfold half
  congr 1
  funext a
  apply Fin.ext
  have h1 : k0_off57 i 1 + 512 ≤ 1024 := h 1
  have hp : (p 1).val < 512 := (p 1).isLt
  fin_cases a
  · show 0 + 1 * (p 0).val = (p 0).val; omega
  · show k0_off57 i 1 + 1 * (p 1).val = (k0_off57 i 1 + (p 1).val) % 1024; rw [Nat.mod_eq_of_lt (by omega)]; omega
  · show 0 + 1 * (p 2).val = (p 2).val; omega

/-- One whole write of a memref reads back the value written. -/
theorem read_whole3 {M : Memref sig .tc .vmem S8x512x256 .f32} (f : M.view.ty.Contents (Elt F)) (w : Vec F S8x512x256 .f32)
    (inb : ∀ a, (![0, 0, 0] : Fin 3 → Nat) a + S8x512x256.size a ≤ S8x512x256.size a) :
    M.view.read (Elt F) (M.view.writes (Elt F) f [(⟨Rect.unit (s := S8x512x256) ![0, 0, 0] S8x512x256.size inb, w⟩ : View.Piece (Elt F) S8x512x256 .f32)]) = w := by
  funext y
  refine View.read_writes_cons_unit_of_mem M.view f inb w [] y y rfl fun a => ?_
  fin_cases a
  · show (y 0).val = 0 + (y 0).val; omega
  · show (y 1).val = 0 + (y 1).val; omega
  · show (y 2).val = 0 + (y 2).val; omega

/-- The output block depends only on its three operands. -/
theorem out_congr {a a' : Vec F S8x512x512 .f32} {b b' : Vec F S512x256 .bf16} {c c' : Vec F S1x256 .f32}
    (ha : a = a') (hb : b = b') (hc : c = c') : k0_pay2 a b c = k0_pay2 a' b' c' := by
  subst ha hb hc; rfl

/-- Reading a list of half-sentence writes of the vector buffer, one piece at a time. -/
theorem block_step {M : Memref sig .tc .vmem S8x1024x512 .f32} (f : M.view.ty.Contents (Elt F)) (G : Vec F S8x1024x512 .f32) (y : S8x1024x512.Idx)
    {off : Fin 3 → Nat} {b o : Nat} (inb : ∀ a, off a + S1x512x512.size a ≤ S8x1024x512.size a)
    (w : (Rect.unit (s := S8x1024x512) off S1x512x512.size inb).shape.Idx → Elt F .f32) (L : List (View.Piece (Elt F) S8x1024x512 .f32))
    (hoff : off = ![b, o, 0])
    (hw : (y 0).val = b → ∀ (h1 : o ≤ (y 1).val) (h2 : (y 1).val < o + 512), w (ix3 0 ⟨(y 1).val - o, by omega⟩ (y 2)) = G y)
    (hL : ¬ ((y 0).val = b ∧ o ≤ (y 1).val ∧ (y 1).val < o + 512) → M.view.read (Elt F) (M.view.writes (Elt F) f L) y = G y) :
    M.view.read (Elt F) (M.view.writes (Elt F) f ((⟨Rect.unit (s := S8x1024x512) off S1x512x512.size inb, w⟩ : View.Piece (Elt F) S8x1024x512 .f32) :: L)) y = G y := by
  by_cases h : (y 0).val = b
  · by_cases h1 : o ≤ (y 1).val ∧ (y 1).val < o + 512
    · rw [View.read_writes_cons_unit_of_mem M.view f inb w L y (ix3 0 ⟨(y 1).val - o, by omega⟩ (y 2)) hoff (by
        intro a
        fin_cases a
        · show (y 0).val = b + 0; omega
        · show (y 1).val = o + ((y 1).val - o); omega
        · show (y 2).val = 0 + (y 2).val; omega)]
      exact hw h h1.1 h1.2
    · rw [View.read_writes_cons_unit_of_not_mem M.view f inb w L y hoff 1 (by
        show (y 1).val < o ∨ o + 512 ≤ (y 1).val; omega)]
      exact hL fun e => h1 e.2
  · rw [View.read_writes_cons_unit_of_not_mem M.view f inb w L y hoff 0 (by
        show (y 0).val < b ∨ b + 1 ≤ (y 0).val; omega)]
    exact hL fun e => h e.1

/-- A row of the initial vector buffer below row 512. -/
theorem init_low (x0 : Vec F S4096x1024 .f32) (x1 : Vec F S1024x512 .bf16) (x2 x3 : Vec F S8x1x512 .i32) (y : S8x1024x512.Idx) (b : Fin 8)
    (h0 : (y 0).val = b.val) (h : (y 1).val < 0 + 512) :
    initVec x0 x1 x2 x3 y = k0_pay37 (sentence x0 b) x1 (posRow x2 b) (posRow x3 b) (ix3 0 ⟨(y 1).val - 0, by omega⟩ (y 2)) := by
  have hb : y 0 = b := Fin.ext h0
  unfold initVec
  rw [dif_pos (by omega), hb]
  rfl

/-- A row of the initial vector buffer from row 512 on. -/
theorem init_high (x0 : Vec F S4096x1024 .f32) (x1 : Vec F S1024x512 .bf16) (x2 x3 : Vec F S8x1x512 .i32) (y : S8x1024x512.Idx)
    (h : 512 ≤ (y 1).val) :
    initVec x0 x1 x2 x3 y = k0_pay38 (ix3 0 ⟨(y 1).val - 512, by have : (y 1).val < 1024 := (y 1).isLt; omega⟩ (y 2)) := by
  unfold initVec
  rw [dif_neg (by omega)]

/-- The tile of word vectors depends only on its four operands. -/
theorem tile_congr {a a' : Vec F S512x1024 .f32} {b b' : Vec F S1024x512 .bf16} {c c' d d' : Vec F S1x1x512 .i32}
    (ha : a = a') (hb : b = b') (hc : c = c') (hd : d = d') : k0_pay37 a b c d = k0_pay37 a' b' c' d' := by
  subst ha hb hc hd; rfl

/-- A load of one sentence of the flattened input. -/
theorem read_sentence {M : Memref sig .tc .vmem S4096x1024 .f32} (hM : M.IsWhole) (x : Vec F S4096x1024 .f32) (b : Fin 8)
    (h : ∀ a, (![512 * b.val, 0] : Fin 2 → Nat) a + S512x1024.size a ≤ S4096x1024.size a) :
    View.readAt (Elt F) M.view (Rect.unit (s := S4096x1024) ![512 * b.val, 0] S512x1024.size h).toLoadRect (hM.unread x) = sentence x b := by
  funext p
  rw [hM.readAt_unread]
  unfold sentence
  congr 1
  funext a
  apply Fin.ext
  fin_cases a
  · show 512 * b.val + 1 * (p 0).val = 512 * b.val + (p 0).val; omega
  · show 0 + 1 * (p 1).val = (p 1).val; omega

/-- A load of one sentence's positions. -/
theorem read_pos {M : Memref sig .tc .vmem S8x1x512 .i32} (hM : M.IsWhole) (x : Vec F S8x1x512 .i32) (b : Fin 8)
    (h : ∀ a, (![b.val, 0, 0] : Fin 3 → Nat) a + S1x1x512.size a ≤ S8x1x512.size a) :
    View.readAt (Elt F) M.view (Rect.unit (s := S8x1x512) ![b.val, 0, 0] S1x1x512.size h).toLoadRect (hM.unread x) = posRow x b := by
  funext p
  rw [hM.readAt_unread]
  unfold posRow
  congr 1
  funext a
  apply Fin.ext
  fin_cases a
  · show b.val + 1 * (p 0).val = b.val; have hp : (p 0).val < 1 := (p 0).isLt; omega
  · show 0 + 1 * (p 1).val = 0; have hp : (p 1).val < 1 := (p 1).isLt; omega
  · show 0 + 1 * (p 2).val = (p 2).val; omega

theorem tile1_eq (a : Vec F S512x1024 .f32) (b : Vec F S1024x512 .bf16) (c d : Vec F S1x1x512 .i32) :
    k0_pay39 (iota .tc S512x512 32 [0] iota_S512x512_d0_w32) a b c d = k0_pay37 a b c d := rfl

theorem tile2_eq (a : Vec F S512x1024 .f32) (b : Vec F S1024x512 .bf16) (c d : Vec F S1x1x512 .i32) :
    k0_pay41 (iota .tc S512x512 32 [0] iota_S512x512_d0_w32) a b c d = k0_pay37 a b c d := rfl

theorem tile3_eq (a : Vec F S512x1024 .f32) (b : Vec F S1024x512 .bf16) (c d : Vec F S1x1x512 .i32) :
    k0_pay43 (iota .tc S512x512 32 [0] iota_S512x512_d0_w32) a b c d = k0_pay37 a b c d := rfl

theorem tile4_eq (a : Vec F S512x1024 .f32) (b : Vec F S1024x512 .bf16) (c d : Vec F S1x1x512 .i32) :
    k0_pay45 (iota .tc S512x512 32 [0] iota_S512x512_d0_w32) a b c d = k0_pay37 a b c d := rfl

theorem tile5_eq (a : Vec F S512x1024 .f32) (b : Vec F S1024x512 .bf16) (c d : Vec F S1x1x512 .i32) :
    k0_pay47 (iota .tc S512x512 32 [0] iota_S512x512_d0_w32) a b c d = k0_pay37 a b c d := rfl

theorem tile6_eq (a : Vec F S512x1024 .f32) (b : Vec F S1024x512 .bf16) (c d : Vec F S1x1x512 .i32) :
    k0_pay49 (iota .tc S512x512 32 [0] iota_S512x512_d0_w32) a b c d = k0_pay37 a b c d := rfl

theorem tile7_eq (a : Vec F S512x1024 .f32) (b : Vec F S1024x512 .bf16) (c d : Vec F S1x1x512 .i32) :
    k0_pay51 (iota .tc S512x512 32 [0] iota_S512x512_d0_w32) a b c d = k0_pay37 a b c d := rfl

set_option maxHeartbeats 1000000 in
/-- The body at one of the first six grid points: the output block is set to the constant payload. -/
theorem runA (c : Dev nD) (i : grid0.Coords) (arg1 : Memref sig .tc .vmem S4096x1024 .f32) (harg1 : arg1.IsWhole) (arg2 : Memref sig .tc .vmem S1024x512 .bf16) (harg2 : arg2.IsWhole) (arg3 : Memref sig .tc .vmem S8x1x512 .i32) (harg3 : arg3.IsWhole) (arg4 : Memref sig .tc .vmem S8x1x512 .i32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x256 .bf16) (harg8 : arg8.IsWhole) (arg9 : Memref sig .tc .vmem S1x256 .f32) (harg9 : arg9.IsWhole) (arg10 : Memref sig .tc .smem S8x64x4 .i32) (harg10 : arg10.IsWhole) (arg11 : Memref sig .tc .vmem S8x512x256 .f32) (harg11 : arg11.IsWhole) (arg12 : Memref sig .tc .vmem S8x1024x512 .f32) (harg12 : arg12.IsWhole) (arg13 : Memref sig .tc .vmem S16x512 .f32) (harg13 : arg13.IsWhole) (hc0 : ¬ k0_cond1 i = 1#1) (hc1 : ¬ k0_cond2 i = 1#1) (hc2 : k0_cond3 i = 1#1)
    (x0 : Vec F S4096x1024 .f32) (x1 : Vec F S1024x512 .bf16) (x2 : Vec F S8x1x512 .i32) (x3 : Vec F S8x1x512 .i32) (x4 : Vec F S512x512 .bf16) (x5 : Vec F S512x512 .bf16) (x6 : Vec F S1x512 .f32) (x7 : Vec F S512x256 .bf16) (x8 : Vec F S1x256 .f32) (x9 : Vec F S8x64x4 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare k0_pay3) -∗ K ⟨⟩))
      ⊢ wp frame (wpE (defs₀ (F := F)) Variants.none c none) Set.univ (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  simp only [k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  iexists _
  isplitr
  swap; iexact H10
  ipureintro
  exact read_whole3 _ _ _

set_option maxHeartbeats 1000000 in
/-- The body at one of the last five grid points: the output block is the linear layer of half of the vector buffer. -/
theorem runC (c : Dev nD) (i : grid0.Coords) (arg1 : Memref sig .tc .vmem S4096x1024 .f32) (harg1 : arg1.IsWhole) (arg2 : Memref sig .tc .vmem S1024x512 .bf16) (harg2 : arg2.IsWhole) (arg3 : Memref sig .tc .vmem S8x1x512 .i32) (harg3 : arg3.IsWhole) (arg4 : Memref sig .tc .vmem S8x1x512 .i32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x256 .bf16) (harg8 : arg8.IsWhole) (arg9 : Memref sig .tc .vmem S1x256 .f32) (harg9 : arg9.IsWhole) (arg10 : Memref sig .tc .smem S8x64x4 .i32) (harg10 : arg10.IsWhole) (arg11 : Memref sig .tc .vmem S8x512x256 .f32) (harg11 : arg11.IsWhole) (arg12 : Memref sig .tc .vmem S8x1024x512 .f32) (harg12 : arg12.IsWhole) (arg13 : Memref sig .tc .vmem S16x512 .f32) (harg13 : arg13.IsWhole) (hc0 : ¬ k0_cond1 i = 1#1) (hc1 : k0_cond2 i = 1#1) (hc2 : ¬ k0_cond3 i = 1#1)
    (x0 : Vec F S4096x1024 .f32) (x1 : Vec F S1024x512 .bf16) (x2 : Vec F S8x1x512 .i32) (x3 : Vec F S8x1x512 .i32) (x4 : Vec F S512x512 .bf16) (x5 : Vec F S512x512 .bf16) (x6 : Vec F S1x512 .f32) (x7 : Vec F S512x256 .bf16) (x8 : Vec F S1x256 .f32) (x9 : Vec F S8x64x4 .i32) (v12 : Vec F S8x1024x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare v12
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (k0_pay2 (half i v12) x7 x8) ∗ owns (c : Thread nD τ) arg12 fullShare v12) -∗ K ⟨⟩))
      ⊢ wp frame (wpE (defs₀ (F := F)) Variants.none c none) Set.univ (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  simp only [k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f12, %hf12, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf12
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _
    isplitr
    swap; iexact H10
    ipureintro
    rw [read_whole3]
    exact out_congr (read_half harg12 v12 i _) (read_all2 harg8 x7 _) (read_all2 harg9 x8 _)
  · iexists _; isplitr; · ipureintro; exact harg12.read_unread _
    iexact H12

set_option maxHeartbeats 4000000 in
/-- The body at grid point 6: the vector buffer is built, the 64 composition steps run, and the output block is the
linear layer of the lower half. -/
theorem runB (c : Dev nD) (i : grid0.Coords) (arg1 : Memref sig .tc .vmem S4096x1024 .f32) (harg1 : arg1.IsWhole) (arg2 : Memref sig .tc .vmem S1024x512 .bf16) (harg2 : arg2.IsWhole) (arg3 : Memref sig .tc .vmem S8x1x512 .i32) (harg3 : arg3.IsWhole) (arg4 : Memref sig .tc .vmem S8x1x512 .i32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x256 .bf16) (harg8 : arg8.IsWhole) (arg9 : Memref sig .tc .vmem S1x256 .f32) (harg9 : arg9.IsWhole) (arg10 : Memref sig .tc .smem S8x64x4 .i32) (harg10 : arg10.IsWhole) (arg11 : Memref sig .tc .vmem S8x512x256 .f32) (harg11 : arg11.IsWhole) (arg12 : Memref sig .tc .vmem S8x1024x512 .f32) (harg12 : arg12.IsWhole) (arg13 : Memref sig .tc .vmem S16x512 .f32) (harg13 : arg13.IsWhole) (hc0 : k0_cond1 i = 1#1) (hc1 : k0_cond2 i = 1#1) (hc2 : ¬ k0_cond3 i = 1#1)
    (x0 : Vec F S4096x1024 .f32) (x1 : Vec F S1024x512 .bf16) (x2 : Vec F S8x1x512 .i32) (x3 : Vec F S8x1x512 .i32) (x4 : Vec F S512x512 .bf16) (x5 : Vec F S512x512 .bf16) (x6 : Vec F S1x512 .f32) (x7 : Vec F S512x256 .bf16) (x8 : Vec F S1x256 .f32) (x9 : Vec F S8x64x4 .i32) (hx : RowsOk x9) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (k0_pay2 (half i (finalVec x0 x1 x2 x3 x4 x5 x6 x9)) x7 x8) ∗ owns (c : Thread nD τ) arg12 fullShare (finalVec x0 x1 x2 x3 x4 x5 x6 x9) ∗ (∃ d, owns (c : Thread nD τ) arg13 fullShare d)) -∗ K ⟨⟩))
      ⊢ wp frame (wpE (defs₀ (F := F)) Variants.none c none) Set.univ (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  simp only [k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d12, %f12, -, H12⟩, ⟨%d13, %f13, -, H13⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc0 | sl_exact hc1 | sl_exact hc2)
  have e12 : View.read (Elt F) arg12.view (arg12.view.writes (Elt F) arg12.view.junk (runB.sl.H12_16 c arg1 harg1 arg2 harg2 arg3 harg3 arg4 harg4 x0 x1 x2 x3)) = initVec x0 x1 x2 x3 := by
    clear hf0 hf1 hf2 hf3 hf4 hf5 hf6 hf7 hf8 hf9
    delta runB.sl.H12_16
    funext y
    refine block_step _ _ y (b := 7) (o := 512) _ _ _ rfl (fun h0 h1 h2 => (init_high x0 x1 x2 x3 y h1).symm) (fun n7h => ?_)
    refine block_step _ _ y (b := 7) (o := 0) _ _ _ rfl (fun h0 h1 h2 => (congrFun ((tile7_eq _ _ _ _).trans (tile_congr (read_sentence harg1 x0 7 _) (read_all2 harg2 x1 _) (read_pos harg3 x2 7 _) (read_pos harg4 x3 7 _))) _).trans (init_low x0 x1 x2 x3 y 7 h0 h2).symm) (fun n7l => ?_)
    refine block_step _ _ y (b := 6) (o := 512) _ _ _ rfl (fun h0 h1 h2 => (init_high x0 x1 x2 x3 y h1).symm) (fun n6h => ?_)
    refine block_step _ _ y (b := 6) (o := 0) _ _ _ rfl (fun h0 h1 h2 => (congrFun ((tile6_eq _ _ _ _).trans (tile_congr (read_sentence harg1 x0 6 _) (read_all2 harg2 x1 _) (read_pos harg3 x2 6 _) (read_pos harg4 x3 6 _))) _).trans (init_low x0 x1 x2 x3 y 6 h0 h2).symm) (fun n6l => ?_)
    refine block_step _ _ y (b := 5) (o := 512) _ _ _ rfl (fun h0 h1 h2 => (init_high x0 x1 x2 x3 y h1).symm) (fun n5h => ?_)
    refine block_step _ _ y (b := 5) (o := 0) _ _ _ rfl (fun h0 h1 h2 => (congrFun ((tile5_eq _ _ _ _).trans (tile_congr (read_sentence harg1 x0 5 _) (read_all2 harg2 x1 _) (read_pos harg3 x2 5 _) (read_pos harg4 x3 5 _))) _).trans (init_low x0 x1 x2 x3 y 5 h0 h2).symm) (fun n5l => ?_)
    refine block_step _ _ y (b := 4) (o := 512) _ _ _ rfl (fun h0 h1 h2 => (init_high x0 x1 x2 x3 y h1).symm) (fun n4h => ?_)
    refine block_step _ _ y (b := 4) (o := 0) _ _ _ rfl (fun h0 h1 h2 => (congrFun ((tile4_eq _ _ _ _).trans (tile_congr (read_sentence harg1 x0 4 _) (read_all2 harg2 x1 _) (read_pos harg3 x2 4 _) (read_pos harg4 x3 4 _))) _).trans (init_low x0 x1 x2 x3 y 4 h0 h2).symm) (fun n4l => ?_)
    refine block_step _ _ y (b := 3) (o := 512) _ _ _ rfl (fun h0 h1 h2 => (init_high x0 x1 x2 x3 y h1).symm) (fun n3h => ?_)
    refine block_step _ _ y (b := 3) (o := 0) _ _ _ rfl (fun h0 h1 h2 => (congrFun ((tile3_eq _ _ _ _).trans (tile_congr (read_sentence harg1 x0 3 _) (read_all2 harg2 x1 _) (read_pos harg3 x2 3 _) (read_pos harg4 x3 3 _))) _).trans (init_low x0 x1 x2 x3 y 3 h0 h2).symm) (fun n3l => ?_)
    refine block_step _ _ y (b := 2) (o := 512) _ _ _ rfl (fun h0 h1 h2 => (init_high x0 x1 x2 x3 y h1).symm) (fun n2h => ?_)
    refine block_step _ _ y (b := 2) (o := 0) _ _ _ rfl (fun h0 h1 h2 => (congrFun ((tile2_eq _ _ _ _).trans (tile_congr (read_sentence harg1 x0 2 _) (read_all2 harg2 x1 _) (read_pos harg3 x2 2 _) (read_pos harg4 x3 2 _))) _).trans (init_low x0 x1 x2 x3 y 2 h0 h2).symm) (fun n2l => ?_)
    refine block_step _ _ y (b := 1) (o := 512) _ _ _ rfl (fun h0 h1 h2 => (init_high x0 x1 x2 x3 y h1).symm) (fun n1h => ?_)
    refine block_step _ _ y (b := 1) (o := 0) _ _ _ rfl (fun h0 h1 h2 => (congrFun ((tile1_eq _ _ _ _).trans (tile_congr (read_sentence harg1 x0 1 _) (read_all2 harg2 x1 _) (read_pos harg3 x2 1 _) (read_pos harg4 x3 1 _))) _).trans (init_low x0 x1 x2 x3 y 1 h0 h2).symm) (fun n1l => ?_)
    refine block_step _ _ y (b := 0) (o := 512) _ _ _ rfl (fun h0 h1 h2 => (init_high x0 x1 x2 x3 y h1).symm) (fun n0h => ?_)
    refine block_step _ _ y (b := 0) (o := 0) _ _ _ rfl (fun h0 h1 h2 => (congrFun ((tile_congr (read_sentence harg1 x0 0 _) (read_all2 harg2 x1 _) (read_pos harg3 x2 0 _) (read_pos harg4 x3 0 _))) _).trans (init_low x0 x1 x2 x3 y 0 h0 h2).symm) (fun n0l => ?_)
    exact absurd (show (y 0).val < 8 from (y 0).isLt) (by have : (y 1).val < 1024 := (y 1).isLt; omega)
  iapply (steps c i arg1 harg1 arg2 harg2 arg3 harg3 arg4 harg4 arg5 harg5 arg6 harg6 arg7 harg7 arg8 harg8 arg9 harg9 arg10 harg10 arg11 harg11 arg12 harg12 arg13 harg13 hc0 x4 x5 x6 x9 hx (initVec x0 x1 x2 x3))
  unfold owns
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H9]
  · iexists _; isplitr; · ipureintro; exact harg10.read_unread _
    iexact H9
  isplitl [H12]
  · iexists _; isplitr
    swap; iexact H12
    ipureintro
    exact e12
  isplitl [H13]
  · iexists _, _; isplitr
    swap; iexact H13
    ipureintro; rfl
  clear hf4 hf5 hf6 hf9
  iintro ⟨⟨%f4, %hf4, H4⟩, ⟨%f5, %hf5, H5⟩, ⟨%f6, %hf6, H6⟩, ⟨%f9, %hf9, H9⟩, ⟨%f12, %hf12, H12⟩, ⟨%d13, %f13, -, H13⟩⟩
  obtain rfl := harg5.eq_unread hf4; obtain rfl := harg6.eq_unread hf5; obtain rfl := harg7.eq_unread hf6; obtain rfl := harg10.eq_unread hf9; obtain rfl := harg12.eq_unread hf12
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _
    isplitr
    swap; iexact H10
    ipureintro
    rw [read_whole3]
    exact out_congr (read_half harg12 _ i _) (read_all2 harg8 x7 _) (read_all2 harg9 x8 _)
  isplitl [H12]
  · iexists _; isplitr; · ipureintro; exact harg12.read_unread _
    iexact H12
  · iexists _, _
    isplitr
    swap; iexact H13
    ipureintro; rfl

end Cert.KernelIdeal.Hand
-- ==== Proof.KI.Launch.lean ====
module

public import proofs.«01_k».proof.Proof.KI.Runs
public import proofs.«01_k».proof.Proof.Gen.KernelIdeal.Frame
public import proofs.«01_k».proof.Proof.Gen.KernelIdeal.Points
public import proofs.«01_k».proof.Proof.Gen.KernelIdeal.Launch
public import Idealize.ShloMosaic.Lib.Pipeline.FrameBody
public import Idealize.ShloMosaic.Lib.Affine
public import Idealize.ShloMosaic.Lib.Decide
public import Idealize.ShloMosaic.Lib.Claim

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case each point of the grid is in -/

theorem npoints : cfg0.N = 12 := N_0

/-- The vector buffer is built at point 6 and nowhere else. -/
theorem builds_iff : ∀ t : Fin cfg0.N, k0_cond1 (grid0.coords t) = 1#1 ↔ t.val = 6 :=
  (by decide +kernel : ∀ t : Fin grid0.N, k0_cond1 (grid0.coords t) = 1#1 ↔ t.val = 6)

/-- The points from 6 on write products. -/
theorem writes_iff : ∀ t : Fin cfg0.N, k0_cond2 (grid0.coords t) = 1#1 ↔ 6 ≤ t.val :=
  (by decide +kernel : ∀ t : Fin grid0.N, k0_cond2 (grid0.coords t) = 1#1 ↔ 6 ≤ t.val)

/-- The points before 6 write zeros. -/
theorem zeros_iff : ∀ t : Fin cfg0.N, k0_cond3 (grid0.coords t) = 1#1 ↔ t.val < 6 :=
  (by decide +kernel : ∀ t : Fin grid0.N, k0_cond3 (grid0.coords t) = 1#1 ↔ t.val < 6)

/-- Point 6 of the grid. -/
def six : Fin cfg0.N := ⟨6, by rw [npoints]; decide⟩

/-- The output block is written at every point. -/
theorem live10 : ∀ t : Fin cfg0.N, cfg0.idle 10 (grid0.coords t) = false :=
  (by decide +kernel : ∀ t : Fin grid0.N, cfg0.idle 10 (grid0.coords t) = false)

/-! ## The proof data -/

/-- The vector buffer once built: the initial rows and all the trips, of the blocks staged at point 6. -/
def vecs (c : Dev nD) : Vec F S8x1024x512 .f32 :=
  finalVec (iblk m c 0 six) (iblk m c 1 six) (iblk m c 2 six) (iblk m c 3 six) (iblk m c 4 six) (iblk m c 5 six) (iblk m c 6 six) (iblk m c 9 six)

/-- What a point leaves in the output block. -/
def outBlk (c : Dev nD) (t : Fin cfg0.N) : Vec F S8x512x256 .f32 :=
  if t.val < 6 then k0_pay3 else k0_pay2 (half (grid0.coords t) (vecs m c)) (iblk m c 7 t) (iblk m c 8 t)

/-- What is kept from point to point: up to point 6 nothing is known of the scratch buffers; afterwards the vector
    buffer holds the built rows. -/
def kept (c : Dev nD) (t : Fin (cfg0.N + 1)) : sProp 𝕄 :=
  if t.val ≤ 6 then Pipeline.ΦA spec0 c
  else iprop(iprop(owns (c : Thread nD τ) (Memref.whole cc0_scratch0) fullShare (vecs m c) ∗ (∃ d, owns (c : Thread nD τ) (Memref.whole cc0_scratch1) fullShare d)) ∗ (∃ r, prngReg c r))

/-- The launch's proof data: arrays as the region finds them, each input buffer at its block, the output buffer at what
    the point wrote. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outBlk m c t
  Φ t := kept m c t
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) : (dats m 0 c).after 10 t = outBlk m c t := by dsimp only [dats]

abbrev stg0 (t : Fin cfg0.N) : Memref sig .tc .vmem S4096x1024 .f32 := win0_0.stage (cfg0.slots t 0)
abbrev stg1 (t : Fin cfg0.N) : Memref sig .tc .vmem S1024x512 .bf16 := win0_1.stage (cfg0.slots t 1)
abbrev stg2 (t : Fin cfg0.N) : Memref sig .tc .vmem S8x1x512 .i32 := win0_2.stage (cfg0.slots t 2)
abbrev stg3 (t : Fin cfg0.N) : Memref sig .tc .vmem S8x1x512 .i32 := win0_3.stage (cfg0.slots t 3)
abbrev stg4 (t : Fin cfg0.N) : Memref sig .tc .vmem S512x512 .bf16 := win0_4.stage (cfg0.slots t 4)
abbrev stg5 (t : Fin cfg0.N) : Memref sig .tc .vmem S512x512 .bf16 := win0_5.stage (cfg0.slots t 5)
abbrev stg6 (t : Fin cfg0.N) : Memref sig .tc .vmem S1x512 .f32 := win0_6.stage (cfg0.slots t 6)
abbrev stg7 (t : Fin cfg0.N) : Memref sig .tc .vmem S512x256 .bf16 := win0_7.stage (cfg0.slots t 7)
abbrev stg8 (t : Fin cfg0.N) : Memref sig .tc .vmem S1x256 .f32 := win0_8.stage (cfg0.slots t 8)
abbrev stg9 (t : Fin cfg0.N) : Memref sig .tc .smem S8x64x4 .i32 := win0_9.stage (cfg0.slots t 9)
abbrev stg10 (t : Fin cfg0.N) : Memref sig .tc .vmem S8x512x256 .f32 := win0_10.stage (cfg0.slots t 10)

/-- The scratch part of the launch's own invariant, as two whole buffers at any contents. -/
theorem anyScratch (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

theorem kept_early (c : Dev nD) (t : Fin (cfg0.N + 1)) (h : t.val ≤ 6) : kept m c t =
    iprop(iprop((∃ d, owns (c : Thread nD τ) (Memref.whole cc0_scratch0) fullShare d) ∗ (∃ d, owns (c : Thread nD τ) (Memref.whole cc0_scratch1) fullShare d)) ∗ (∃ r, prngReg c r)) := by
  rw [kept, if_pos h, anyScratch]

theorem kept_late (c : Dev nD) (t : Fin (cfg0.N + 1)) (h : ¬ t.val ≤ 6) : kept m c t =
    iprop(iprop(owns (c : Thread nD τ) (Memref.whole cc0_scratch0) fullShare (vecs m c) ∗ (∃ d, owns (c : Thread nD τ) (Memref.whole cc0_scratch1) fullShare d)) ∗ (∃ r, prngReg c r)) := by
  rw [kept, if_neg h]

/-! ## One point -/

/-- What the body is called with. -/
def ptPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d)))

/-- What the body gives back. -/
def ptPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 3600000 in
/-- The body at every point, given that the rows the words name are rows of the buffer. -/
theorem point (c : Dev nD) (hx : RowsOk (F := F) (iblk m c 9 six)) (t : Fin cfg0.N) :
    ptPre m c t ⊢ wp frame (wpE (defs₀ (F := F)) Variants.none c none) Set.univ (bodyAt0 t) (fun _ => ptPost m c t) := by
  unfold ptPre ptPost bodyAt0
  simp only [before_0, before_1, before_2, before_3, before_4, before_5, before_6, before_7, before_8, before_9]
  rw [show (dats m 0 c).owesAt () t.succ = (dats m 0 c).owesAt () t.castSucc from rfl]
  rw [show (dats m 0 c).Φ t.castSucc = kept m c t.castSucc from rfl, show (dats m 0 c).Φ t.succ = kept m c t.succ from rfl]
  rw [show (dats m 0 c).leavesExact 0 t = owns (c : Thread nD τ) (stg0 t) fullShare ((dats m 0 c).after 0 t) from by
    unfold Dat.leavesExact; rw [show cfg0.idle 0 (grid0.coords t) = false from rfl], after_0]
  rw [show (dats m 0 c).leavesExact 1 t = owns (c : Thread nD τ) (stg1 t) fullShare ((dats m 0 c).after 1 t) from by
    unfold Dat.leavesExact; rw [show cfg0.idle 1 (grid0.coords t) = false from rfl], after_1]
  rw [show (dats m 0 c).leavesExact 2 t = owns (c : Thread nD τ) (stg2 t) fullShare ((dats m 0 c).after 2 t) from by
    unfold Dat.leavesExact; rw [show cfg0.idle 2 (grid0.coords t) = false from rfl], after_2]
  rw [show (dats m 0 c).leavesExact 3 t = owns (c : Thread nD τ) (stg3 t) fullShare ((dats m 0 c).after 3 t) from by
    unfold Dat.leavesExact; rw [show cfg0.idle 3 (grid0.coords t) = false from rfl], after_3]
  rw [show (dats m 0 c).leavesExact 4 t = owns (c : Thread nD τ) (stg4 t) fullShare ((dats m 0 c).after 4 t) from by
    unfold Dat.leavesExact; rw [show cfg0.idle 4 (grid0.coords t) = false from rfl], after_4]
  rw [show (dats m 0 c).leavesExact 5 t = owns (c : Thread nD τ) (stg5 t) fullShare ((dats m 0 c).after 5 t) from by
    unfold Dat.leavesExact; rw [show cfg0.idle 5 (grid0.coords t) = false from rfl], after_5]
  rw [show (dats m 0 c).leavesExact 6 t = owns (c : Thread nD τ) (stg6 t) fullShare ((dats m 0 c).after 6 t) from by
    unfold Dat.leavesExact; rw [show cfg0.idle 6 (grid0.coords t) = false from rfl], after_6]
  rw [show (dats m 0 c).leavesExact 7 t = owns (c : Thread nD τ) (stg7 t) fullShare ((dats m 0 c).after 7 t) from by
    unfold Dat.leavesExact; rw [show cfg0.idle 7 (grid0.coords t) = false from rfl], after_7]
  rw [show (dats m 0 c).leavesExact 8 t = owns (c : Thread nD τ) (stg8 t) fullShare ((dats m 0 c).after 8 t) from by
    unfold Dat.leavesExact; rw [show cfg0.idle 8 (grid0.coords t) = false from rfl], after_8]
  rw [show (dats m 0 c).leavesExact 9 t = owns (c : Thread nD τ) (stg9 t) fullShare ((dats m 0 c).after 9 t) from by
    unfold Dat.leavesExact; rw [show cfg0.idle 9 (grid0.coords t) = false from rfl], after_9]
  rw [show (dats m 0 c).leavesExact 10 t = owns (c : Thread nD τ) (stg10 t) fullShare ((dats m 0 c).after 10 t) from by
    unfold Dat.leavesExact; rw [show cfg0.idle 10 (grid0.coords t) = false from live10 t], after_10]
  have hN : t.val < 12 := lt_of_lt_of_eq t.isLt npoints
  have hcs : t.castSucc.val = t.val := rfl
  have hsu : t.succ.val = t.val + 1 := rfl
  by_cases h0 : t.val < 6
  · rw [kept_early m c t.castSucc (by omega), kept_early m c t.succ (by omega), show outBlk m c t = k0_pay3 from if_pos h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runA c (grid0.coords t) _ _ _ _ _ _ _ _ _ _ _ _ _ _ _ _ _ _ _ _ _ _ _ _ _ _ (fun h => absurd ((builds_iff t).mp h) (by omega)) (fun h => absurd ((writes_iff t).mp h) (by omega)) ((zeros_iff t).mpr (by omega)) (iblk m c 0 t) (iblk m c 1 t) (iblk m c 2 t) (iblk m c 3 t) (iblk m c 4 t) (iblk m c 5 t) (iblk m c 6 t) (iblk m c 7 t) (iblk m c 8 t) (iblk m c 9 t)  _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iintro ⟨H0, H1, H2, H3, H4, H5, H6, H7, H8, H9, H10⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  by_cases h1 : t.val = 6
  · obtain rfl : t = six := Fin.ext h1
    rw [kept_early m c six.castSucc (by omega), kept_late m c six.succ (by omega), show outBlk m c six = k0_pay2 (half (grid0.coords six) (vecs m c)) (iblk m c 7 six) (iblk m c 8 six) from if_neg h0, vecs]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runB c (grid0.coords six) _ _ _ _ _ _ _ _ _ _ _ _ _ _ _ _ _ _ _ _ _ _ _ _ _ _ ((builds_iff six).mpr h1) ((writes_iff six).mpr (by omega)) (fun h => absurd ((zeros_iff six).mp h) (by omega)) (iblk m c 0 six) (iblk m c 1 six) (iblk m c 2 six) (iblk m c 3 six) (iblk m c 4 six) (iblk m c 5 six) (iblk m c 6 six) (iblk m c 7 six) (iblk m c 8 six) (iblk m c 9 six) hx _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [kept_late m c t.castSucc (by omega), kept_late m c t.succ (by omega), show outBlk m c t = k0_pay2 (half (grid0.coords t) (vecs m c)) (iblk m c 7 t) (iblk m c 8 t) from if_neg h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runC c (grid0.coords t) _ _ _ _ _ _ _ _ _ _ _ _ _ _ _ _ _ _ _ _ _ _ _ _ _ _ (fun h => absurd ((builds_iff t).mp h) (by omega)) ((writes_iff t).mpr (by omega)) (fun h => absurd ((zeros_iff t).mp h) (by omega)) (iblk m c 0 t) (iblk m c 1 t) (iblk m c 2 t) (iblk m c 3 t) (iblk m c 4 t) (iblk m c 5 t) (iblk m c 6 t) (iblk m c 7 t) (iblk m c 8 t) (iblk m c 9 t) (vecs m c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    iintro ⟨H0, H1, H2, H3, H4, H5, H6, H7, H8, H9, H10, HS0⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem body_row (t : Fin cfg0.N) :
    defs₀ (F := F) .tc cfg0.body (cfg0.bodyArgs t (cfg0.slots t)) = bodyAt0 t := by
  unfold defs₀; rw [Defs.onTc_tc]

/-- The body, as the pipeline asks for it. -/
theorem body_ok (c : Dev nD) (hx : RowsOk (F := F) (iblk m c 9 six)) :
    BodyObligation (dats (F := F) m 0 c) (defs₀ (F := F)) Variants.none () Set.univ := fun t => by
  rw [bigSep_W0, bigSep_W0, body_row]
  exact triple_restated (point m c hx t) rfl .rfl fun _ => .rfl

/-! ## The run and the frame -/

set_option backward.isDefEq.respectTransparency.types false in
/-- The launch: every array of the pipeline ends at what the proof data says, every other buffer as the region found it,
    and every semaphore counter is zero. -/
theorem run_quiet (hx : ∀ c, RowsOk (F := F) (iblk m c 9 six)) :
    θ_run defs (onTc (τ := τ) (main (F := F))) (s₀ m ρ) (fun r => Pipeline.FramePost cfgs (dats m) (0 : Fin 1) (V m) r ∧ r.2.sem = fun _ => 0) :=
  Pipeline.θ_run_frame_track (Q' := _) cfgs (dats m) (0 : Fin 1) launch0 defs₀ Variants.none m ρ main
    (hbody := fun c => (body_ok m c (hx c)).loose) (hshare := fun c => (dats m 0 c).share_full fun _ => rfl)
    (howed := fun _ _ => rfl) (V := V m) (hmain := hmain m Variants.none) (hA := A_eq m)
    (hin := fun c => by
      rw [show (dats m 0 c).Φ 0 = kept m c 0 from rfl, kept_early m c 0 (by decide), anyScratch])
    (hout := fun c => by
      rw [show (dats m 0 c).Φ (Fin.last _) = kept m c (Fin.last _) from rfl,
        kept_late m c _ (by rw [show (Fin.last cfg0.N).val = cfg0.N from rfl, npoints]; decide), anyScratch]
      iintro ⟨⟨HS0, HS1⟩, Hg⟩
      isplitl [HS0 HS1]
      · isplitl [HS0]
        · iexists _; iexact HS0
        iexact HS1
      iexact Hg)

theorem run_post (hx : ∀ c, RowsOk (F := F) (iblk m c 9 six)) :
    θ_run defs (onTc (τ := τ) (main (F := F))) (s₀ m ρ) (Pipeline.FramePost cfgs (dats m) (0 : Fin 1) (V m)) :=
  (θ_run defs _ _).mono (fun _ h => h.1) (run_quiet m ρ hx)

/-- Every argument array ends as it was and every semaphore counter ends at zero. -/
theorem frame_run (hx : ∀ c, RowsOk (F := F) (iblk m c 9 six)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_post m ρ hx)) ((θ_run defs _ _).mono (fun _ h => h.2) (run_quiet m ρ hx))

end Cert.KernelIdeal.Hand

end
-- ==== Proof.KI.Rows.lean ====
module

public import proofs.«01_k».proof.Proof.KI.Launch
public import proofs.«01_k».proof.Proof.PreRows
public import proofs.«01_k».proof.Defs
public import Idealize.ShloMosaic.Lib.Pipeline.ValueKit
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-- The block indices of the whole-array word window. -/
theorem idx9 : ∀ t : Fin cfg0.N, win0_9.index t = ![0, 0, 0] := (by decide +kernel : ∀ t : Fin grid0.N, _)

/-- The staged words are the argument array. -/
theorem iblk9 (c : Dev nD) (t) : iblk m c 9 t = m ((c : Thread nD τ).loc main_arg2) := by
  rw [← V_main_arg2 m c]; blk_ext! [iblk, idx9 t]

/-- Words whose last three columns are below 1024 name rows of the buffer. -/
theorem rowsOk_of (x : Vec F S8x64x4 .i32) (h : ∀ (i : Fin 8) (j : Fin 64) (k : Fin 3), (x (ix3 i j k.succ)).toNat < 1024) : RowsOk x := by
  intro p hp
  have h2 : (p 2).val < 4 := (p 2).isLt
  have := h (p 0) (p 1) ⟨(p 2).val - 1, by omega⟩
  have e : ix3 (p 0) (p 1) (⟨(p 2).val - 1, by omega⟩ : Fin 3).succ = p := by
    refine Eq.trans ?_ (ix3_eta p)
    exact congrArg (ix3 (p 0) (p 1)) (Fin.ext (by simp; omega))
  exact lt_of_eq_of_lt (congrArg (fun q => (x q).toNat) e.symm) this

/-- The staged words name rows of the buffer where the first precondition holds. -/
theorem rowsOk (m : (ℓ : Loc nD τ sig) → Buf (Elt Ideal) ℓ) (h : Cert.Pre_KernelIdeal m) (c : Dev nD) (t) : RowsOk (F := Ideal) (iblk m c 9 t) := by
  rw [iblk9]
  exact rowsOk_of _ (Cert.Hand.rows_lt _ _ _ _ _ _ _ _ _ _ (h c))

end Cert.KernelIdeal.Hand

end
-- ==== Proof.Math.Fourier.lean ====
module

public import Mathlib.Analysis.SpecialFunctions.Trigonometric.Basic
public import Mathlib.Analysis.SpecialFunctions.Trigonometric.Complex
public import Mathlib.Algebra.BigOperators.Fin
public import Mathlib.Algebra.BigOperators.Field
public import Mathlib.Tactic.Ring
public import Mathlib.Tactic.NormNum
public import Mathlib.Tactic.Linarith
public import Mathlib.Tactic.FieldSimp

@[expose] public section

noncomputable section

namespace Cert.Hand

open Real Finset

/-- The angle of the transform's tables: `2 pi (n k mod 512) / 512`. -/
def ang (n k : ℕ) : ℝ := 2 * π * ((n * k % 512 : ℕ) : ℝ) / 512

/-- The half spectrum counts every frequency but the first twice. -/
def wt (k : ℕ) : ℝ := if k = 0 then 1 else 2

/-- The alternating signs. -/
def alt (n : ℕ) : ℝ := (-1) ^ n

theorem ang_eq (n k : ℕ) : ∃ q : ℤ, 2 * π * ((n : ℝ) * k) / 512 = ang n k + q * (2 * π) := by
  obtain ⟨q, hq⟩ : ∃ q : ℕ, n * k = 512 * q + n * k % 512 := ⟨n * k / 512, (Nat.div_add_mod (n * k) 512).symm⟩
  refine ⟨(q : ℤ), ?_⟩
  have h : (n : ℝ) * k = 512 * (q : ℝ) + ((n * k % 512 : ℕ) : ℝ) := by exact_mod_cast hq
  unfold ang
  rw [h]
  push_cast
  ring

theorem cos_ang (n k : ℕ) : cos (ang n k) = cos (2 * π * ((n : ℝ) * k) / 512) := by
  obtain ⟨q, h⟩ := ang_eq n k
  rw [h, cos_add_int_mul_two_pi]

theorem sin_ang (n k : ℕ) : sin (ang n k) = sin (2 * π * ((n : ℝ) * k) / 512) := by
  obtain ⟨q, h⟩ := ang_eq n k
  rw [h, sin_add_int_mul_two_pi]

/-- The Dirichlet kernel, multiplied out. -/
theorem dirichlet (x : ℝ) (N : ℕ) :
    sin (x / 2) * (∑ k ∈ range (N + 1), wt k * cos (k * x)) = sin ((N + 1 / 2 : ℝ) * x) := by
  induction N with
  | zero => simp [wt]; ring_nf
  | succ N ih =>
    rw [sum_range_succ, mul_add, ih]
    have e1 : ((N : ℝ) + 1 / 2) * x = ((N : ℝ) + 1) * x - x / 2 := by ring
    have e2 : (((N + 1 : ℕ) : ℝ) + 1 / 2) * x = ((N : ℝ) + 1) * x + x / 2 := by push_cast; ring
    rw [e1, e2, sin_sub, sin_add, wt, if_neg (Nat.succ_ne_zero N)]
    push_cast
    ring

/-- `cos (pi j)` for an integer. -/
theorem cos_pi_int (j : ℤ) : cos (π * j) = cos (j * π) := by rw [mul_comm]

/-- The half spectrum of a constant frequency, with its last term: 512 at the multiples of 512, zero elsewhere. -/
theorem spectrum (j : ℤ) :
    (∑ k ∈ range 256, wt k * cos (k * (2 * π * j / 512))) + cos (j * π) = if (512 : ℤ) ∣ j then 512 else 0 := by
  split
  · rename_i h
    obtain ⟨q, rfl⟩ := h
    have h1 : ∀ k : ℕ, cos ((k : ℝ) * (2 * π * ((512 * q : ℤ) : ℝ) / 512)) = 1 := fun k => by
      have : (k : ℝ) * (2 * π * ((512 * q : ℤ) : ℝ) / 512) = (((k : ℤ) * q : ℤ) : ℝ) * (2 * π) := by push_cast; ring
      rw [this, cos_int_mul_two_pi]
    have h2 : cos (((512 * q : ℤ) : ℝ) * π) = 1 := by
      have : ((512 * q : ℤ) : ℝ) * π = ((256 * q : ℤ) : ℝ) * (2 * π) := by push_cast; ring
      rw [this, cos_int_mul_two_pi]
    simp only [h1, h2, mul_one]
    have h3 : ∀ N : ℕ, ∑ k ∈ range (N + 1), wt k = 2 * N + 1 := fun N => by
      induction N with
      | zero => simp [wt]
      | succ N ih => rw [sum_range_succ, ih, wt, if_neg (Nat.succ_ne_zero N)]; push_cast; ring
    rw [h3 255]
    norm_num
  · rename_i h
    have hs : sin (2 * π * j / 512 / 2) ≠ 0 := fun h0 => by
      rw [sin_eq_zero_iff] at h0
      obtain ⟨n, hn⟩ := h0
      apply h
      refine ⟨n, ?_⟩
      have hp := pi_ne_zero
      have h3 : π * ((n : ℝ) * 512) = π * (j : ℝ) := by rw [← mul_assoc, mul_comm π, hn]; ring
      have h2 : (n : ℝ) * 512 = j := mul_left_cancel₀ hp h3
      have : n * 512 = j := by exact_mod_cast h2
      omega
    have hd := dirichlet (2 * π * j / 512) 255
    have e : ((255 : ℕ) + 1 / 2 : ℝ) * (2 * π * j / 512) = j * π - 2 * π * j / 512 / 2 := by push_cast; ring
    rw [e, sin_sub, sin_int_mul_pi] at hd
    apply mul_left_cancel₀ hs
    rw [mul_add, hd]
    ring

/-- Circular correlation of two rows. -/
def corr (a b : Fin 512 → ℝ) (m : Fin 512) : ℝ := ∑ n : Fin 512, a n * b ⟨(n.val + m.val) % 512, Nat.mod_lt _ (by norm_num)⟩

theorem alt_mul (n l m : ℕ) : alt n * alt l * alt m = cos ((((n : ℤ) - l + m : ℤ) : ℝ) * π) := by
  unfold alt
  have h : ∀ k : ℕ, ((-1 : ℝ)) ^ k = cos ((k : ℝ) * π) := fun k => (cos_nat_mul_pi k).symm
  have hs : ∀ k : ℕ, sin ((k : ℝ) * π) = 0 := fun k => sin_nat_mul_pi k
  push_cast
  rw [add_mul, sub_mul, cos_add, cos_sub, sin_sub, hs, hs, hs, h, h, h]
  ring

/-- One frequency of the product spectrum, for a pair of positions. -/
theorem freq (n l m k : ℕ) :
    (cos (ang n k) * cos (ang l k) + sin (ang n k) * sin (ang l k)) * cos (ang m k)
      - (sin (ang n k) * cos (ang l k) - cos (ang n k) * sin (ang l k)) * sin (ang m k)
      = cos (k * (2 * π * (((n : ℤ) - l + m : ℤ) : ℝ) / 512)) := by
  simp only [cos_ang, sin_ang]
  have e : (k : ℝ) * (2 * π * (((n : ℤ) - l + m : ℤ) : ℝ) / 512)
      = 2 * π * ((n : ℝ) * k) / 512 - 2 * π * ((l : ℝ) * k) / 512 + 2 * π * ((m : ℝ) * k) / 512 := by push_cast; ring
  rw [e, cos_add, cos_sub, sin_sub]

/-- The product spectrum, transformed back, is the circular correlation. -/
theorem dft_corr (a b : Fin 512 → ℝ) (m : Fin 512) :
    (∑ k : Fin 256, ((∑ n : Fin 512, a n * cos (ang n k)) * (∑ n : Fin 512, b n * cos (ang n k))
          + (∑ n : Fin 512, a n * sin (ang n k)) * (∑ n : Fin 512, b n * sin (ang n k))) * (wt k * cos (ang m k) / 512))
      + (∑ k : Fin 256, ((∑ n : Fin 512, a n * sin (ang n k)) * (∑ n : Fin 512, b n * cos (ang n k))
          - (∑ n : Fin 512, a n * cos (ang n k)) * (∑ n : Fin 512, b n * sin (ang n k))) * (-wt k * sin (ang m k) / 512))
      + (∑ n : Fin 512, a n * alt n) * (∑ n : Fin 512, b n * alt n) * (1 / 512) * alt m
      = corr a b m := by
  have key : ∀ n l : Fin 512, (∑ k : Fin 256, wt k * ((cos (ang n k) * cos (ang l k) + sin (ang n k) * sin (ang l k)) * cos (ang m k)
      - (sin (ang n k) * cos (ang l k) - cos (ang n k) * sin (ang l k)) * sin (ang m k))) + alt n * alt l * alt m
      = if (512 : ℤ) ∣ ((n : ℤ) - l + m) then 512 else 0 := fun n l => by
    rw [← spectrum, alt_mul]
    congr 1
    rw [← Fin.sum_univ_eq_sum_range (fun k => wt k * cos (k * (2 * π * (((n : ℤ) - l + m : ℤ) : ℝ) / 512)))]
    exact sum_congr rfl fun k _ => by rw [freq]
  have h1 : corr a b m = ∑ n : Fin 512, ∑ l : Fin 512, a n * b l * ((if (512 : ℤ) ∣ ((n : ℤ) - l + m) then 512 else 0) / 512) := by
    unfold corr
    refine sum_congr rfl fun n _ => ?_
    rw [sum_eq_single (⟨(n.val + m.val) % 512, Nat.mod_lt _ (by norm_num)⟩ : Fin 512)]
    · rw [if_pos (by show (512 : ℤ) ∣ ((n.val : ℤ) - (((n.val + m.val) % 512 : ℕ) : ℤ) + m.val); omega)]
      norm_num
    · intro l _ hl
      rw [if_neg (fun hd => hl (Fin.ext (by have := l.isLt; have := n.isLt; have := m.isLt; show l.val = (n.val + m.val) % 512; omega)))]
      simp
    · intro h; exact absurd (mem_univ _) h
  rw [h1]
  simp only [← key]
  have e1 : ∀ (f g : Fin 512 → ℝ), (∑ n, f n) * (∑ l, g l) = ∑ n, ∑ l, f n * g l := fun f g => sum_mul_sum _ _ _ _
  simp only [e1, ← sum_add_distrib, ← sum_sub_distrib]
  simp only [sum_mul]
  have s3 : ∀ F : Fin 256 → Fin 512 → Fin 512 → ℝ, ∑ k, ∑ n, ∑ l, F k n l = ∑ n, ∑ l, ∑ k, F k n l := fun F => by
    rw [sum_comm]
    exact sum_congr rfl fun n _ => sum_comm
  simp only [← sum_add_distrib]
  rw [s3, ← sum_add_distrib]
  refine sum_congr rfl fun n _ => ?_
  rw [← sum_add_distrib]
  refine sum_congr rfl fun l _ => ?_
  rw [add_div, mul_add, sum_div, mul_sum]
  congr 1
  · exact sum_congr rfl fun k _ => by ring
  · ring

end Cert.Hand

end
-- ==== Proof.Math.Coe.lean ====
module

public import proofs.«01_k».proof.Proof.Math.Fourier
public import Idealize.ShloMosaic.Lib.IdealHost

@[expose] public section

noncomputable section

namespace Cert.Hand

open Idealize.ShloMosaic

/-- A sum of reals, taken in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, EReal.coe_add, ih]

/-- A quotient of reals by a nonzero real. -/
theorem div_real {x y : ℝ} (h : y ≠ 0) : Ideal.div (x : EReal) (y : EReal) = ((x / y : ℝ) : EReal) := by
  rw [Ideal.div_coe h, ← EReal.coe_mul, mul_one_div]

/-- The root of a nonnegative real. -/
theorem sqrt_real {x : ℝ} (h : 0 ≤ x) : Ideal.sqrt (x : EReal) = ((Real.sqrt x : ℝ) : EReal) := by
  rw [Ideal.sqrt_coe, if_neg (not_lt.mpr h)]

/-- The small constant added to a norm: the value of the word `0x2B8CBCCC`, nearest to 1e-12. -/
def eps : ℝ := 9223372 / 2 ^ 63

theorem eps_pos : 0 < eps := by unfold eps; norm_num

theorem eps_word : Ideal.ofBits .f32 0x2B8CBCCC#32 = ((eps : ℝ) : EReal) := by
  unfold eps
  simp [Ideal.ofBits, Ideal.ieee, -EReal.coe_mul]; norm_num

/-- The slope of the rectifier below zero: the value of the word `0x3C23D70A`, nearest to 0.01. -/
def slope : ℝ := 10737418 / 2 ^ 30

theorem slope_word : Ideal.ofBits .f32 0x3C23D70A#32 = ((slope : ℝ) : EReal) := by
  unfold slope
  simp [Ideal.ofBits, Ideal.ieee, -EReal.coe_mul]; norm_num

theorem inv512_word : Ideal.ofBits .f32 0x3B000000#32 = ((1 / 512 : ℝ) : EReal) := by
  simp [Ideal.ofBits, Ideal.ieee, -EReal.coe_mul]; norm_num

/-- The Euclidean norm of a row. -/
def nrm (a : Fin 512 → ℝ) : ℝ := Real.sqrt (∑ n, a n * a n)

theorem nrm_eps (a : Fin 512 → ℝ) : 0 < nrm a + eps := add_pos_of_nonneg_of_pos (Real.sqrt_nonneg _) eps_pos

/-- Circular correlation of two rows, each divided by its norm plus the small constant. -/
def ccorr (a b : Fin 512 → ℝ) (m : Fin 512) : ℝ := corr (fun n => a n / (nrm a + eps)) (fun n => b n / (nrm b + eps)) m

theorem ccorr_eq (a b : Fin 512 → ℝ) (m : Fin 512) :
    ccorr a b m = corr a b m * (1 / (nrm a + eps) * (1 / (nrm b + eps))) := by
  unfold ccorr corr
  rw [Finset.sum_mul]
  exact Finset.sum_congr rfl fun n _ => by ring

/-- The leaky rectifier. -/
def leaky (z : EReal) : EReal := if 0 < z then z else (slope : EReal) * z

/-- A row of reals. -/
def FinRow (a : Fin 512 → EReal) : Prop := ∀ n, a n = (((a n).toReal : ℝ) : EReal)

/-- Circular correlation of two rows of extended reals: of rows of reals as above, and zero if one holds an infinity
    (its norm is infinite, and the inverse of infinity is zero). -/
def ccorrE (a b : Fin 512 → EReal) (m : Fin 512) : EReal :=
  open Classical in if FinRow a ∧ FinRow b then ((ccorr (fun n => (a n).toReal) (fun n => (b n).toReal) m : ℝ) : EReal) else 0

theorem ccorrE_real {a b : Fin 512 → EReal} (ha : FinRow a) (hb : FinRow b) (m : Fin 512) :
    ccorrE a b m = ((ccorr (fun n => (a n).toReal) (fun n => (b n).toReal) m : ℝ) : EReal) := if_pos ⟨ha, hb⟩

theorem ccorrE_left {a : Fin 512 → EReal} (ha : ¬ FinRow a) (b : Fin 512 → EReal) (m : Fin 512) : ccorrE a b m = 0 := if_neg fun h => ha h.1

theorem ccorrE_right (a : Fin 512 → EReal) {b : Fin 512 → EReal} (hb : ¬ FinRow b) (m : Fin 512) : ccorrE a b m = 0 := if_neg fun h => hb h.2

theorem sq_nonneg (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

/-- The sum of the squares of a row that holds an infinity is infinite. -/
theorem sq_top {a : Fin 512 → EReal} (h : ¬ FinRow a) : ∑ n, a n * a n = ⊤ := by
  unfold FinRow at h
  obtain ⟨n, hn⟩ := not_forall.1 h
  have e : a n * a n = ⊤ := by
    generalize a n = x at hn
    induction x with
    | bot => exact EReal.bot_mul_bot
    | top => exact EReal.top_mul_top
    | coe r => exact absurd (by rw [EReal.toReal_coe]) hn
  refine top_le_iff.1 (e ▸ Finset.single_le_sum (f := fun n => a n * a n) (fun i _ => sq_nonneg _) (Finset.mem_univ n))

/-- Nothing is left of a value divided by an infinite norm. -/
theorem div_top {a : Fin 512 → EReal} (h : ¬ FinRow a) (x : EReal) : Ideal.div x (Ideal.sqrt (∑ n, a n * a n) + ((eps : ℝ) : EReal)) = 0 := by
  rw [sq_top h]
  show Ideal.div x (⊤ + _) = 0
  rw [EReal.top_add_coe, Ideal.div, if_neg (by simp), EReal.inv_top, mul_zero]

end Cert.Hand

end
-- ==== Proof.KI.Compose.lean ====
module

public import proofs.«01_k».proof.Proof.KI.Trip
public import proofs.«01_k».proof.Proof.Math.Coe
public import Idealize.ShloMosaic.Lib.Pointwise

@[expose] public section

set_option maxRecDepth 16384

noncomputable section

namespace Cert.KernelIdeal.Hand

open Cert.KernelIdeal Cert.KernelIdeal.Gen Cert.Hand
open Idealize.ShloMosaic Idealize.ShloMosaic.TcCoe Idealize.SL.Sem

/-- The forward table: cosines in the first half of its columns, sines in the second. -/
def fwd (n : Fin 512) (k : Fin 512) : ℝ := if k.val < 256 then Real.cos (ang n k) else Real.sin (ang n (k.val - 256))

/-- The inverse table: weighted cosines in the first half of its rows, negated weighted sines in the second. -/
def bwd (k : Fin 512) (q : Fin 512) : ℝ :=
  if k.val < 256 then wt k * Real.cos (ang q k) / 512 else -wt (k.val - 256) * Real.sin (ang q (k.val - 256)) / 512

/-- The spectrum of a row at a column of the forward table. -/
def spec (a : Fin 512 → ℝ) (k : Fin 512) : ℝ := ∑ n : Fin 512, a n * fwd n k

/-- The product of the inverse norms of the left and right rows. -/
theorem invs_real (u : Vec Ideal S16x512 .f32) (A B : Fin 512 → ℝ) (b : Fin 8) (ha : ∀ q, u (ix2 ⟨b.val, by omega⟩ q) = ((A q : ℝ) : EReal))
    (hb : ∀ q, u (ix2 ⟨8 + b.val, by omega⟩ q) = ((B q : ℝ) : EReal)) :
    k0_pay23 (F := Ideal) u (ix2 b 0) = ((1 / (nrm A + eps) * (1 / (nrm B + eps)) : ℝ) : EReal) := by
  pointwise [k0_pay23]
  have hn : ∀ (i : Fin 16) (U : Fin 512 → ℝ), (∀ q, u (ix2 i q) = ((U q : ℝ) : EReal)) →
      Ideal.div 1 (Ideal.sqrt (∑ x, u (ix2 i x) * u (ix2 i x)) + Ideal.ofBits FTy.f32 730643660#32) = ((1 / (nrm U + eps) : ℝ) : EReal) := fun i U hu => by
    simp only [hu, ← EReal.coe_mul]
    rw [coe_sum, sqrt_real (Finset.sum_nonneg fun n _ => mul_self_nonneg _), eps_word, ← EReal.coe_add, ← EReal.coe_one]
    exact div_real (nrm_eps U).ne'
  rw [EReal.coe_mul]
  exact congrArg₂ (· * ·) (hn _ A ha) (hn _ B hb)

/-- It is zero if either row holds an infinity. -/
theorem invs_zero (u : Vec Ideal S16x512 .f32) (b : Fin 8)
    (h : ¬ (FinRow (fun q => u (ix2 ⟨b.val, by omega⟩ q)) ∧ FinRow (fun q => u (ix2 ⟨8 + b.val, by omega⟩ q)))) :
    k0_pay23 (F := Ideal) u (ix2 b 0) = (0 : EReal) := by
  pointwise [k0_pay23]
  have hn : ∀ i : Fin 16, ¬ FinRow (fun q => u (ix2 i q)) →
      Ideal.div 1 (Ideal.sqrt (∑ x, u (ix2 i x) * u (ix2 i x)) + Ideal.ofBits FTy.f32 730643660#32) = 0 := fun i hi => by
    rw [eps_word]; exact div_top hi 1
  by_cases ha : FinRow (fun q => u (ix2 ⟨b.val, by omega⟩ q))
  · exact (congrArg (fun z : EReal => _ * z) (hn ⟨8 + b.val, by omega⟩ fun hb => h ⟨ha, hb⟩)).trans (mul_zero _)
  · exact (congrArg (fun z : EReal => z * _) (hn ⟨b.val, by omega⟩ ha)).trans (zero_mul _)

/-- The product spectrum: its real parts in the first half of the columns, its imaginary parts in the second. -/
def prodSpec (a b : Fin 512 → ℝ) (q : Fin 512) : ℝ :=
  if h : q.val < 256 then
    spec a q * spec b q + spec a ⟨256 + q.val, by omega⟩ * spec b ⟨256 + q.val, by omega⟩
  else spec a q * spec b ⟨q.val - 256, by omega⟩ - spec a ⟨q.val - 256, by omega⟩ * spec b q

theorem sub_self_real (x : ℝ) : (x : EReal) - (x : EReal) = ((0 : ℝ) : EReal) := by rw [← EReal.coe_sub, sub_self]

theorem prod_real (u : Vec Ideal S16x512 .f32) (x4 : Vec Ideal S512x512 .bf16) (A B : Fin 512 → ℝ) (b : Fin 8) (ha : ∀ q, u (ix2 ⟨b.val, by omega⟩ q) = ((A q : ℝ) : EReal))
    (hb : ∀ q, u (ix2 ⟨8 + b.val, by omega⟩ q) = ((B q : ℝ) : EReal)) (h4 : ∀ n k, x4 (ix2 n k) = ((fwd n k : ℝ) : EReal)) (q : Fin 512) :
    k0_pay24 (F := Ideal) u x4 (ix2 b q) = ((prodSpec A B q : ℝ) : EReal) := by
  pointwise [k0_pay24]
  have hq := q.isLt
  have hlt := b.isLt
  have c1 : b.val < 16 := by omega
  have c2 : 8 + b.val < 16 := by omega
  simp only [c1, c2, dite_true]
  have hs : ∀ (i : Fin 16) (U : Fin 512 → ℝ) (hu : ∀ q, u (ix2 i q) = ((U q : ℝ) : EReal)) (k : Fin 512),
      (∑ x, u (ix2 i x) * x4 (ix2 x k) + ∑ x, (u (ix2 i x) - u (ix2 i x)) * x4 (ix2 x k)) = ((spec U k : ℝ) : EReal) := fun i U hu k => by
    simp only [hu, h4, sub_self_real, ← EReal.coe_mul, coe_sum, ← EReal.coe_add]
    simp [spec]
  unfold prodSpec
  split
  · rename_i h
    rw [EReal.coe_add, EReal.coe_mul, EReal.coe_mul]
    exact congrArg₂ (· + ·) (congrArg₂ (· * ·) (hs _ A ha _) (hs _ B hb _)) (congrArg₂ (· * ·) (hs _ A ha _) (hs _ B hb _))
  · rename_i h
    have e : (⟨256 + (q.val - 256), by omega⟩ : Fin 512) = q := Fin.ext (by show 256 + (q.val - 256) = q.val; omega)
    simp only [e]
    rw [hs ⟨b.val, by omega⟩ A ha q, hs ⟨8 + b.val, by omega⟩ B hb ⟨q.val - 256, by omega⟩, hs ⟨b.val, by omega⟩ A ha ⟨q.val - 256, by omega⟩,
      hs ⟨8 + b.val, by omega⟩ B hb q, ← EReal.coe_mul, ← EReal.coe_mul, ← EReal.coe_sub]

/-- The product spectrum through the inverse table, with the last frequency's term: the circular correlation. -/
theorem spectrum_back (a b : Fin 512 → ℝ) (m : Fin 512) :
    (∑ k : Fin 512, prodSpec a b k * bwd k m) + (∑ n : Fin 512, a n * alt n) * (∑ n : Fin 512, b n * alt n) * (1 / 512) * alt m
      = corr a b m := by
  rw [← dft_corr]
  congr 1
  rw [show (∑ k : Fin 512, prodSpec a b k * bwd k m) = ∑ k : Fin (256 + 256), prodSpec a b k * bwd k m from rfl, Fin.sum_univ_add]
  have f1 : ∀ (a : Fin 512 → ℝ) (k : Fin 256), spec a ⟨k.val, by omega⟩ = ∑ n : Fin 512, a n * Real.cos (ang n k) := fun a k =>
    Finset.sum_congr rfl fun n _ => by rw [fwd, if_pos k.isLt]
  have f2 : ∀ (a : Fin 512 → ℝ) (k : Fin 256), spec a ⟨256 + k.val, by omega⟩ = ∑ n : Fin 512, a n * Real.sin (ang n k) := fun a k =>
    Finset.sum_congr rfl fun n _ => by
      rw [fwd, if_neg (by show ¬ (256 + k.val < 256); omega)]
      simp
  refine congrArg₂ (· + ·) ?_ ?_
  · refine Finset.sum_congr rfl fun k _ => ?_
    have e1 : prodSpec a b (Fin.castAdd 256 k) = spec a ⟨k.val, by omega⟩ * spec b ⟨k.val, by omega⟩
        + spec a ⟨256 + k.val, by omega⟩ * spec b ⟨256 + k.val, by omega⟩ := dif_pos k.isLt
    have e2 : bwd (Fin.castAdd 256 k) m = wt k * Real.cos (ang m k) / 512 := if_pos k.isLt
    rw [e1, e2, f1, f1, f2, f2]
  · refine Finset.sum_congr rfl fun k _ => ?_
    have hk : ¬ (256 + k.val < 256) := by omega
    have e0 : (⟨256 + k.val - 256, by omega⟩ : Fin 512) = ⟨k.val, by omega⟩ := Fin.ext (by show 256 + k.val - 256 = k.val; omega)
    have e1 : prodSpec a b (Fin.natAdd 256 k) = spec a ⟨256 + k.val, by omega⟩ * spec b ⟨256 + k.val - 256, by omega⟩
        - spec a ⟨256 + k.val - 256, by omega⟩ * spec b ⟨256 + k.val, by omega⟩ := dif_neg hk
    have e2 : bwd (Fin.natAdd 256 k) m = -wt (256 + k.val - 256) * Real.sin (ang m (256 + k.val - 256 : ℕ)) / 512 := if_neg hk
    rw [e1, e2, e0, f1, f1, f2, f2, Nat.add_sub_cancel_left]

/-- The composed rows of one step: the circular correlation of the normalised child rows. -/
theorem composed_at (u : Vec Ideal S16x512 .f32) (x4 x5 : Vec Ideal S512x512 .bf16) (x6 : Vec Ideal S1x512 .f32) (h4 : ∀ n k, x4 (ix2 n k) = ((fwd n k : ℝ) : EReal))
    (h5 : ∀ k q, x5 (ix2 k q) = ((bwd k q : ℝ) : EReal)) (h6 : ∀ q : Fin 512, x6 (ix2 0 q) = ((alt q : ℝ) : EReal)) (b : Fin 8) (q : Fin 512) :
    composed (F := Ideal) x4 x5 x6 u (ix2 b q) = ccorrE (fun q => u (ix2 ⟨b.val, by omega⟩ q)) (fun q => u (ix2 ⟨8 + b.val, by omega⟩ q)) q := by
  unfold composed
  have h25 : ∀ x : Fin 512, k0_pay25 (F := Ideal) u (ix2 b x) = k0_pay23 (F := Ideal) u (ix2 b 0) := fun x => by
    pointwise [k0_pay25]
    done
  pointwise [k0_pay26]
  by_cases h : FinRow (fun q => u (ix2 ⟨b.val, by omega⟩ q)) ∧ FinRow (fun q => u (ix2 ⟨8 + b.val, by omega⟩ q))
  case neg =>
    rw [show ccorrE (fun q => u (ix2 ⟨b.val, by omega⟩ q)) (fun q => u (ix2 ⟨8 + b.val, by omega⟩ q)) q = 0 from if_neg h]
    simp only [h25, invs_zero u b h, mul_zero, zero_mul, sub_zero, Finset.sum_const_zero, add_zero]
  obtain ⟨ha, hb⟩ := h
  rw [ccorrE_real ha hb]
  generalize hA : (fun n => (u (ix2 (⟨b.val, by omega⟩ : Fin 16) n)).toReal) = A
  generalize hB : (fun n => (u (ix2 (⟨8 + b.val, by omega⟩ : Fin 16) n)).toReal) = B
  replace ha : ∀ q, u (ix2 ⟨b.val, by omega⟩ q) = ((A q : ℝ) : EReal) := fun q => by rw [← hA]; exact ha q
  replace hb : ∀ q, u (ix2 ⟨8 + b.val, by omega⟩ q) = ((B q : ℝ) : EReal) := fun q => by rw [← hB]; exact hb q
  simp only [h25, invs_real u A B b ha hb, prod_real u x4 A B b ha hb h4, ha, hb, h5, h6, inv512_word, sub_self_real, ← EReal.coe_mul, coe_sum, ← EReal.coe_add]
  congr 1
  rw [ccorr_eq, ← spectrum_back, add_mul]
  simp only [zero_mul, Finset.sum_const_zero, add_zero]
  refine congrArg₂ (· + ·) ?_ ?_
  · rw [Finset.sum_mul]
    exact Finset.sum_congr rfl fun k _ => by ring
  · ring

end Cert.KernelIdeal.Hand

end
-- ==== Proof.Math.Spec.lean ====
module

public import proofs.«01_k».proof.Proof.Math.Coe
public import Idealize.ShloMosaic.Lib.Pointwise

@[expose] public section

noncomputable section

namespace Cert.Hand

/-- The two weight matrices side by side: columns below 512 the first, the others the second. -/
def pairW (w1 w2 : Fin 512 → Fin 512 → EReal) (k : Fin 1024) (q : Fin 512) : EReal :=
  if h : k.val < 512 then w1 q ⟨k.val, h⟩ else w2 q ⟨k.val - 512, by omega⟩

/-- The encoded leaf: the leaky rectifier of the leaf's projection. -/
def enc (s : Fin 8 → Fin 512 → Fin 1024 → EReal) (w1 w2 : Fin 512 → Fin 512 → EReal) (b : Fin 8) (l q : Fin 512) : EReal :=
  leaky (∑ k : Fin 1024, s b l k * pairW w1 w2 k q)

/-- The vector buffer before the first composition step: leaf `src b l` at row `tgt b l`, zero elsewhere. -/
def start (E : Fin 8 → Fin 512 → Fin 512 → EReal) (tgt src : Fin 8 → Fin 512 → Fin 512) (b : Fin 8) (r : Fin 1024) (q : Fin 512) : EReal :=
  ∑ l : Fin 512, if (tgt b l).val = r.val then E b (src b l) q else 0

/-- The row that a word names. -/
def rowOf (w : BitVec 32) : Fin 1024 := ⟨w.toNat % 1024, Nat.mod_lt _ (by decide)⟩

/-- One composition step, by the four words `W b` of each sentence: number of children, parent, left child, right child. -/
def stepR (W : Fin 8 → Fin 4 → BitVec 32) (V : Fin 8 → Fin 1024 → Fin 512 → EReal) (b : Fin 8) (r : Fin 1024) (q : Fin 512) : EReal :=
  if r.val = (rowOf (W b 1)).val then
    if W b 0 = 2#32 then ccorrE (V b (rowOf (W b 2))) (V b (rowOf (W b 3))) q else V b (rowOf (W b 2)) q
  else V b r q

/-- The composition steps, one after the other; step `n` reads the words `W n`. -/
def stepsR (W : ℕ → Fin 8 → Fin 4 → BitVec 32) (V : Fin 8 → Fin 1024 → Fin 512 → EReal) : ℕ → Fin 8 → Fin 1024 → Fin 512 → EReal
  | 0 => V
  | n + 1 => stepR (W n) (stepsR W V n)

/-- A buffer of extended reals holds these values. -/
def Holds3 {d0 d1 d2 : ℕ} (v : (⟨3, ![d0, d1, d2]⟩ : Idealize.ShloMosaic.Shape).Idx → EReal) (V : Fin d0 → Fin d1 → Fin d2 → EReal) : Prop :=
  ∀ b r q, v (Idealize.ShloMosaic.ix3 b r q) = V b r q

/-- The result from the final buffer: the first 512 columns are the word logits on the leaf rows and zero on the
    others, the remaining 1024 columns the phrase logits on the other rows and zero on the leaf rows. -/
def outSpec (V : Fin 8 → Fin 1024 → Fin 512 → EReal) (a6 : (⟨2, ![512, 512]⟩ : Idealize.ShloMosaic.Shape).Idx → EReal) (a7 : (⟨1, ![512]⟩ : Idealize.ShloMosaic.Shape).Idx → EReal)
    (a8 : (⟨2, ![1024, 512]⟩ : Idealize.ShloMosaic.Shape).Idx → EReal) (a9 : (⟨1, ![1024]⟩ : Idealize.ShloMosaic.Shape).Idx → EReal)
    (b : Fin 8) (r : Fin 1024) (q : Fin 1536) : EReal :=
  if h : q.val < 512 then
    if r.val < 512 then ∑ x : Fin 512, V b r x * a6 (Idealize.ShloMosaic.ix2 ⟨q.val, h⟩ x) + a7 (Idealize.ShloMosaic.ix1 ⟨q.val, h⟩) else 0
  else
    if r.val < 512 then 0 else ∑ x : Fin 512, V b r x * a8 (Idealize.ShloMosaic.ix2 ⟨q.val - 512, by omega⟩ x) + a9 (Idealize.ShloMosaic.ix1 ⟨q.val - 512, by omega⟩)

/-- The final buffer: the encoded leaves at their rows, then the 64 composition steps. -/
def finalR (s : Fin 8 → Fin 512 → Fin 1024 → EReal) (w1 w2 : Fin 512 → Fin 512 → EReal) (tgt src : Fin 8 → Fin 512 → Fin 512)
    (W : ℕ → Fin 8 → Fin 4 → BitVec 32) : Fin 8 → Fin 1024 → Fin 512 → EReal :=
  stepsR W (start (enc s w1 w2) tgt src) 64

end Cert.Hand

end
-- ==== Proof.KI.Vecs.lean ====
module

public import proofs.«01_k».proof.Proof.KI.Compose
public import proofs.«01_k».proof.Proof.KI.Steps
public import proofs.«01_k».proof.Proof.Math.Spec
public import Idealize.ShloMosaic.Lib.Pointwise

@[expose] public section

set_option maxRecDepth 16384

noncomputable section

namespace Cert.KernelIdeal.Hand

open Cert.KernelIdeal Cert.KernelIdeal.Gen Cert.Hand
open Idealize.ShloMosaic Idealize.ShloMosaic.TcCoe Idealize.SL.Sem

/-- The blend of two rows by "two children" is a choice. -/
theorem blend (w : BitVec 32) (c u C : EReal) (hc : c = C) :
    c * (((((Scalar.extui (Scalar.cmpi CmpIPredicate.eq w 2#32) : BitVec 32).toInt : ℤ) : ℝ)) : EReal)
      + u * (1 - (((((Scalar.extui (Scalar.cmpi CmpIPredicate.eq w 2#32) : BitVec 32).toInt : ℤ) : ℝ)) : EReal))
      = if w = 2#32 then C else u := by
  subst hc
  have h11 : (1 : EReal) - 1 = 0 := by rw [← EReal.coe_one, ← EReal.coe_sub, sub_self, EReal.coe_zero]
  by_cases h : w = 2#32
  · subst h
    rw [show (Scalar.extui (Scalar.cmpi CmpIPredicate.eq (2#32) 2#32) : BitVec 32).toInt = 1 from by decide, if_pos rfl]
    rw [show (((1 : ℤ) : ℝ) : EReal) = 1 from by norm_num, h11, mul_one, mul_zero, add_zero]
  · have h0 : (Scalar.cmpi CmpIPredicate.eq w 2#32 : BitVec 1) = 0#1 := by
      show BitVec.ofBool (w == 2#32) = 0#1
      rw [show (w == 2#32) = false from by simpa using h]; rfl
    rw [h0, show (Scalar.extui (0#1) : BitVec 32).toInt = 0 from by decide, if_neg h]
    rw [show (((0 : ℤ) : ℝ) : EReal) = 0 from by norm_num, sub_zero, mul_one, mul_zero, zero_add]

/-- The row one step writes: the composed row where the step has two children, else the left child. -/
theorem newRow_at (u : Vec Ideal S16x512 .f32) (x4 x5 : Vec Ideal S512x512 .bf16) (x6 : Vec Ideal S1x512 .f32) (h4 : ∀ n k, x4 (ix2 n k) = ((fwd n k : ℝ) : EReal))
    (h5 : ∀ k q, x5 (ix2 k q) = ((bwd k q : ℝ) : EReal)) (h6 : ∀ q : Fin 512, x6 (ix2 0 q) = ((alt q : ℝ) : EReal)) (w : BitVec 32) (b : Fin 8) (q : Fin 512) :
    newRow (F := Ideal) x4 x5 x6 u w b (ix3 0 0 q)
      = if w = 2#32 then ccorrE (fun q => u (ix2 ⟨b.val, by omega⟩ q)) (fun q => u (ix2 ⟨8 + b.val, by omega⟩ q)) q else u (ix2 ⟨b.val, by omega⟩ q) := by
  have hc := fun b => composed_at u x4 x5 x6 h4 h5 h6 b q
  match b with
  | 0 =>
    dsimp only [newRow]
    pointwise [k0_pay28, k0_pay27]
    exact blend w _ _ _ (hc 0)
  | 1 =>
    dsimp only [newRow]
    pointwise [k0_pay29]
    exact blend w _ _ _ (hc 1)
  | 2 =>
    dsimp only [newRow]
    pointwise [k0_pay31, k0_pay30]
    exact blend w _ _ _ (hc 2)
  | 3 =>
    dsimp only [newRow]
    pointwise [k0_pay32]
    exact blend w _ _ _ (hc 3)
  | 4 =>
    dsimp only [newRow]
    pointwise [k0_pay34, k0_pay33]
    exact blend w _ _ _ (hc 4)
  | 5 =>
    dsimp only [newRow]
    pointwise [k0_pay35]
    exact blend w _ _ _ (hc 5)
  | 6 =>
    dsimp only [newRow]
    pointwise [k0_pay36]
    exact blend w _ _ _ (hc 6)
  | 7 =>
    dsimp only [newRow]
    pointwise [k0_pay1]
    exact blend w _ _ _ (hc 7)

/-- One composition step on a buffer of extended reals. -/
theorem tripVec_at (x4 x5 : Vec Ideal S512x512 .bf16) (x6 : Vec Ideal S1x512 .f32) (x9 : Vec Ideal S8x64x4 .i32) (n : ℕ) (v : Vec Ideal S8x1024x512 .f32)
    (h4 : ∀ n k, x4 (ix2 n k) = ((fwd n k : ℝ) : EReal))
    (h5 : ∀ k q, x5 (ix2 k q) = ((bwd k q : ℝ) : EReal)) (h6 : ∀ q : Fin 512, x6 (ix2 0 q) = ((alt q : ℝ) : EReal))
    (V : Fin 8 → Fin 1024 → Fin 512 → EReal) (hv : Holds3 v V) : Holds3 (tripVec (F := Ideal) x4 x5 x6 x9 n v) (stepR (fun b c => word x9 b n c) V) := by
  intro b r q
  have hu : ∀ (i : Fin 16) (q : Fin 512), childRows x9 n v (ix2 i q)
      = if h : i.val < 8 then V ⟨i.val, h⟩ (rowOf (word x9 ⟨i.val, h⟩ n 2)) q
          else V ⟨i.val - 8, by omega⟩ (rowOf (word x9 ⟨i.val - 8, by omega⟩ n 3)) q := fun i q => by
    by_cases h : i.val < 8
    · rw [dif_pos h]
      exact (dif_pos h).trans (hv _ _ _)
    · rw [dif_neg h]
      exact (dif_neg h).trans (hv _ _ _)
  unfold stepR
  by_cases h : r.val = (rowOf (word x9 b n 1)).val
  · rw [if_pos h]
    refine (if_pos h).trans ?_
    refine (newRow_at _ x4 x5 x6 h4 h5 h6 _ b q).trans ?_
    have e1 : (fun q => childRows x9 n v (ix2 ⟨b.val, by omega⟩ q)) = V b (rowOf (word x9 b n 2)) := by
      funext q; rw [hu, dif_pos (show b.val < 8 from b.isLt)]
    have e2 : (fun q => childRows x9 n v (ix2 ⟨8 + b.val, by omega⟩ q)) = V b (rowOf (word x9 b n 3)) := by
      funext q
      rw [hu, dif_neg (show ¬ 8 + b.val < 8 by omega)]
      have e : (⟨8 + b.val - 8, by omega⟩ : Fin 8) = b := Fin.ext (by show 8 + b.val - 8 = b.val; omega)
      exact congrArg (fun z : Fin 8 => V z (rowOf (word x9 z n 3)) q) e
    exact if_congr Iff.rfl (congrArg₂ (fun a b => ccorrE a b q) e1 e2) (congrFun e1 q)
  · rw [if_neg h]
    exact (if_neg h).trans (hv b r q)

/-- The composition steps on a buffer of extended reals. -/
theorem tripN_at (x4 x5 : Vec Ideal S512x512 .bf16) (x6 : Vec Ideal S1x512 .f32) (x9 : Vec Ideal S8x64x4 .i32) (v : Vec Ideal S8x1024x512 .f32)
    (h4 : ∀ n k, x4 (ix2 n k) = ((fwd n k : ℝ) : EReal))
    (h5 : ∀ k q, x5 (ix2 k q) = ((bwd k q : ℝ) : EReal)) (h6 : ∀ q : Fin 512, x6 (ix2 0 q) = ((alt q : ℝ) : EReal))
    (V : Fin 8 → Fin 1024 → Fin 512 → EReal) (hv : Holds3 v V) (n : ℕ) :
    Holds3 (tripN (F := Ideal) x4 x5 x6 x9 v n) (stepsR (fun n b c => word x9 b n c) V n) := by
  induction n with
  | zero => exact hv
  | succ n ih => exact tripVec_at x4 x5 x6 x9 n _ h4 h5 h6 _ ih

/-- A one-hot entry: one where the word is the number, else zero. -/
theorem onehot (r : Fin 512) (w : BitVec 32) (t : Fin 512) (hw : w.toNat = t.val) :
    (FloatOps.sitofp FTy.f32 (BitVec.setWidth 32 (IntOp.cmpi CmpIPredicate.eq (BitVec.ofNat 32 r.val) w)) : Ideal .f32)
      = ((if t.val = r.val then 1 else 0 : ℝ) : EReal) := by
  by_cases h : t.val = r.val
  · have e : w = BitVec.ofNat 32 r.val := BitVec.eq_of_toNat_eq (by rw [hw, h, BitVec.toNat_ofNat]; have := r.isLt; omega)
    rw [if_pos h, e]
    have h1 : IntOp.cmpi CmpIPredicate.eq (BitVec.ofNat 32 r.val) (BitVec.ofNat 32 r.val) = 1#1 := by
      show BitVec.ofBool (_ == _) = _
      rw [beq_self_eq_true]; rfl
    rw [h1]
    show (((((BitVec.setWidth 32 1#1).toInt : ℤ) : ℝ)) : EReal) = _
    rw [show (BitVec.setWidth 32 1#1).toInt = 1 from by decide]
    norm_num
  · rw [if_neg h]
    have h1 : IntOp.cmpi CmpIPredicate.eq (BitVec.ofNat 32 r.val) w = 0#1 := by
      show BitVec.ofBool (_ == _) = _
      rw [show (BitVec.ofNat 32 r.val == w) = false from by
        rw [beq_eq_false_iff_ne]
        intro e
        apply h
        rw [← hw, ← e, BitVec.toNat_ofNat]; have := r.isLt; omega]
      rfl
    rw [h1]
    show (((((BitVec.setWidth 32 0#1).toInt : ℤ) : ℝ)) : EReal) = _
    rw [show (BitVec.setWidth 32 0#1).toInt = 0 from by decide]
    norm_num

/-- A sum of nonnegative values times a value. -/
theorem sum_mul_nonneg {ι : Type} (s : Finset ι) (f : ι → EReal) (h : ∀ i, 0 ≤ f i) (x : EReal) : (∑ i ∈ s, f i) * x = ∑ i ∈ s, f i * x := by
  classical
  induction s using Finset.induction_on with
  | empty => simp
  | insert a s ha ih =>
    rw [Finset.sum_insert ha, Finset.sum_insert ha, EReal.right_distrib_of_nonneg (h a) (Finset.sum_nonneg fun i _ => h i), ih]

/-- The vector buffer before the first composition step. -/
theorem initVec_at (x0 : Vec Ideal S4096x1024 .f32) (x1 : Vec Ideal S1024x512 .bf16) (x2 x3 : Vec Ideal S8x1x512 .i32)
    (s : Fin 8 → Fin 512 → Fin 1024 → EReal) (w1 w2 : Fin 512 → Fin 512 → EReal) (tgt src : Fin 8 → Fin 512 → Fin 512)
    (h0 : ∀ b (l : Fin 512) k, x0 (ix2 ⟨512 * b.val + l.val, by omega⟩ k) = s b l k)
    (h1 : ∀ k q, x1 (ix2 k q) = pairW w1 w2 k q)
    (h2 : ∀ b l, (x2 (ix3 b 0 l)).toNat = (src b l).val) (h3 : ∀ b l, (x3 (ix3 b 0 l)).toNat = (tgt b l).val) :
    Holds3 (initVec (F := Ideal) x0 x1 x2 x3) (start (enc s w1 w2) tgt src) := by
  intro b r q
  by_cases h : r.val < 512
  · refine (dif_pos h).trans ?_
    show k0_pay37 (F := Ideal) (sentence x0 b) x1 (posRow x2 b) (posRow x3 b) (ix3 0 ⟨r.val, h⟩ q) = _
    pointwise [k0_pay37]
    have hz : ∀ x : Fin 512, (∑ k : Fin 1024, sentence x0 b (ix2 x k) * x1 (ix2 k q)) = ∑ k : Fin 1024, s b x k * pairW w1 w2 k q := fun x => by
      refine Finset.sum_congr rfl fun k _ => ?_
      rw [h1]
      exact congrArg (· * _) (h0 b x k)
    have hl : ∀ x : Fin 512, (if 0 < ∑ k : Fin 1024, sentence x0 b (ix2 x k) * x1 (ix2 k q) then ∑ k : Fin 1024, sentence x0 b (ix2 x k) * x1 (ix2 k q)
        else Ideal.ofBits FTy.f32 1008981770#32 * ∑ k : Fin 1024, sentence x0 b (ix2 x k) * x1 (ix2 k q)) = enc s w1 w2 b x q := fun x => by
      rw [hz, slope_word]
      rfl
    have hperm : ∀ x : Fin 512, (∑ l : Fin 512,
          FloatOps.sitofp FTy.f32 (BitVec.setWidth 32 (IntOp.cmpi CmpIPredicate.eq (BitVec.ofNat 32 r.val) (posRow (F := Ideal) x3 b (ix3 0 0 l)))) *
            FloatOps.sitofp FTy.f32 (BitVec.setWidth 32 (IntOp.cmpi CmpIPredicate.eq (BitVec.ofNat 32 x.val) (posRow (F := Ideal) x2 b (ix3 0 0 l)))) : Ideal .f32)
        = ∑ l : Fin 512, (((if (tgt b l).val = r.val then 1 else 0) * (if (src b l).val = x.val then 1 else 0) : ℝ) : EReal) := fun x => by
      refine Finset.sum_congr rfl fun l _ => ?_
      rw [EReal.coe_mul]
      exact congrArg₂ (fun a b : EReal => a * b) (onehot ⟨r.val, h⟩ _ (tgt b l) (h3 b l)) (onehot x _ (src b l) (h2 b l))
    refine (Finset.sum_congr rfl fun x _ => congrArg₂ (fun a b : EReal => a * b) (hperm x) (hl x)).trans ?_
    unfold start
    refine (Finset.sum_congr rfl fun x _ => sum_mul_nonneg _ _ (fun l => EReal.coe_nonneg.2 (by split_ifs <;> norm_num)) _).trans ?_
    rw [Finset.sum_comm]
    refine Finset.sum_congr rfl fun l _ => ?_
    rw [Finset.sum_eq_single (src b l)]
    · rw [if_pos (show (src b l).val = (src b l).val from rfl), mul_one]
      split_ifs
      · rw [EReal.coe_one, one_mul]
      · rw [EReal.coe_zero, zero_mul]
    · intro x _ hx
      rw [if_neg (show ¬ (src b l).val = x.val from fun e => hx (Fin.ext e.symm)), mul_zero, EReal.coe_zero, zero_mul]
    · intro hx; exact absurd (Finset.mem_univ _) hx
  · refine (dif_neg h).trans ?_
    have e : start (enc s w1 w2) tgt src b r q = 0 := by
      unfold start
      refine Finset.sum_eq_zero fun l _ => if_neg ?_
      have := (tgt b l).isLt
      omega
    rw [e]
    show k0_pay38 (F := Ideal) (ix3 0 ⟨r.val - 512, _⟩ q) = _
    pointwise [k0_pay38]

end Cert.KernelIdeal.Hand

end
-- ==== Proof.KI.Host.lean ====
module

public import proofs.«01_k».proof.Proof.KI.Rows
public import proofs.«01_k».proof.Proof.KI.Vecs

@[expose] public section

set_option maxRecDepth 65536

noncomputable section

namespace Cert.KernelIdeal.Hand

open Cert.KernelIdeal Cert.KernelIdeal.Gen Cert.Hand
open Idealize.ShloMosaic Idealize.ShloMosaic.TcCoe Idealize.ShloMosaic.Tactic Idealize.SL.Sem

/-! ## The arrays the launch reads, as terms over the arguments -/

/-- The row of alternating signs. -/
def altArr : FVec Ideal S1x512 .f32 := broadcastInDim S1x512 ![1] bcast_S512_S1x512_1 (fun i => Ideal.ofBits FTy.f32 (lit0 (S512.rowMajor i)))

/-- The encoder's weights, the two matrices transposed and stacked. -/
def encArr (a b : FVec Ideal S512x512 .f32) : FVec Ideal S1024x512 .bf16 :=
  truncf FTy.bf16 (concatenate S1024x512 0
    [⟨S512x512, transpose S512x512 [1, 0] a transposes_S512x512_S512x512_1_0⟩, ⟨S512x512, transpose S512x512 [1, 0] b transposes_S512x512_S512x512_1_0⟩]
    concatenates_S512x512_S512x512_S1024x512_d0) bitsLt_bf16_f32

/-- The leaves of all sentences, one after the other. -/
def seqArr (a : FVec Ideal S8x512x1024 .f32) : FVec Ideal S4096x1024 .f32 := shapeCast S4096x1024 a shapeCasts_S8x512x1024_S4096x1024

/-- Column 1 of the positions. -/
def srcArr (a : Vec Ideal S8x512x2 .i32) : Vec Ideal S8x1x512 .i32 :=
  broadcastInDim S8x1x512 ![0, 2] bcast_S8x512_S8x1x512_0_2 (shapeCast S8x512 (extractStridedSlice S8x512x1 ![0, 0, 1] a slices_S8x512x2_S8x512x1_0_0_1) shapeCasts_S8x512x1_S8x512)

/-- Column 0 of the positions. -/
def tgtArr (a : Vec Ideal S8x512x2 .i32) : Vec Ideal S8x1x512 .i32 :=
  broadcastInDim S8x1x512 ![0, 2] bcast_S8x512_S8x1x512_0_2 (shapeCast S8x512 (extractStridedSlice S8x512x1 ![0, 0, 0] a slices_S8x512x2_S8x512x1_0_0_0) shapeCasts_S8x512x1_S8x512)

/-- The angles of the transform. -/
def angArr : FVec Ideal S512x256 .f32 :=
  Host.divf (mulf (broadcastInDim S512x256 ![] bcast_S_S512x256 (mulf (constant S_ .f32 0x40000000#32) (Host.atan2 (constant S_ .f32 0x00000000#32) (constant S_ .f32 0xBF800000#32))))
    (sitofp .f32 (Host.remsi (muli (iotaInDim S512x256 32 0) (iotaInDim S512x256 32 1)) (broadcastInDim S512x256 ![] bcast_S_S512x256 (constantI S_ 32 512#32)))))
    (broadcastInDim S512x256 ![] bcast_S_S512x256 (constant S_ .f32 0x44000000#32))

/-- The weights of the frequencies: one for the constant one, two for the others. -/
def wtArr : FVec Ideal S256x512 .f32 :=
  select (cmpi .eq (iotaInDim S256x512 32 0) (broadcastInDim S256x512 ![] bcast_S_S256x512 (constantI S_ 32 0#32)))
    (broadcastInDim S256x512 ![] bcast_S_S256x512 (constant S_ .f32 0x3F800000#32)) (broadcastInDim S256x512 ![] bcast_S_S256x512 (constant S_ .f32 0x40000000#32))

/-- The forward table from its angles. -/
def fwdArr (a : FVec Ideal S512x256 .f32) : FVec Ideal S512x512 .bf16 :=
  truncf FTy.bf16 (concatenate S512x512 1 [⟨S512x256, Host.cos a⟩, ⟨S512x256, Host.sin a⟩] concatenates_S512x256_S512x256_S512x512_d1) bitsLt_bf16_f32

/-- The backward table from the angles and the weights. -/
def bwdArr (a : FVec Ideal S512x256 .f32) (w : FVec Ideal S256x512 .f32) : FVec Ideal S512x512 .bf16 :=
  truncf FTy.bf16 (concatenate S512x512 0
    [⟨S256x512, Host.divf (mulf w (transpose S256x512 [1, 0] (Host.cos a) transposes_S512x256_S256x512_1_0)) (broadcastInDim S256x512 ![] bcast_S_S256x512 (constant S_ .f32 0x44000000#32))⟩,
     ⟨S256x512, Host.divf (mulf (Host.negf w) (transpose S256x512 [1, 0] (Host.sin a) transposes_S512x256_S256x512_1_0)) (broadcastInDim S256x512 ![] bcast_S_S256x512 (constant S_ .f32 0x44000000#32))⟩]
    concatenates_S256x512_S256x512_S512x512_d0) bitsLt_bf16_f32

/-- The output weights, the two matrices transposed and side by side. -/
def wallArr (a : FVec Ideal S512x512 .f32) (b : FVec Ideal S1024x512 .f32) : FVec Ideal S512x1536 .bf16 :=
  truncf FTy.bf16 (concatenate S512x1536 1
    [⟨S512x512, transpose S512x512 [1, 0] a transposes_S512x512_S512x512_1_0⟩, ⟨S512x1024, transpose S512x1024 [1, 0] b transposes_S1024x512_S512x1024_1_0⟩]
    concatenates_S512x512_S512x1024_S512x1536_d1) bitsLt_bf16_f32

/-- The output biases, one after the other. -/
def biasArr (a : FVec Ideal S512 .f32) (b : FVec Ideal S1024 .f32) : FVec Ideal S1x1536 .f32 :=
  broadcastInDim S1x1536 ![1] bcast_S1536_S1x1536_1 (concatenate S1536 0 [⟨S512, a⟩, ⟨S1024, b⟩] concatenates_S512_S1024_S1536_d0)

variable (m : (ℓ : Loc nD τ sig) → Buf (Elt Ideal) ℓ)

theorem V_alt (c : Dev nD) : V m c main_call0_v0 = altArr := by
  entry_read
  try simp only [StableHlo.TRef.ofBuf, StableHlo.TRef.toBuf, cast_eq]
  rfl
theorem V_seq (c : Dev nD) : V m c main_call0_v1 = seqArr (m ((c : Thread nD τ).loc main_arg0)) := by
  entry_read
  try simp only [StableHlo.TRef.ofBuf, StableHlo.TRef.toBuf, cast_eq]
  rfl
theorem V_enc (c : Dev nD) : V m c main_call0_v5 = encArr (m ((c : Thread nD τ).loc main_arg4)) (m ((c : Thread nD τ).loc main_arg5)) := by
  entry_read
  try simp only [StableHlo.TRef.ofBuf, StableHlo.TRef.toBuf, cast_eq]
  rfl
theorem V_src (c : Dev nD) : V m c main_call0_v8 = srcArr (m ((c : Thread nD τ).loc main_arg1)) := by
  entry_read
  try simp only [StableHlo.TRef.ofBuf, StableHlo.TRef.toBuf, cast_eq]
  rfl
theorem V_tgt (c : Dev nD) : V m c main_call0_v11 = tgtArr (m ((c : Thread nD τ).loc main_arg1)) := by
  entry_read
  try simp only [StableHlo.TRef.ofBuf, StableHlo.TRef.toBuf, cast_eq]
  rfl
theorem V_fwd (c : Dev nD) : V m c main_call0_v45 = fwdArr angArr := by
  entry_read
  try simp only [StableHlo.TRef.ofBuf, StableHlo.TRef.toBuf, cast_eq]
  rfl
theorem V_bwd (c : Dev nD) : V m c main_call0_v46 = bwdArr angArr wtArr := by
  entry_read
  try simp only [StableHlo.TRef.ofBuf, StableHlo.TRef.toBuf, cast_eq]
  rfl
theorem V_wall (c : Dev nD) : V m c main_call0_v50 = wallArr (m ((c : Thread nD τ).loc main_arg6)) (m ((c : Thread nD τ).loc main_arg8)) := by
  entry_read
  try simp only [StableHlo.TRef.ofBuf, StableHlo.TRef.toBuf, cast_eq]
  rfl
theorem V_bias (c : Dev nD) : V m c main_call0_v52 = biasArr (m ((c : Thread nD τ).loc main_arg7)) (m ((c : Thread nD τ).loc main_arg9)) := by
  entry_read
  try simp only [StableHlo.TRef.ofBuf, StableHlo.TRef.toBuf, cast_eq]
  rfl

end Cert.KernelIdeal.Hand

end
-- ==== Proof.KI.Tables.lean ====
module

public import proofs.«01_k».proof.Proof.KI.Host

@[expose] public section

set_option maxRecDepth 65536

noncomputable section

namespace Cert.KernelIdeal.Hand

open Cert.KernelIdeal Cert.KernelIdeal.Gen Cert.Hand
open Idealize.ShloMosaic Idealize.ShloMosaic.TcCoe Idealize.ShloMosaic.Tactic Idealize.SL.Sem

/-! ## The arrays the launch reads, at an index -/

theorem encArr_at (a b : FVec Ideal S512x512 .f32) (w1 w2 : Fin 512 → Fin 512 → EReal) (ha : ∀ i j, a (ix2 i j) = w1 i j) (hb : ∀ i j, b (ix2 i j) = w2 i j)
    (k : Fin 1024) (q : Fin 512) : encArr a b (ix2 k q) = pairW w1 w2 k q := by
  pointwise [encArr]
  unfold pairW
  by_cases h : k.val < 512
  · rw [dif_pos h, dif_pos h, ha]
  · rw [dif_neg h, dif_neg h, hb]

theorem seqArr_at (a : FVec Ideal S8x512x1024 .f32) (b : Fin 8) (l : Fin 512) (k : Fin 1024) : seqArr a (ix2 ⟨512 * b.val + l.val, by omega⟩ k) = a (ix3 b l k) := by
  pointwise [seqArr]

theorem srcArr_at (a : Vec Ideal S8x512x2 .i32) (b : Fin 8) (l : Fin 512) : srcArr a (ix3 b 0 l) = a (ix3 b l 1) := by
  pointwise [srcArr]

theorem tgtArr_at (a : Vec Ideal S8x512x2 .i32) (b : Fin 8) (l : Fin 512) : tgtArr a (ix3 b 0 l) = a (ix3 b l 0) := by
  pointwise [tgtArr]

theorem two_word : Ideal.ofBits .f32 0x40000000#32 = ((2 : ℝ) : EReal) := by
  simp [Ideal.ofBits, Ideal.ieee, -EReal.coe_mul]; norm_num

theorem five12_word : Ideal.ofBits .f32 0x44000000#32 = ((512 : ℝ) : EReal) := by
  simp [Ideal.ofBits, Ideal.ieee, -EReal.coe_mul]; norm_num

theorem negone_word : Ideal.ofBits .f32 0xBF800000#32 = ((-1 : ℝ) : EReal) := by
  simp [Ideal.ofBits, Ideal.ieee, -EReal.coe_mul]; norm_num

theorem one_word : Ideal.ofBits .f32 0x3F800000#32 = ((1 : ℝ) : EReal) := by
  simp [Ideal.ofBits, Ideal.ieee, -EReal.coe_mul]; norm_num

/-- The angle of the point (-1, 0) is π. -/
theorem atan2_pi : Ideal.atan2 0 ((-1 : ℝ) : EReal) = ((Real.pi : ℝ) : EReal) := by
  rw [← EReal.coe_zero]
  show ((_ : ℝ) : EReal) = _
  rw [if_neg (by norm_num), if_pos (by norm_num), if_pos le_rfl]
  norm_num

theorem angArr_at (n : Fin 512) (k : Fin 256) : angArr (ix2 n k) = ((ang n k : ℝ) : EReal) := by
  pointwise [angArr]
  have hm : (IntOp.muli (BitVec.ofNat 32 n.val) (BitVec.ofNat 32 k.val)).toNat = n.val * k.val := by
    show (BitVec.ofNat 32 n.val * BitVec.ofNat 32 k.val).toNat = _
    have hn := n.isLt; have hk := k.isLt
    have : n.val * k.val ≤ 511 * 255 := Nat.mul_le_mul (by omega) (by omega)
    rw [BitVec.toNat_mul, BitVec.toNat_ofNat, BitVec.toNat_ofNat, Nat.mod_eq_of_lt (a := n.val) (by omega), Nat.mod_eq_of_lt (a := k.val) (by omega), Nat.mod_eq_of_lt (a := n.val * k.val) (by omega)]
  have hlt : n.val * k.val ≤ 511 * 255 := Nat.mul_le_mul (by have := n.isLt; omega) (by have := k.isLt; omega)
  have hr : (IntOp.remsi ArithUnit.host (IntOp.muli (BitVec.ofNat 32 n.val) (BitVec.ofNat 32 k.val)) 512#32).toNat = n.val * k.val % 512 := by
    refine (IntOp.toNat_remsi ArithUnit.host (by rw [hm]; omega) 512 (by norm_num) (by norm_num)).trans ?_
    rw [hm]
  have hi : (FloatOps.sitofp FTy.f32 (IntOp.remsi ArithUnit.host (IntOp.muli (BitVec.ofNat 32 n.val) (BitVec.ofNat 32 k.val)) 512#32) : Ideal .f32)
      = (((n.val * k.val % 512 : ℕ) : ℝ) : EReal) := by
    show ((((IntOp.remsi ArithUnit.host (IntOp.muli (BitVec.ofNat 32 n.val) (BitVec.ofNat 32 k.val)) 512#32).toInt : ℤ) : ℝ) : EReal) = _
    rw [BitVec.toInt_eq_toNat_of_lt (by rw [hr]; have := Nat.mod_lt (n.val * k.val) (show 512 > 0 by norm_num); omega), hr]
    norm_cast
  rw [hi, two_word, negone_word, atan2_pi, five12_word, ← EReal.coe_mul, ← EReal.coe_mul]
  rw [div_real (by norm_num)]
  rfl

theorem wtArr_at (k : Fin 256) (n : Fin 512) : wtArr (ix2 k n) = ((wt k : ℝ) : EReal) := by
  pointwise [wtArr]
  unfold wt
  by_cases h : k.val = 0
  · rw [if_pos h, h]
    exact EReal.coe_one.symm
  · rw [if_neg h]
    have e : IntOp.cmpi CmpIPredicate.eq (BitVec.ofNat 32 k.val) 0#32 = 0#1 := by
      show BitVec.ofBool (_ == _) = _
      rw [show (BitVec.ofNat 32 k.val == 0#32) = false from by
        rw [beq_eq_false_iff_ne]
        intro e
        have := congrArg BitVec.toNat e
        rw [BitVec.toNat_ofNat] at this
        have hk := k.isLt
        simp at this
        omega]
      rfl
    rw [e]
    exact two_word

theorem fwdArr_at (n k : Fin 512) : fwdArr angArr (ix2 n k) = ((fwd n k : ℝ) : EReal) := by
  pointwise [fwdArr]
  unfold fwd
  by_cases h : k.val < 256
  · rw [dif_pos h, if_pos h, angArr_at]; rfl
  · rw [dif_neg h, if_neg h, angArr_at]; rfl

theorem bwdArr_at (k q : Fin 512) : bwdArr angArr wtArr (ix2 k q) = ((bwd k q : ℝ) : EReal) := by
  pointwise [bwdArr]
  unfold bwd
  by_cases h : k.val < 256
  · rw [dif_pos h, if_pos h, angArr_at, wtArr_at, five12_word]
    rw [show Ideal.cos ((ang q k : ℝ) : EReal) = ((Real.cos (ang q k) : ℝ) : EReal) from rfl, ← EReal.coe_mul, div_real (by norm_num)]
  · rw [dif_neg h, if_neg h, angArr_at, wtArr_at, five12_word]
    rw [show Ideal.sin ((ang q (k.val - 256) : ℝ) : EReal) = ((Real.sin (ang q (k.val - 256)) : ℝ) : EReal) from rfl, ← EReal.coe_neg, ← EReal.coe_mul, div_real (by norm_num)]

theorem wallArr_at (a : FVec Ideal S512x512 .f32) (w : FVec Ideal S1024x512 .f32) (n : Fin 512) (k : Fin 1536) :
    wallArr a w (ix2 n k) = if h : k.val < 512 then a (ix2 ⟨k.val, h⟩ n) else w (ix2 ⟨k.val - 512, by omega⟩ n) := by
  pointwise [wallArr]

theorem biasArr_at (a : FVec Ideal S512 .f32) (w : FVec Ideal S1024 .f32) (k : Fin 1536) :
    biasArr a w (ix2 0 k) = if h : k.val < 512 then a (ix1 ⟨k.val, h⟩) else w (ix1 ⟨k.val - 512, by omega⟩) := by
  pointwise [biasArr]

theorem lit_alt : ∀ q : Fin 512, lit0 (S512.rowMajor (ix1 q)) = if q.val % 2 = 0 then 0x3F800000#32 else 0xBF800000#32 := by decide +kernel

theorem altArr_at (q : Fin 512) : altArr (ix2 0 q) = ((alt q : ℝ) : EReal) := by
  pointwise [altArr]
  rw [lit_alt q]
  unfold alt
  by_cases h : q.val % 2 = 0
  · rw [if_pos h, one_word, Even.neg_one_pow (Nat.even_iff.2 h)]
  · rw [if_neg h, negone_word, Odd.neg_one_pow (Nat.odd_iff.2 (by omega))]

end Cert.KernelIdeal.Hand

end
-- ==== Proof.KI.Output.lean ====
module

public import proofs.«01_k».proof.Proof.KI.Tables

@[expose] public section

set_option maxRecDepth 65536

noncomputable section

namespace Cert.KernelIdeal.Hand

open Cert.KernelIdeal Cert.KernelIdeal.Gen Cert.Hand
open Idealize.ShloMosaic Idealize.ShloMosaic.TcCoe Idealize.ShloMosaic.Tactic Idealize.SL.Sem

variable (m : (ℓ : Loc nD τ sig) → Buf (Elt Ideal) ℓ)

/-! ## The staged blocks -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

/-- The row block and the column block that a point writes. -/
def blkI (t : ℕ) : ℕ := if t < 4 then 0 else if t < 6 then 1 else if t < 8 then 0 else 1
def blkJ (t : ℕ) : ℕ := if t < 4 then t + 2 else if t < 6 then t - 4 else t - 6

theorem idx7 : ∀ t : Fin cfg0.N, win0_7.index t = ![0, blkJ t.val] := (by decide +kernel : ∀ t : Fin grid0.N, _)
theorem idx8 : ∀ t : Fin cfg0.N, win0_8.index t = ![0, blkJ t.val] := (by decide +kernel : ∀ t : Fin grid0.N, _)
theorem idx10 : ∀ t : Fin cfg0.N, win0_10.index t = ![0, blkI t.val, blkJ t.val] := (by decide +kernel : ∀ t : Fin grid0.N, _)

theorem iblk0 (c : Dev nD) (t) : iblk m c 0 t = V m c main_call0_v1 := by blk_ext! [iblk, idx0 t]
theorem iblk1 (c : Dev nD) (t) : iblk m c 1 t = V m c main_call0_v5 := by blk_ext! [iblk, idx1 t]
theorem iblk2 (c : Dev nD) (t) : iblk m c 2 t = V m c main_call0_v8 := by blk_ext! [iblk, idx2 t]
theorem iblk3 (c : Dev nD) (t) : iblk m c 3 t = V m c main_call0_v11 := by blk_ext! [iblk, idx3 t]
theorem iblk4 (c : Dev nD) (t) : iblk m c 4 t = V m c main_call0_v45 := by blk_ext! [iblk, idx4 t]
theorem iblk5 (c : Dev nD) (t) : iblk m c 5 t = V m c main_call0_v46 := by blk_ext! [iblk, idx5 t]
theorem iblk6 (c : Dev nD) (t) : iblk m c 6 t = V m c main_call0_v0 := by blk_ext! [iblk, idx6 t]

theorem blkJ_lt (t : Fin cfg0.N) : blkJ t.val ≤ 5 := by
  have h : t.val < 12 := lt_of_lt_of_eq t.isLt npoints
  unfold blkJ; split_ifs <;> omega

theorem iblk7 (c : Dev nD) (t) (n : Fin 512) (q : Fin 256) :
    iblk m c 7 t (ix2 n q) = V m c main_call0_v50 (ix2 n ⟨256 * blkJ t.val + q.val, by have := blkJ_lt t; omega⟩) := by
  blk_ext! [iblk, idx7 t]

theorem iblk8 (c : Dev nD) (t) (q : Fin 256) :
    iblk m c 8 t (ix2 0 q) = V m c main_call0_v52 (ix2 0 ⟨256 * blkJ t.val + q.val, by have := blkJ_lt t; omega⟩) := by
  blk_ext! [iblk, idx8 t]

end Cert.KernelIdeal.Hand

end
-- ==== Proof.KI.Result.lean ====
module

public import proofs.«01_k».proof.Proof.KI.Output

@[expose] public section

set_option maxRecDepth 65536

noncomputable section

namespace Cert.KernelIdeal.Hand

open Cert.KernelIdeal Cert.KernelIdeal.Gen Cert.Hand
open Idealize.ShloMosaic Idealize.ShloMosaic.TcCoe Idealize.ShloMosaic.Tactic Idealize.SL.Sem

variable (m : (ℓ : Loc nD τ sig) → Buf (Elt Ideal) ℓ)

theorem off57 : ∀ t : Fin cfg0.N, 6 ≤ t.val → k0_off57 (grid0.coords t) 1 = 512 * blkI t.val :=
  (by decide +kernel : ∀ t : Fin grid0.N, 6 ≤ t.val → k0_off57 (grid0.coords t) 1 = 512 * blkI t.val)

/-- Where a point's output block lies. -/
theorem emb10 (t : Fin cfg0.N) (X : S8x1024x1536.Idx → EReal) (b : Fin 8) (r : Fin 512) (q : Fin 256) :
    X ((win0_10.blk t).view.emb (ix3 b r q)) = X (ix3 b ⟨512 * blkI t.val + r.val, by unfold blkI; split_ifs <;> omega⟩ ⟨256 * blkJ t.val + q.val, by have := blkJ_lt t; omega⟩) := by
  blk_ext! [idx10 t]

/-- The vector buffer, once built, holds the values of the specification. -/
theorem vecs_at (c : Dev nD) (s : Fin 8 → Fin 512 → Fin 1024 → EReal) (w1 w2 : Fin 512 → Fin 512 → EReal) (tgt src : Fin 8 → Fin 512 → Fin 512)
    (h0 : ∀ b l k, (m ((c : Thread nD τ).loc main_arg0) : Vec Ideal S8x512x1024 .f32) (ix3 b l k) = s b l k)
    (h4 : ∀ i j, (m ((c : Thread nD τ).loc main_arg4) : Vec Ideal S512x512 .f32) (ix2 i j) = w1 i j)
    (h5 : ∀ i j, (m ((c : Thread nD τ).loc main_arg5) : Vec Ideal S512x512 .f32) (ix2 i j) = w2 i j)
    (ht : ∀ b l, ((m ((c : Thread nD τ).loc main_arg1) : Vec Ideal S8x512x2 .i32) (ix3 b l 0)).toNat = (tgt b l).val)
    (hs : ∀ b l, ((m ((c : Thread nD τ).loc main_arg1) : Vec Ideal S8x512x2 .i32) (ix3 b l 1)).toNat = (src b l).val) :
    Holds3 (vecs m c) (finalR s w1 w2 tgt src (fun n b k => word (m ((c : Thread nD τ).loc main_arg2) : Vec Ideal S8x64x4 .i32) b n k)) := by
  unfold vecs finalVec finalR
  rw [iblk9 m c six, iblk0 m c six, iblk1 m c six, iblk2 m c six, iblk3 m c six, iblk4 m c six, iblk5 m c six, iblk6 m c six, V_seq, V_enc, V_src, V_tgt, V_fwd, V_bwd, V_alt]
  exact tripN_at _ _ _ _ _ fwdArr_at bwdArr_at altArr_at _
    (initVec_at _ _ _ _ s w1 w2 tgt src (fun b l k => (seqArr_at _ b l k).trans (h0 b l k)) (encArr_at _ _ w1 w2 h4 h5)
      (fun b l => (congrArg BitVec.toNat (srcArr_at _ b l)).trans (hs b l)) (fun b l => (congrArg BitVec.toNat (tgtArr_at _ b l)).trans (ht b l))) 64

theorem pay3_at (b : Fin 8) (r : Fin 512) (q : Fin 256) : (k0_pay3 : FVec Ideal S8x512x256 .f32) (ix3 b r q) = (0 : EReal) := by
  pointwise [k0_pay3]

theorem pay2_at (a : Vec Ideal S8x512x512 .f32) (w : Vec Ideal S512x256 .bf16) (s : Vec Ideal S1x256 .f32) (b : Fin 8) (r : Fin 512) (q : Fin 256) :
    (k0_pay2 a w s : Vec Ideal S8x512x256 .f32) (ix3 b r q) = ∑ x : Fin 512, a (ix3 b r x) * w (ix2 x q) + s (ix2 0 q) := by
  pointwise [k0_pay2]

/-- The result array after the launch. -/
theorem arr10 (c : Dev nD) (V : Fin 8 → Fin 1024 → Fin 512 → EReal) (hv : Holds3 (vecs m c) V) :
    (dats m 0 c).arrAt 10 cfg0.N = (fun p => outSpec V (m ((c : Thread nD τ).loc main_arg6)) (m ((c : Thread nD τ).loc main_arg7)) (m ((c : Thread nD τ).loc main_arg8)) (m ((c : Thread nD τ).loc main_arg9)) (p 0) (p 1) (p 2) : S8x1024x1536.Idx → EReal) := by
  refine (dats m 0 c).arrAt_eq_of_covers 10 _ (by decide +kernel) fun t hf y => ?_
  blk_simp
  rw [after_10]
  obtain ⟨b, r, q, rfl⟩ : ∃ (b : Fin 8) (r : Fin 512) (q : Fin 256), y = ix3 b r q := ⟨_, _, _, (ix3_eta (show S8x512x256.Idx from y)).symm⟩
  refine Eq.trans ?_ (emb10 t (fun p => outSpec V (m ((c : Thread nD τ).loc main_arg6)) (m ((c : Thread nD τ).loc main_arg7)) (m ((c : Thread nD τ).loc main_arg8)) (m ((c : Thread nD τ).loc main_arg9)) (p 0) (p 1) (p 2)) b r q).symm
  have hN : t.val < 12 := lt_of_lt_of_eq t.isLt npoints
  have hr := r.isLt
  have hq := q.isLt
  show outBlk m c t (ix3 b r q) = outSpec V _ _ _ _ b ⟨512 * blkI t.val + r.val, _⟩ ⟨256 * blkJ t.val + q.val, _⟩
  unfold outBlk outSpec
  by_cases h6 : t.val < 6
  · rw [if_pos h6, pay3_at]
    by_cases h4 : t.val < 4
    · rw [dif_neg (by show ¬ 256 * blkJ t.val + q.val < 512; unfold blkJ; rw [if_pos h4]; omega),
        if_pos (by show 512 * blkI t.val + r.val < 512; unfold blkI; rw [if_pos h4]; omega)]
    · rw [dif_pos (by show 256 * blkJ t.val + q.val < 512; unfold blkJ; rw [if_neg h4, if_pos h6]; omega),
        if_neg (by show ¬ 512 * blkI t.val + r.val < 512; unfold blkI; rw [if_neg h4, if_pos h6]; omega)]
  · rw [if_neg h6, pay2_at]
    have hhalf : ∀ x : Fin 512, half (grid0.coords t) (vecs m c) (ix3 b r x) = V b ⟨512 * blkI t.val + r.val, by unfold blkI; split_ifs <;> omega⟩ x := fun x => by
      refine Eq.trans ?_ (hv _ _ _)
      show vecs m c (ix3 b ⟨(k0_off57 (grid0.coords t) 1 + r.val) % 1024, _⟩ x) = _
      refine congrArg (fun z => vecs m c (ix3 b z x)) (Fin.ext ?_)
      show (k0_off57 (grid0.coords t) 1 + r.val) % 1024 = 512 * blkI t.val + r.val
      rw [off57 t (by omega)]
      refine Nat.mod_eq_of_lt ?_
      unfold blkI; split_ifs <;> omega
    simp only [hhalf, iblk7, iblk8, V_wall, V_bias, wallArr_at, biasArr_at]
    by_cases h8 : t.val < 8
    · have hJ : 256 * blkJ t.val + q.val < 512 := by unfold blkJ; rw [if_neg (by omega), if_neg h6]; omega
      have hI : 512 * blkI t.val + r.val < 512 := by unfold blkI; rw [if_neg (by omega), if_neg h6, if_pos h8]; omega
      simp only [dif_pos hJ]
      rw [if_pos hI]
      refine congrArg₂ (fun a b : EReal => a + b) (Finset.sum_congr rfl fun x _ => congrArg (fun z : EReal => V b _ x * z) ?_) ?_
      · exact (congrFun (V_wall m c) _).trans ((wallArr_at _ _ _ _).trans (dif_pos hJ))
      · exact (congrFun (V_bias m c) _).trans ((biasArr_at _ _ _).trans (dif_pos hJ))
    · have hJ : ¬ 256 * blkJ t.val + q.val < 512 := by unfold blkJ; rw [if_neg (by omega), if_neg h6]; omega
      have hI : ¬ 512 * blkI t.val + r.val < 512 := by unfold blkI; rw [if_neg (by omega), if_neg h6, if_neg h8]; omega
      simp only [dif_neg hJ]
      rw [if_neg hI]
      refine congrArg₂ (fun a b : EReal => a + b) (Finset.sum_congr rfl fun x _ => congrArg (fun z : EReal => V b _ x * z) ?_) ?_
      · exact (congrFun (V_wall m c) _).trans ((wallArr_at _ _ _ _).trans (dif_neg hJ))
      · exact (congrFun (V_bias m c) _).trans ((biasArr_at _ _ _).trans (dif_neg hJ))

end Cert.KernelIdeal.Hand

end
-- ==== Proof.PreDrawn.lean ====
module

public import proofs.«01_k».proof.Proof.PreRows
public import proofs.«01_k».proof.Proof.Gen.Pre_drawn
public import Idealize.ShloMosaic.Lib.Pipeline.ValueKit
public import Idealize.ShloMosaic.Lib.ValueIdxCore
public import Idealize.ShloMosaic.Lib.IdealHost
public import Idealize.ShloMosaic.Lib.WordCmp

@[expose] public section

noncomputable section

namespace Cert.Hand

open Idealize.ShloMosaic

/-- What the second precondition says of the argument arrays. -/
structure Drawn (a1 : (⟨3, ![8, 512, 2]⟩ : Shape).Idx → BitVec 32)
    (a2 : (⟨3, ![8, 64, 4]⟩ : Shape).Idx → BitVec 32) : Prop where
  rows : ∀ (i : Fin 8) (j : Fin 64) (k : Fin 3), (a2 (ix3 i j k.succ)).toNat < 1024
  kids : ∀ (i : Fin 8) (j : Fin 64), a2 (ix3 i j 0) = 1#32 ∨ a2 (ix3 i j 0) = 2#32
  tgt : ∀ (i : Fin 8) (j : Fin 512), (a1 (ix3 i j 0)).toNat < 512
  src : ∀ (i : Fin 8) (j : Fin 512), (a1 (ix3 i j 1)).toNat < 512
  inj : ∀ (i : Fin 8) (j k : Fin 512), a1 (ix3 i j 0) = a1 (ix3 i k 0) → j = k

/-- The second precondition, read off its comparisons. -/
theorem drawn_of (a0 a1 a2 a3 a4 a5 a6 a7 a8 a9)
    (h : (Cert.Pre_drawn.fn (F := Ideal) a0 a1 a2 a3 a4 a5 a6 a7 a8 a9).1 = (fun _ => 1#1)
      ∧ (Cert.Pre_drawn.fn (F := Ideal) a0 a1 a2 a3 a4 a5 a6 a7 a8 a9).2.1 = (fun _ => 1#1)
      ∧ (Cert.Pre_drawn.fn (F := Ideal) a0 a1 a2 a3 a4 a5 a6 a7 a8 a9).2.2.1 = (fun _ => 1#1)
      ∧ (Cert.Pre_drawn.fn (F := Ideal) a0 a1 a2 a3 a4 a5 a6 a7 a8 a9).2.2.2.1 = (fun _ => 1#1)
      ∧ (Cert.Pre_drawn.fn (F := Ideal) a0 a1 a2 a3 a4 a5 a6 a7 a8 a9).2.2.2.2 = (fun _ => 1#1)) :
    Drawn a1 a2 := by
  obtain ⟨h0, h1, h2, h3, h4⟩ := h
  have tc : ∀ i j, shapeCast Cert.Pre_drawn.S8x512 (extractStridedSlice Cert.Pre_drawn.S8x512x1 ![0, 0, 0] a1 Cert.Pre_drawn.Facts.slices_S8x512x2_S8x512x1_0_0_0)
      Cert.Pre_drawn.Facts.shapeCasts_S8x512x1_S8x512 (ix2 i j) = a1 (ix3 i j 0) := fun i j => by
    rw [cast_drop, col_slice (by decide)]; rfl
  have sc : ∀ i j, shapeCast Cert.Pre_drawn.S8x512 (extractStridedSlice Cert.Pre_drawn.S8x512x1 ![0, 0, 1] a1 Cert.Pre_drawn.Facts.slices_S8x512x2_S8x512x1_0_0_1)
      Cert.Pre_drawn.Facts.shapeCasts_S8x512x1_S8x512 (ix2 i j) = a1 (ix3 i j 1) := fun i j => by
    rw [cast_drop, col_slice (by decide)]; rfl
  have kc : ∀ i j, shapeCast Cert.Pre_drawn.S8x64 (extractStridedSlice Cert.Pre_drawn.S8x64x1 ![0, 0, 0] a2 Cert.Pre_drawn.Facts.slices_S8x64x4_S8x64x1_0_0_0)
      Cert.Pre_drawn.Facts.shapeCasts_S8x64x1_S8x64 (ix2 i j) = a2 (ix3 i j 0) := fun i j => by
    rw [cast_drop, col_slice (by decide)]; rfl
  refine ⟨fun i j k => ?_, fun i j => ?_, fun i j => ?_, fun i j => ?_, fun i j k hjk => ?_⟩
  · have e := congrFun h0 (ix3 i j k)
    rw [← tail_slice a2 Cert.Pre_drawn.Facts.slices_S8x64x4_S8x64x3_0_0_1]
    exact lt_of_range (by decide) _ e
  · have e := congrFun h1 (ix2 i j)
    rw [← kc i j]
    exact eq_or_of_ori _ _ _ _ e
  · have e := congrFun h2 (ix2 i j)
    rw [← tc i j]
    exact lt_of_range (by decide) _ e
  · have e := congrFun h3 (ix2 i j)
    rw [← sc i j]
    exact lt_of_range (by decide) _ e
  · have e := congrFun h4 (ix3 i j k)
    have := eq_of_ori_ne _ _ _ _ e (by
      refine (broadcastInDim_apply _ _ _ _ (ix3 i j 0) ?_).trans (((broadcastInDim_apply _ _ _ _ (ix2 i j) ?_).trans (tc i j)).trans (hjk.trans
        (((broadcastInDim_apply _ _ _ _ (ix3 i 0 k) ?_).trans ((broadcastInDim_apply _ _ _ _ (ix2 i k) ?_).trans (tc i k))).symm)))
      · intro a; match a with | ⟨0, _⟩ => rfl | ⟨1, _⟩ => rfl | ⟨2, _⟩ => rfl
      · intro a; match a with | ⟨0, _⟩ => rfl | ⟨1, _⟩ => rfl
      · intro a; match a with | ⟨0, _⟩ => rfl | ⟨1, _⟩ => rfl | ⟨2, _⟩ => rfl
      · intro a; match a with | ⟨0, _⟩ => rfl | ⟨1, _⟩ => rfl)
    have h2 := congrArg BitVec.toNat (show BitVec.ofNat 32 j.val = BitVec.ofNat 32 k.val from this)
    rw [BitVec.toNat_ofNat, BitVec.toNat_ofNat] at h2
    exact Fin.ext (by have := j.isLt; have := k.isLt; omega)

end Cert.Hand

end
-- ==== Proof.Math.Whole.lean ====
module

public import proofs.«01_k».proof.Proof.Math.Spec
public import proofs.«01_k».proof.Proof.PreDrawn

@[expose] public section

noncomputable section

namespace Cert.Hand

open Idealize.ShloMosaic

/-- The leaves by their numbers. -/
def seqR (a0 : FVec Ideal (⟨3, ![8, 512, 1024]⟩ : Shape) .f32) (b : Fin 8) (l : Fin 512) (k : Fin 1024) : EReal := a0 (ix3 b l k)

/-- A weight matrix by its numbers. -/
def matR (a : FVec Ideal (⟨2, ![512, 512]⟩ : Shape) .f32) (i j : Fin 512) : EReal := a (ix2 i j)

/-- A column of the leaf positions, as leaf numbers. -/
def posR (a1 : (⟨3, ![8, 512, 2]⟩ : Shape).Idx → BitVec 32) (k : Fin 2) (b : Fin 8) (l : Fin 512) : Fin 512 :=
  ⟨(a1 (ix3 b l k)).toNat % 512, Nat.mod_lt _ (by decide)⟩

/-- The words of step `n`. -/
def wordsR (a2 : (⟨3, ![8, 64, 4]⟩ : Shape).Idx → BitVec 32) (n : ℕ) (b : Fin 8) (k : Fin 4) : BitVec 32 :=
  a2 (ix3 b ⟨n % 64, Nat.mod_lt _ (by decide)⟩ k)

/-- The buffer before the first step, by the argument arrays. -/
def startR (a0 : FVec Ideal (⟨3, ![8, 512, 1024]⟩ : Shape) .f32) (a1 : (⟨3, ![8, 512, 2]⟩ : Shape).Idx → BitVec 32)
    (a4 a5 : FVec Ideal (⟨2, ![512, 512]⟩ : Shape) .f32) : Fin 8 → Fin 1024 → Fin 512 → EReal :=
  start (enc (seqR a0) (matR a4) (matR a5)) (posR a1 0) (posR a1 1)

/-- The final buffer, by the argument arrays. -/
def bufR (a0 : FVec Ideal (⟨3, ![8, 512, 1024]⟩ : Shape) .f32) (a1 : (⟨3, ![8, 512, 2]⟩ : Shape).Idx → BitVec 32)
    (a2 : (⟨3, ![8, 64, 4]⟩ : Shape).Idx → BitVec 32) (a4 a5 : FVec Ideal (⟨2, ![512, 512]⟩ : Shape) .f32) : Fin 8 → Fin 1024 → Fin 512 → EReal :=
  stepsR (wordsR a2) (startR a0 a1 a4 a5) 64

/-- The result both programs compute, by the argument arrays. -/
def result (a0 : FVec Ideal (⟨3, ![8, 512, 1024]⟩ : Shape) .f32) (a1 : (⟨3, ![8, 512, 2]⟩ : Shape).Idx → BitVec 32)
    (a2 : (⟨3, ![8, 64, 4]⟩ : Shape).Idx → BitVec 32) (a4 a5 a6 : FVec Ideal (⟨2, ![512, 512]⟩ : Shape) .f32) (a7 : FVec Ideal (⟨1, ![512]⟩ : Shape) .f32)
    (a8 : FVec Ideal (⟨2, ![1024, 512]⟩ : Shape) .f32) (a9 : FVec Ideal (⟨1, ![1024]⟩ : Shape) .f32) : (⟨3, ![8, 1024, 1536]⟩ : Shape).Idx → EReal :=
  fun p => outSpec (bufR a0 a1 a2 a4 a5) a6 a7 a8 a9 (p 0) (p 1) (p 2)

end Cert.Hand

end
-- ==== Proof.KI.Value.lean ====
module

public import proofs.«01_k».proof.Proof.KI.Result
public import proofs.«01_k».proof.Proof.KI.Rows
public import proofs.«01_k».proof.Proof.Math.Whole

@[expose] public section

set_option maxRecDepth 65536

noncomputable section

namespace Cert.KernelIdeal.Hand

open Cert.KernelIdeal Cert.KernelIdeal.Gen Cert.Hand
open Idealize.ShloMosaic Idealize.ShloMosaic.TcCoe Idealize.ShloMosaic.Tactic Idealize.SL.Sem

variable (m : (ℓ : Loc nD τ sig) → Buf (Elt Ideal) ℓ) (ρ : Dev nD → PrngReg)

/-- The result by the launch's argument arrays. -/
def res (c : Dev nD) : Buf (Elt Ideal) ((c : Thread nD τ).loc main_v0) :=
  result (m ((c : Thread nD τ).loc main_arg0)) (m ((c : Thread nD τ).loc main_arg1)) (m ((c : Thread nD τ).loc main_arg2)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))

/-- The output array at the end of the launch. -/
theorem arr_res (c : Dev nD)
    (D : Drawn (m ((c : Thread nD τ).loc main_arg1)) (m ((c : Thread nD τ).loc main_arg2))) :
    (dats m 0 c).arrAt 10 cfg0.N = res m c :=
  arr10 m c (bufR (m ((c : Thread nD τ).loc main_arg0)) (m ((c : Thread nD τ).loc main_arg1)) (m ((c : Thread nD τ).loc main_arg2)) (m ((c : Thread nD τ).loc main_arg4)) (m ((c : Thread nD τ).loc main_arg5)))
    (vecs_at m c _ _ _ _ _ (fun b l k => rfl) (fun i j => rfl) (fun i j => rfl)
      (fun b l => (Nat.mod_eq_of_lt (D.tgt b l)).symm) (fun b l => (Nat.mod_eq_of_lt (D.src b l)).symm))

/-- The launch ends with the result in its output array and its arguments as they were. -/
theorem run_value
    (D : ∀ c : Dev nD, Drawn (m ((c : Thread nD τ).loc main_arg1)) (m ((c : Thread nD τ).loc main_arg2))) :
    θ_run defs (onTc (τ := τ) (main (F := Ideal))) ⟨m, fun _ => 0, ρ⟩ (fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  have hx : ∀ c, RowsOk (F := Ideal) (iblk m c 9 six) := fun c => by
    rw [iblk9]; exact rowsOk_of _ (D c).rows
  refine (θ_run defs _ _).mono (fun _ h c => ⟨?_, h.2 c⟩) (θ_run_and (run_post m ρ hx) (frame_of m ρ (dats m) (A_eq m) (run_post m ρ hx)))
  exact ((h.1 c).1 10).trans (arr_res m c (D c))

end Cert.KernelIdeal.Hand

end
-- ==== Proof.RI.Keep.lean ====
module

public import proofs.«01_k».proof.Proof.Gen.ReferenceIdeal.Run
public import Idealize.ShloMosaic.Lib.Quiescent
public import Idealize.ShloMosaic.Lib.Claim

@[expose] public section

noncomputable section

namespace Cert.ReferenceIdeal.Hand

open Cert.ReferenceIdeal Cert.ReferenceIdeal.Gen Cert.ReferenceIdeal.Value
open Idealize.ShloMosaic Idealize.ShloMosaic.TcCoe
open Idealize.ShloMosaic.StableHlo
open Idealize.SL Idealize.SL.RA Idealize.SL.BI
open scoped Idealize.SL.BI
open Idealize.SL.BI.BIBase Idealize.SL.Sem

variable {F : FTy → Type} [FloatOps F]
variable (m : (ℓ : Loc nD τ sig) → Buf (Elt F) ℓ) (ρ : Dev nD → PrngReg)

/-- The buffers written after the loop. -/
abbrev postW : List (Ref sig .tc) := [main_v64, main_v65, main_v66, main_v67, main_v68, main_v69, main_v70, main_v71, main_v72, main_v73, main_v74, main_v75, main_v76, main_v77, main_v78, main_v79, main_v80, main_v81, main_v82, main_v83]

theorem post_writes : (hostOps0_3 : List (HloOp τ sig (Elt F))).Forall fun op => op.writes ⊆ (postW.map (Proc.devRef (τ := τ) .tc)).toFinset :=
  StableHlo.forall_writes_sub_of_map rfl

/-- The buffers written by the loop, its test included. -/
abbrev loopW : List (Ref sig .tc) := condOps_W ++ while0Ops0_W ++ while0Ops0_1_W ++ while0Ops0_2_W ++ while0Ops0_3_W ++ while0Ops0_4_W ++ while0Ops0_5_W ++ while0Ops0_6_W ++ while0Ops0_7_W ++ while0Ops0_8_W

/-- The buffers written before the loop. -/
abbrev preW : List (Ref sig .tc) := hostOps0_W ++ hostOps0_1_W ++ hostOps0_2_W

theorem loop_kept {b : Ref sig .tc} (hb : b ∉ loopW) (V : Valuation τ sig (Elt F)) :
    afterL bodyI (after condOps V) (Proc.devRef .tc b) = V (Proc.devRef .tc b) := by
  simp only [loopW, List.mem_append, not_or] at hb
  obtain ⟨⟨⟨⟨⟨⟨⟨⟨⟨h0, h1⟩, h2⟩, h3⟩, h4⟩, h5⟩, h6⟩, h7⟩, h8⟩, h9⟩ := hb
  simp only [afterL_cons, afterL_nil]
  rw [after_of_writes_sub while0Ops0_8 _ while0Ops0_8_writes h9]
  rw [after_of_writes_sub while0Ops0_7 _ while0Ops0_7_writes h8]
  rw [after_of_writes_sub while0Ops0_6 _ while0Ops0_6_writes h7]
  rw [after_of_writes_sub while0Ops0_5 _ while0Ops0_5_writes h6]
  rw [after_of_writes_sub while0Ops0_4 _ while0Ops0_4_writes h5]
  rw [after_of_writes_sub while0Ops0_3 _ while0Ops0_3_writes h4]
  rw [after_of_writes_sub while0Ops0_2 _ while0Ops0_2_writes h3]
  rw [after_of_writes_sub while0Ops0_1 _ while0Ops0_1_writes h2]
  rw [after_of_writes_sub while0Ops0 _ while0Ops0_writes h1]
  exact after_of_writes_sub condOps _ condOps_writes h0

/-- A buffer the loop does not write is, before every trip, as it was at the loop's entry. -/
theorem atK_kept {b : Ref sig .tc} (hb : b ∉ loopW) (c : Dev nD) : ∀ k, atK m k c (Proc.devRef .tc b) = entryContents preI m c (Proc.devRef .tc b)
  | 0 => rfl
  | k + 1 => (loop_kept hb (atK m k c)).trans (atK_kept hb c k)

theorem cond_kept {b : Ref sig .tc} (hb : b ∉ condOps_W) (V : Valuation τ sig (Elt F)) :
    after condOps V (Proc.devRef .tc b) = V (Proc.devRef .tc b) :=
  after_of_writes_sub condOps _ condOps_writes hb

theorem entry_kept {b : Ref sig .tc} (hb : b ∉ preW) (c : Dev nD) :
    entryContents preI m c (Proc.devRef .tc b) = m ((c.tc : Thread nD τ).loc b) := by
  simp only [preW, List.mem_append, not_or] at hb
  obtain ⟨⟨h0, h1⟩, h2⟩ := hb
  simp only [entryContents, afterL_cons, afterL_nil]
  rw [after_of_writes_sub hostOps0_2 _ hostOps0_2_writes h2, after_of_writes_sub hostOps0_1 _ hostOps0_1_writes h1,
    after_of_writes_sub hostOps0 _ hostOps0_writes h0]

/-- A buffer nothing writes ends as it was. -/
theorem final_kept {b : Ref sig .tc} (h0 : b ∉ preW) (h1 : b ∉ loopW) (h2 : b ∉ postW) (c : Dev nD) :
    finalContents condOps preI bodyI postI 64 m c (Proc.devRef .tc b) = m ((c.tc : Thread nD τ).loc b) := by
  have hc : b ∉ condOps_W := fun h => h1 (by simp only [loopW, List.mem_append]; tauto)
  simp only [finalContents, afterL_cons, afterL_nil]
  rw [after_of_writes_sub hostOps0_3 _ post_writes h2, cond_kept hc]
  exact (atK_kept m h1 c 64).trans (entry_kept m h0 c)

theorem arg0_pre : main_arg0 ∉ preW := by decide +kernel
theorem arg0_loop : main_arg0 ∉ loopW := by decide +kernel
theorem arg0_post : main_arg0 ∉ postW := by decide +kernel
theorem arg1_pre : main_arg1 ∉ preW := by decide +kernel
theorem arg1_loop : main_arg1 ∉ loopW := by decide +kernel
theorem arg1_post : main_arg1 ∉ postW := by decide +kernel
theorem arg2_pre : main_arg2 ∉ preW := by decide +kernel
theorem arg2_loop : main_arg2 ∉ loopW := by decide +kernel
theorem arg2_post : main_arg2 ∉ postW := by decide +kernel
theorem arg3_pre : main_arg3 ∉ preW := by decide +kernel
theorem arg3_loop : main_arg3 ∉ loopW := by decide +kernel
theorem arg3_post : main_arg3 ∉ postW := by decide +kernel
theorem arg4_pre : main_arg4 ∉ preW := by decide +kernel
theorem arg4_loop : main_arg4 ∉ loopW := by decide +kernel
theorem arg4_post : main_arg4 ∉ postW := by decide +kernel
theorem arg5_pre : main_arg5 ∉ preW := by decide +kernel
theorem arg5_loop : main_arg5 ∉ loopW := by decide +kernel
theorem arg5_post : main_arg5 ∉ postW := by decide +kernel
theorem arg6_pre : main_arg6 ∉ preW := by decide +kernel
theorem arg6_loop : main_arg6 ∉ loopW := by decide +kernel
theorem arg6_post : main_arg6 ∉ postW := by decide +kernel
theorem arg7_pre : main_arg7 ∉ preW := by decide +kernel
theorem arg7_loop : main_arg7 ∉ loopW := by decide +kernel
theorem arg7_post : main_arg7 ∉ postW := by decide +kernel
theorem arg8_pre : main_arg8 ∉ preW := by decide +kernel
theorem arg8_loop : main_arg8 ∉ loopW := by decide +kernel
theorem arg8_post : main_arg8 ∉ postW := by decide +kernel
theorem arg9_pre : main_arg9 ∉ preW := by decide +kernel
theorem arg9_loop : main_arg9 ∉ loopW := by decide +kernel
theorem arg9_post : main_arg9 ∉ postW := by decide +kernel

/-- The reference runs, every argument array ends as it was, and no semaphore counter is left. -/
theorem frame_run : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run _ _ _).mono (fun r h => ⟨fun c => ⟨(h c main_arg0 rfl).trans (final_kept m arg0_pre arg0_loop arg0_post c), (h c main_arg1 rfl).trans (final_kept m arg1_pre arg1_loop arg1_post c), (h c main_arg2 rfl).trans (final_kept m arg2_pre arg2_loop arg2_post c), (h c main_arg3 rfl).trans (final_kept m arg3_pre arg3_loop arg3_post c), (h c main_arg4 rfl).trans (final_kept m arg4_pre arg4_loop arg4_post c), (h c main_arg5 rfl).trans (final_kept m arg5_pre arg5_loop arg5_post c), (h c main_arg6 rfl).trans (final_kept m arg6_pre arg6_loop arg6_post c), (h c main_arg7 rfl).trans (final_kept m arg7_pre arg7_loop arg7_post c), (h c main_arg8 rfl).trans (final_kept m arg8_pre arg8_loop arg8_post c), (h c main_arg9 rfl).trans (final_kept m arg9_pre arg9_loop arg9_post c)⟩,
    sem_eq_zero_of_no_sems rfl r.2⟩) (run_fold m ρ)

end Cert.ReferenceIdeal.Hand

end
-- ==== Proof.RI.Moves.lean ====
module

public import proofs.«01_k».proof.Proof.Gen.ReferenceIdeal.Run
public import Idealize.ShloMosaic.Lib.Pointwise
public import Idealize.ShloMosaic.Lib.Routing.OpsPair

@[expose] public section

set_option maxRecDepth 16384

noncomputable section

namespace Cert.ReferenceIdeal.Hand

open Cert.ReferenceIdeal Cert.ReferenceIdeal.Gen
open Idealize.ShloMosaic

/-- A run of overwrites that all write one value, at least one of them taking place, leaves that value. -/
theorem foldl_hit {α β : Type} (P : β → Prop) [DecidablePred P] (v : β → α) (y : α) (hv : ∀ n, P n → v n = y) :
    ∀ (L : List β) (x : α), (∃ n ∈ L, P n) ∨ x = y → L.foldl (fun a n => if P n then v n else a) x = y
  | [], x, h => by
    rcases h with ⟨n, hn, _⟩ | h
    · exact absurd hn List.not_mem_nil
    · exact h
  | n :: L, x, h => by
    rw [List.foldl_cons]
    refine foldl_hit P v y hv L _ ?_
    by_cases hn : P n
    · right; rw [if_pos hn]; exact hv n hn
    · rw [if_neg hn]
      rcases h with ⟨k, hk, hP⟩ | h
      · rcases List.mem_cons.1 hk with rfl | hk
        · exact absurd hP hn
        · exact Or.inl ⟨k, hk, hP⟩
      · exact Or.inr h

/-- A run of overwrites none of which takes place leaves the value it met. -/
theorem foldl_miss {α β : Type} (P : β → Prop) [DecidablePred P] (v : β → α) (hP : ∀ n, ¬ P n) (L : List β) (x : α) :
    L.foldl (fun a n => if P n then v n else a) x = x := by
  induction L with
  | nil => rfl
  | cons n L ih => rw [List.foldl_cons, if_neg (hP n)]; exact ih

/-- A scatter that overwrites, at an element which the updates landing there give one value. -/
theorem scatter_hit {α : Type} {s si u : Shape} {w : Nat} (d : ScatterDims s si u) (x0 : s.Idx → α) (idx : IVec si w) (upd : u.Idx → α)
    (ι : s.Idx) (k : u.Idx) (hk : d.resultIdx? k idx = some ι) (hu : ∀ j, d.resultIdx? j idx = some ι → upd j = upd k) :
    Host.scatter d (fun _ b => b) x0 idx upd ι = upd k := by
  rw [Routing.scatter_at]
  exact foldl_hit (fun n => d.resultIdx? (u.rowMajor.symm n) idx = some ι) (fun n => upd (u.rowMajor.symm n)) (upd k) (fun n h => hu _ h) _ _
    (Or.inl ⟨u.rowMajor k, List.mem_finRange _, by rw [Equiv.symm_apply_apply]; exact hk⟩)

/-- A scatter at an element where no update lands. -/
theorem scatter_miss {α : Type} {s si u : Shape} {w : Nat} (d : ScatterDims s si u) (x0 : s.Idx → α) (idx : IVec si w) (upd : u.Idx → α)
    (ι : s.Idx) (h : ∀ j, d.resultIdx? j idx ≠ some ι) :
    Host.scatter d (fun _ b => b) x0 idx upd ι = x0 ι := by
  rw [Routing.scatter_at]
  exact foldl_miss (fun n => d.resultIdx? (u.rowMajor.symm n) idx = some ι) (fun n => upd (u.rowMajor.symm n)) (fun n => h _) _ _

/-- One row of each sentence's buffer, by a pair of words. -/
theorem gather_rows {α : Type} (x : S8x1024x512.Idx → α) (idx : IVec S8x2 32) (b : Fin 8) (q : Fin 512) :
    Host.gather gather_S8x1024x512_S8x2_S8x512_1_01_n_n_01_1_11512 x idx (ix2 b q)
      = x (ix3 ⟨min (idx (ix2 b 0)).toInt.toNat 7, by omega⟩ ⟨min (idx (ix2 b 1)).toInt.toNat 1023, by omega⟩ q) := by
  show x _ = x _
  refine congrArg x ?_
  funext a
  match a with
  | ⟨0, _⟩ =>
    apply Fin.ext
    show min (idx _).toInt.toNat 7 = _
    refine congrArg (fun z => min (idx z).toInt.toNat 7) ?_
    funext e
    match e with
    | ⟨0, _⟩ => rfl
    | ⟨1, _⟩ => rfl
  | ⟨1, _⟩ =>
    apply Fin.ext
    show min (idx _).toInt.toNat 1023 = _
    refine congrArg (fun z => min (idx z).toInt.toNat 1023) ?_
    funext e
    match e with
    | ⟨0, _⟩ => rfl
    | ⟨1, _⟩ => rfl
  | ⟨2, _⟩ =>
    apply Fin.ext
    show 0 + 0 + q.val = q.val
    omega

/-- Where an update of one row of each sentence's buffer lands. -/
theorem scatter_rows_lands (idx : IVec S8x2 32) (b' b : Fin 8) (r : Fin 1024) (q' q : Fin 512) :
    (scatter_S8x1024x512_S8x2_S8x512_1_01_01_1).resultIdx? (ix2 b' q') idx = some (ix3 b r q)
      ↔ (idx (ix2 b' 0)).toInt = b.val ∧ (idx (ix2 b' 1)).toInt = r.val ∧ q' = q := by
  rw [Routing.resultIdx?_eq_some]
  have h0 : (scatter_S8x1024x512_S8x2_S8x512_1_01_01_1).start (ix2 b' q') idx 0 = (idx (ix2 b' 0)).toInt := by
    refine congrArg (fun z => (idx z).toInt) ?_
    funext e
    match e with
    | ⟨0, _⟩ => rfl
    | ⟨1, _⟩ => rfl
  have h1 : (scatter_S8x1024x512_S8x2_S8x512_1_01_01_1).start (ix2 b' q') idx 1 = (idx (ix2 b' 1)).toInt := by
    refine congrArg (fun z => (idx z).toInt) ?_
    funext e
    match e with
    | ⟨0, _⟩ => rfl
    | ⟨1, _⟩ => rfl
  have h2 : (scatter_S8x1024x512_S8x2_S8x512_1_01_01_1).start (ix2 b' q') idx 2 = 0 := rfl
  have w0 : (scatter_S8x1024x512_S8x2_S8x512_1_01_01_1).window (ix2 b' q') 0 = 0 := rfl
  have w1 : (scatter_S8x1024x512_S8x2_S8x512_1_01_01_1).window (ix2 b' q') 1 = 0 := rfl
  have w2 : (scatter_S8x1024x512_S8x2_S8x512_1_01_01_1).window (ix2 b' q') 2 = q'.val := rfl
  constructor
  · intro h
    have e0 := h 0
    have e1 := h 1
    have e2 := h 2
    rw [h0, w0] at e0
    rw [h1, w1] at e1
    rw [h2, w2] at e2
    change _ = (b.val : Int) at e0
    change _ = (r.val : Int) at e1
    change _ = (q.val : Int) at e2
    exact ⟨by simpa using e0, by simpa using e1, Fin.ext (by omega)⟩
  · rintro ⟨e0, e1, rfl⟩ a
    match a with
    | ⟨0, _⟩ => exact (congrArg₂ (fun x (y : ℕ) => x + (y : Int)) h0 w0).trans (by simpa using e0)
    | ⟨1, _⟩ => exact (congrArg₂ (fun x (y : ℕ) => x + (y : Int)) h1 w1).trans (by simpa using e1)
    | ⟨2, _⟩ => exact (congrArg₂ (fun x (y : ℕ) => x + (y : Int)) h2 w2).trans (by simp)

/-- Every leaf of every sentence, by a pair of words. -/
theorem gather_leaves {α : Type} (x : S8x512x512.Idx → α) (idx : IVec S8x512x2 32) (b : Fin 8) (l q : Fin 512) :
    Host.gather gather_S8x512x512_S8x512x2_S8x512x512_2_01_n_n_01_2_11512 x idx (ix3 b l q)
      = x (ix3 ⟨min (idx (ix3 b l 0)).toInt.toNat 7, by omega⟩ ⟨min (idx (ix3 b l 1)).toInt.toNat 511, by omega⟩ q) := by
  show x _ = x _
  refine congrArg x ?_
  funext a
  match a with
  | ⟨0, _⟩ =>
    apply Fin.ext
    show min (idx _).toInt.toNat 7 = _
    refine congrArg (fun z => min (idx z).toInt.toNat 7) ?_
    funext e
    match e with
    | ⟨0, _⟩ => rfl
    | ⟨1, _⟩ => rfl
    | ⟨2, _⟩ => rfl
  | ⟨1, _⟩ =>
    apply Fin.ext
    show min (idx _).toInt.toNat 511 = _
    refine congrArg (fun z => min (idx z).toInt.toNat 511) ?_
    funext e
    match e with
    | ⟨0, _⟩ => rfl
    | ⟨1, _⟩ => rfl
    | ⟨2, _⟩ => rfl
  | ⟨2, _⟩ =>
    apply Fin.ext
    show 0 + 0 + q.val = q.val
    omega

/-- Where an update of the leaves' rows lands. -/
theorem scatter_leaves_lands (idx : IVec S8x512x2 32) (b' b : Fin 8) (l : Fin 512) (r : Fin 1024) (q' q : Fin 512) :
    (scatter_S8x1024x512_S8x512x2_S8x512x512_2_01_01_2).resultIdx? (ix3 b' l q') idx = some (ix3 b r q)
      ↔ (idx (ix3 b' l 0)).toInt = b.val ∧ (idx (ix3 b' l 1)).toInt = r.val ∧ q' = q := by
  rw [Routing.resultIdx?_eq_some]
  have h0 : (scatter_S8x1024x512_S8x512x2_S8x512x512_2_01_01_2).start (ix3 b' l q') idx 0 = (idx (ix3 b' l 0)).toInt := by
    refine congrArg (fun z => (idx z).toInt) ?_
    funext e
    match e with
    | ⟨0, _⟩ => rfl
    | ⟨1, _⟩ => rfl
    | ⟨2, _⟩ => rfl
  have h1 : (scatter_S8x1024x512_S8x512x2_S8x512x512_2_01_01_2).start (ix3 b' l q') idx 1 = (idx (ix3 b' l 1)).toInt := by
    refine congrArg (fun z => (idx z).toInt) ?_
    funext e
    match e with
    | ⟨0, _⟩ => rfl
    | ⟨1, _⟩ => rfl
    | ⟨2, _⟩ => rfl
  have h2 : (scatter_S8x1024x512_S8x512x2_S8x512x512_2_01_01_2).start (ix3 b' l q') idx 2 = 0 := rfl
  have w0 : (scatter_S8x1024x512_S8x512x2_S8x512x512_2_01_01_2).window (ix3 b' l q') 0 = 0 := rfl
  have w1 : (scatter_S8x1024x512_S8x512x2_S8x512x512_2_01_01_2).window (ix3 b' l q') 1 = 0 := rfl
  have w2 : (scatter_S8x1024x512_S8x512x2_S8x512x512_2_01_01_2).window (ix3 b' l q') 2 = q'.val := rfl
  constructor
  · intro h
    have e0 := h 0
    have e1 := h 1
    have e2 := h 2
    rw [h0, w0] at e0
    rw [h1, w1] at e1
    rw [h2, w2] at e2
    change _ = (b.val : Int) at e0
    change _ = (r.val : Int) at e1
    change _ = (q.val : Int) at e2
    exact ⟨by simpa using e0, by simpa using e1, Fin.ext (by omega)⟩
  · rintro ⟨e0, e1, rfl⟩ a
    match a with
    | ⟨0, _⟩ => exact (congrArg₂ (fun x (y : ℕ) => x + (y : Int)) h0 w0).trans (by simpa using e0)
    | ⟨1, _⟩ => exact (congrArg₂ (fun x (y : ℕ) => x + (y : Int)) h1 w1).trans (by simpa using e1)
    | ⟨2, _⟩ => exact (congrArg₂ (fun x (y : ℕ) => x + (y : Int)) h2 w2).trans (by simp)

/-- Where a mark of the leaves' rows lands. -/
theorem scatter_marks_lands (idx : IVec S8x512x2 32) (b' b : Fin 8) (l : Fin 512) (r : Fin 1024) :
    (scatter_S8x1024_S8x512x2_S8x512_n_01_01_2).resultIdx? (ix2 b' l) idx = some (ix2 b r)
      ↔ (idx (ix3 b' l 0)).toInt = b.val ∧ (idx (ix3 b' l 1)).toInt = r.val :=
  Routing.scatter_lands2 _ rfl rfl rfl idx b' l b r

/-- The circular shift, by a table of words: row `k`, column `j` of the result reads column `idx (k, j)`. -/
theorem gather_shift {α : Type} (x : S8x512.Idx → α) (idx : IVec S512x512x1 32) (b : Fin 8) (k j : Fin 512) :
    Host.gather gather_S8x512_S512x512x1_S8x512x512_0_1_n_n_1_2_81 x idx (ix3 b k j)
      = x (ix2 b ⟨min (idx (ix3 k j 0)).toInt.toNat 511, by omega⟩) := by
  show x _ = x _
  refine congrArg x ?_
  funext a
  match a with
  | ⟨0, _⟩ =>
    apply Fin.ext
    show 0 + 0 + b.val = b.val
    omega
  | ⟨1, _⟩ =>
    apply Fin.ext
    show min (idx _).toInt.toNat 511 = _
    refine congrArg (fun z => min (idx z).toInt.toNat 511) ?_
    funext e
    match e with
    | ⟨0, _⟩ => rfl
    | ⟨1, _⟩ => rfl
    | ⟨2, _⟩ => rfl

end Cert.ReferenceIdeal.Hand

end
-- ==== Proof.RI.Trip.lean ====
module

public import proofs.«01_k».proof.Proof.RI.Moves
public import proofs.«01_k».proof.Proof.Math.Whole

@[expose] public section

set_option maxRecDepth 16384

noncomputable section

namespace Cert.ReferenceIdeal.Hand

open Cert.ReferenceIdeal Cert.ReferenceIdeal.Gen Cert.ReferenceIdeal.Value Cert.Hand
open Idealize.ShloMosaic Idealize.ShloMosaic.TcCoe

/-- Pairs of a sentence number and a row, each wrapped once if negative. -/
def pairForm (io w : IVec S8 32) : IVec S8x2 32 :=
  concatenate S8x2 1 [⟨S8x1, (broadcastInDim S8x1 ![0] bcast_S8_S8x1_0 (select (cmpi .slt io (broadcastInDim S8 ![] bcast_S_S8 (constantI S_ 32 0#32))) (addi io (broadcastInDim S8 ![] bcast_S_S8 (constantI S_ 32 8#32))) io))⟩,
    ⟨S8x1, (broadcastInDim S8x1 ![0] bcast_S8_S8x1_0 (select (cmpi .slt w (broadcastInDim S8 ![] bcast_S_S8 (constantI S_ 32 0#32))) (addi w (broadcastInDim S8 ![] bcast_S_S8 (constantI S_ 32 1024#32))) w))⟩]
    concatenates_S8x1_S8x1_S8x2_d1

/-- The rows divided by their norms. -/
def unitForm (x : FVec Ideal S8x512 .f32) : FVec Ideal S8x512 .f32 :=
  Host.divf x (broadcastInDim S8x512 ![0, 1] bcast_S8x1_S8x512_0_1 (addf (Host.sqrt (broadcastInDim S8x1 ![0] bcast_S8_S8x1_0 (Host.reduceAdd (mulf x x) (constant S_ .f32 0x00000000#32) reducesTo_S8x512_S8_d1 h_S_))) (broadcastInDim S8x1 ![] bcast_S_S8x1 (constant S_ .f32 0x2B8CBCCC#32))))

/-- The sum of row and column, modulo 512. -/
def remForm : IVec S512x512 32 :=
  Host.remsi (addi (broadcastInDim S512x512 ![0, 1] bcast_S512x1_S512x512_0_1 (broadcastInDim S512x1 ![0] bcast_S512_S512x1_0 (iotaInDim S512 32 0))) (broadcastInDim S512x512 ![0, 1] bcast_S1x512_S512x512_0_1 (broadcastInDim S1x512 ![1] bcast_S512_S1x512_1 (iotaInDim S512 32 0)))) (broadcastInDim S512x512 ![] bcast_S_S512x512 (constantI S_ 32 512#32))

/-- The same as start indices. -/
def shiftForm : IVec S512x512x1 32 :=
  broadcastInDim S512x512x1 ![0, 1] bcast_S512x512_S512x512x1_0_1 (select (cmpi .slt remForm (broadcastInDim S512x512 ![] bcast_S_S512x512 (constantI S_ 32 0#32))) (addi remForm (broadcastInDim S512x512 ![] bcast_S_S512x512 (constantI S_ 32 512#32))) remForm)

/-- The sums of products of a row with the shifts of another. -/
def sumForm (x y : FVec Ideal S8x512 .f32) : FVec Ideal S8x512 .f32 :=
  Host.reduceAdd (mulf (broadcastInDim S8x512x512 ![0, 1, 2] bcast_S8x512x1_S8x512x512_0_1_2 (broadcastInDim S8x512x1 ![0, 1] bcast_S8x512_S8x512x1_0_1 x))
    (Host.gather gather_S8x512_S512x512x1_S8x512x512_0_1_n_n_1_2_81 y shiftForm)) (constant S_ .f32 0x00000000#32) reducesTo_S8x512x512_S8x512_d1 h_S_

/-- The row a step writes. -/
def newForm (nc : IVec S8 32) (x cor cur : FVec Ideal S8x512 .f32) : FVec Ideal S8x512 .f32 :=
  select (broadcastInDim S8x512 ![0, 1] bcast_S8x1_S8x512_0_1 (broadcastInDim S8x1 ![0] bcast_S8_S8x1_0 (ori (cmpi .eq nc (broadcastInDim S8 ![] bcast_S_S8 (constantI S_ 32 1#32))) (cmpi .eq nc (broadcastInDim S8 ![] bcast_S_S8 (constantI S_ 32 2#32))))))
    (select (broadcastInDim S8x512 ![0, 1] bcast_S8x1_S8x512_0_1 (broadcastInDim S8x1 ![0] bcast_S8_S8x1_0 (cmpi .eq nc (broadcastInDim S8 ![] bcast_S_S8 (constantI S_ 32 2#32))))) cor x) cur

theorem left_form (V0 : Valuation τ sig (Elt Ideal)) : res_main_while0b_v118 V0
    = Host.gather gather_S8x1024x512_S8x2_S8x512_1_01_n_n_01_1_11512 (V0 (Proc.devRef .tc main_v63_4)) (pairForm (V0 (Proc.devRef .tc main_v63_1)) (res_main_while0b_v102 V0)) := rfl

theorem right_form (V0 : Valuation τ sig (Elt Ideal)) : res_main_while0b_v132 V0
    = Host.gather gather_S8x1024x512_S8x2_S8x512_1_01_n_n_01_1_11512 (V0 (Proc.devRef .tc main_v63_4)) (pairForm (V0 (Proc.devRef .tc main_v63_1)) (res_main_while0b_v104 V0)) := rfl

theorem step_form (V0 : Valuation τ sig (Elt Ideal)) : step_main_v63_4 V0
    = Host.scatter scatter_S8x1024x512_S8x2_S8x512_1_01_01_1 (fun _ b => b) (V0 (Proc.devRef .tc main_v63_4)) (pairForm (V0 (Proc.devRef .tc main_v63_1)) (res_main_while0b_v100 V0))
        (newForm (res_main_while0b_v98 V0) (res_main_while0b_v118 V0) (sumForm (unitForm (res_main_while0b_v118 V0)) (unitForm (res_main_while0b_v132 V0)))
          (Host.gather gather_S8x1024x512_S8x2_S8x512_1_01_n_n_01_1_11512 (V0 (Proc.devRef .tc main_v63_4)) (pairForm (V0 (Proc.devRef .tc main_v63_1)) (res_main_while0b_v100 V0)))) := by
  unfold step_main_v63_4
  rw [id_eq]
  apply congr
  · apply congr
    · rfl
    · rfl
  · unfold newForm
    apply congr
    · apply congr
      · rfl
      · apply congr
        · apply congr
          · rfl
          · unfold sumForm shiftForm remForm res_main_while0b_v150 res_main_while0b_v143 unitForm
            rfl
        · rfl
    · rfl

theorem small_word {n : ℕ} (h : n < 2 ^ 31) : (BitVec.ofNat 32 n).toNat = n := by
  rw [BitVec.toNat_ofNat]; exact Nat.mod_eq_of_lt (by omega)

theorem pair_at0 (io w : IVec S8 32) (b : Fin 8) (h : io (ix1 b) = BitVec.ofNat 32 b.val) : pairForm io w (ix2 b 0) = BitVec.ofNat 32 b.val := by
  refine Eq.trans (b := Scalar.select (IntOp.cmpi CmpIPredicate.slt (io (ix1 b)) 0#32) (IntOp.addi (io (ix1 b)) 8#32) (io (ix1 b))) (by pointwise [pairForm]) ?_
  rw [h]
  exact Routing.wrap_of_lt _ _ (by rw [small_word (by omega)]; omega)

theorem pair_at1 (io w : IVec S8 32) (b : Fin 8) (h : (w (ix1 b)).toNat < 1024) : pairForm io w (ix2 b 1) = w (ix1 b) := by
  refine Eq.trans (b := Scalar.select (IntOp.cmpi CmpIPredicate.slt (w (ix1 b)) 0#32) (IntOp.addi (w (ix1 b)) 1024#32) (w (ix1 b))) (by pointwise [pairForm]) ?_
  exact Routing.wrap_of_lt _ _ (by omega)

/-- The row of the buffer that a pair of words names. -/
theorem row_at {α : Type} (x : S8x1024x512.Idx → α) (io w : IVec S8 32) (b : Fin 8) (q : Fin 512) (hi : io (ix1 b) = BitVec.ofNat 32 b.val) (h : (w (ix1 b)).toNat < 1024) :
    Host.gather gather_S8x1024x512_S8x2_S8x512_1_01_n_n_01_1_11512 x (pairForm io w) (ix2 b q) = x (ix3 b (rowOf (w (ix1 b))) q) := by
  rw [gather_rows]
  refine congrArg₂ (fun u v => x (ix3 u v q)) (Fin.ext ?_) (Fin.ext ?_)
  · show min (pairForm io w (ix2 b 0)).toInt.toNat 7 = b.val
    rw [pair_at0 io w b hi, StableHlo.Predicate.toInt_ofNat_small _ (by omega)]
    simp; omega
  · show min (pairForm io w (ix2 b 1)).toInt.toNat 1023 = (w (ix1 b)).toNat % 1024
    rw [pair_at1 io w b h, StableHlo.Predicate.toInt_eq_toNat_of_lt (by omega), Nat.mod_eq_of_lt h]
    simp; omega

/-- Where a pair of words places an update. -/
theorem lands_at (io w : IVec S8 32) (b' b : Fin 8) (r : Fin 1024) (q' q : Fin 512) (hi : ∀ b, io (ix1 b) = BitVec.ofNat 32 b.val) (h : ∀ b, (w (ix1 b)).toNat < 1024) :
    (scatter_S8x1024x512_S8x2_S8x512_1_01_01_1).resultIdx? (ix2 b' q') (pairForm io w) = some (ix3 b r q) ↔ b' = b ∧ r.val = (rowOf (w (ix1 b))).val ∧ q' = q := by
  rw [scatter_rows_lands, pair_at0 io w b' (hi b'), pair_at1 io w b' (h b'), StableHlo.Predicate.toInt_ofNat_small _ (by omega), StableHlo.Predicate.toInt_eq_toNat_of_lt (by have := h b'; omega)]
  have hb := h b
  constructor
  · rintro ⟨e0, e1, e2⟩
    have e : b' = b := Fin.ext (by omega)
    subst e
    refine ⟨rfl, ?_, e2⟩
    show r.val = (w (ix1 b')).toNat % 1024
    omega
  · rintro ⟨rfl, e1, e2⟩
    change r.val = (w (ix1 b')).toNat % 1024 at e1
    exact ⟨rfl, by omega, e2⟩

theorem unit_read (x : FVec Ideal S8x512 .f32) (b : Fin 8) (q : Fin 512) :
    unitForm x (ix2 b q) = Ideal.div (x (ix2 b q)) (Ideal.sqrt (∑ k, x (ix2 b k) * x (ix2 b k)) + ((eps : ℝ) : EReal)) := by
  rw [← eps_word]
  pointwise [unitForm]

/-- A row of reals, divided by its norm. -/
theorem unit_at (x : FVec Ideal S8x512 .f32) (b : Fin 8) (X : Fin 512 → ℝ) (hx : ∀ q, x (ix2 b q) = ((X q : ℝ) : EReal)) (q : Fin 512) :
    unitForm x (ix2 b q) = ((X q / (nrm X + eps) : ℝ) : EReal) := by
  rw [unit_read]
  simp only [hx, ← EReal.coe_mul, coe_sum]
  rw [sqrt_real (Finset.sum_nonneg fun k _ => mul_self_nonneg _), ← EReal.coe_add]
  exact div_real (nrm_eps X).ne'

/-- A row that holds an infinity, divided by its norm. -/
theorem unit_zero (x : FVec Ideal S8x512 .f32) (b : Fin 8) (h : ¬ FinRow (fun q => x (ix2 b q))) (q : Fin 512) : unitForm x (ix2 b q) = (0 : EReal) :=
  (unit_read x b q).trans (div_top h _)

theorem rem_at (k j : Fin 512) : remForm (ix2 k j) = BitVec.ofNat 32 ((k.val + j.val) % 512) := by
  refine Eq.trans (b := IntOp.remsi ArithUnit.host (IntOp.addi (BitVec.ofNat 32 k.val) (BitVec.ofNat 32 j.val)) 512#32) (by pointwise [remForm]) ?_
  have e : IntOp.addi (BitVec.ofNat 32 k.val) (BitVec.ofNat 32 j.val) = BitVec.ofNat 32 (k.val + j.val) := by
    show BitVec.ofNat 32 k.val + BitVec.ofNat 32 j.val = _
    rw [BitVec.ofNat_add]
  rw [e]
  apply BitVec.eq_of_toNat_eq
  rw [IntOp.toNat_remsi _ (by rw [small_word (by omega)]; omega) 512 (by decide) (by decide), small_word (by omega), small_word (by omega)]

theorem shift_at (k j : Fin 512) : shiftForm (ix3 k j 0) = BitVec.ofNat 32 ((k.val + j.val) % 512) := by
  refine Eq.trans (b := Scalar.select (IntOp.cmpi CmpIPredicate.slt (remForm (ix2 k j)) 0#32) (IntOp.addi (remForm (ix2 k j)) 512#32) (remForm (ix2 k j))) (by pointwise [shiftForm]) ?_
  rw [rem_at]
  exact Routing.wrap_of_lt _ _ (by rw [small_word (by omega)]; omega)

theorem sum_read (x y : FVec Ideal S8x512 .f32) (b : Fin 8) (q : Fin 512) :
    sumForm x y (ix2 b q) = ∑ k : Fin 512, x (ix2 b k) * y (ix2 b ⟨(k.val + q.val) % 512, Nat.mod_lt _ (by decide)⟩) := by
  refine Eq.trans (b := ∑ k, x (ix2 b k) * Host.gather gather_S8x512_S512x512x1_S8x512x512_0_1_n_n_1_2_81 y shiftForm (ix3 b k q)) (by pointwise [sumForm]) ?_
  refine Finset.sum_congr rfl fun k _ => ?_
  rw [gather_shift]
  refine congrArg (fun z => x (ix2 b k) * y (ix2 b z)) (Fin.ext ?_)
  show min (shiftForm (ix3 k q 0)).toInt.toNat 511 = (k.val + q.val) % 512
  rw [shift_at, StableHlo.Predicate.toInt_ofNat_small _ (by omega)]
  simp; omega

/-- The correlation of two rows, each divided by its norm. -/
theorem sum_at (x y : FVec Ideal S8x512 .f32) (b : Fin 8) (q : Fin 512) :
    sumForm (unitForm x) (unitForm y) (ix2 b q) = ccorrE (fun q => x (ix2 b q)) (fun q => y (ix2 b q)) q := by
  rw [sum_read]
  by_cases ha : FinRow (fun q => x (ix2 b q))
  · by_cases hb : FinRow (fun q => y (ix2 b q))
    · rw [ccorrE_real ha hb]
      simp only [unit_at x b _ ha, unit_at y b _ hb, ← EReal.coe_mul, coe_sum]
      rfl
    · rw [ccorrE_right _ hb]
      simp only [unit_zero y b hb, mul_zero, Finset.sum_const_zero]
  · rw [ccorrE_left ha]
    simp only [unit_zero x b ha, zero_mul, Finset.sum_const_zero]

theorem new_at (nc : IVec S8 32) (x cor cur : FVec Ideal S8x512 .f32) (b : Fin 8) (q : Fin 512) (h : nc (ix1 b) = 1#32 ∨ nc (ix1 b) = 2#32) :
    newForm nc x cor cur (ix2 b q) = if nc (ix1 b) = 2#32 then cor (ix2 b q) else x (ix2 b q) := by
  refine Eq.trans (b := Scalar.select
      (IntOp.ori (IntOp.cmpi CmpIPredicate.eq (nc (ix1 b)) 1#32) (IntOp.cmpi CmpIPredicate.eq (nc (ix1 b)) 2#32))
      (Scalar.select (IntOp.cmpi CmpIPredicate.eq (nc (ix1 b)) 2#32) (cor (ix2 b q)) (x (ix2 b q))) (cur (ix2 b q))) (by pointwise [newForm]) ?_
  rcases h with h | h
  · rw [h]; rfl
  · rw [h]; rfl

theorem congrArg₃ {α β γ δ : Type} (f : α → β → γ → δ) {a a' : α} {b b' : β} {c c' : γ} (h : a = a') (h' : b = b') (h'' : c = c') : f a b c = f a' b' c' := by
  rw [h, h', h'']

/-- The slice a step takes of the table of words. -/
theorem slice_at (x : IVec S8x64x4 32) (st : Fin 3 → ℤ) (n : ℕ) (hn : n < 64) (s0 : st 0 = 0) (s1 : st 1 = n) (s2 : st 2 = 0) (b : Fin 8) (k : Fin 4) :
    (shapeCast S8x4 (Host.dynamicSlice S8x1x4 x st sliceFits_S8x64x4_S8x1x4) shapeCasts_S8x1x4_S8x4 : IVec S8x4 32) (ix2 b k) = x (ix3 b ⟨n, hn⟩ k) := by
  pointwise
  refine congrArg₃ (fun u v w => x (ix3 u v w)) (Fin.ext ?_) (Fin.ext ?_) (Fin.ext ?_)
  · exact (congrArg (· + b.val) (Host.clampedStart_of_le (s := S8x64x4) (t := S8x1x4) _ st 0 0 s0 (by decide))).trans (Nat.zero_add _)
  · exact Host.clampedStart_of_le (s := S8x64x4) (t := S8x1x4) rfl st 1 n s1 (Nat.succ_le_of_lt hn)
  · exact (congrArg (· + k.val) (Host.clampedStart_of_le (s := S8x64x4) (t := S8x1x4) _ st 2 0 s2 (by decide))).trans (Nat.zero_add _)

/-- The words a step reads. -/
theorem info_at (V0 : Valuation τ sig (Elt Ideal)) (n : ℕ) (hn : n < 64) (h3 : ∀ p, (V0 (Proc.devRef .tc main_v63_3) : IVec S_ 32) p = BitVec.ofNat 32 n) (b : Fin 8) (k : Fin 4) :
    (res_main_while0b_v96 V0 : IVec S8x4 32) (ix2 b k) = (V0 (Proc.devRef .tc main_v63_0) : IVec S8x64x4 32) (ix3 b ⟨n, hn⟩ k) := by
  have e0 : (select (cmpi .slt (constantI S_ 32 0#32) (constantI S_ 32 0#32)) (addi (constantI S_ 32 0#32) (constantI S_ 32 8#32)) (constantI S_ 32 0#32)) (Shape.Idx.first h_S_) = 0#32 := rfl
  have e1 : (select (cmpi .slt (id (V0 (Proc.devRef .tc main_v63_3) : IVec S_ 32)) (constantI S_ 32 0#32)) (addi (id (V0 (Proc.devRef .tc main_v63_3) : IVec S_ 32)) (constantI S_ 32 64#32)) (id (V0 (Proc.devRef .tc main_v63_3) : IVec S_ 32))) (Shape.Idx.first h_S_) = BitVec.ofNat 32 n := by
    show Scalar.select (IntOp.cmpi .slt ((V0 (Proc.devRef .tc main_v63_3) : IVec S_ 32) (Shape.Idx.first h_S_)) 0#32) (IntOp.addi ((V0 (Proc.devRef .tc main_v63_3) : IVec S_ 32) (Shape.Idx.first h_S_)) 64#32) ((V0 (Proc.devRef .tc main_v63_3) : IVec S_ 32) (Shape.Idx.first h_S_)) = _
    rw [h3]
    exact Routing.wrap_of_lt _ _ (by rw [small_word (by omega)]; omega)
  have e2 : (select (cmpi .slt (constantI S_ 32 0#32) (constantI S_ 32 0#32)) (addi (constantI S_ 32 0#32) (constantI S_ 32 4#32)) (constantI S_ 32 0#32)) (Shape.Idx.first h_S_) = 0#32 := rfl
  unfold res_main_while0b_v96 res_main_while0b_v85
  exact slice_at _ _ n hn (congrArg BitVec.toInt e0) ((congrArg BitVec.toInt e1).trans (StableHlo.Predicate.toInt_ofNat_small _ (by omega))) (congrArg BitVec.toInt e2) b k

theorem word_at0 (V0 : Valuation τ sig (Elt Ideal)) (b : Fin 8) : (res_main_while0b_v98 V0 : IVec S8 32) (ix1 b) = (res_main_while0b_v96 V0 : IVec S8x4 32) (ix2 b 0) := by
  pointwise [res_main_while0b_v98]
theorem word_at1 (V0 : Valuation τ sig (Elt Ideal)) (b : Fin 8) : (res_main_while0b_v100 V0 : IVec S8 32) (ix1 b) = (res_main_while0b_v96 V0 : IVec S8x4 32) (ix2 b 1) := by
  pointwise [res_main_while0b_v100]
theorem word_at2 (V0 : Valuation τ sig (Elt Ideal)) (b : Fin 8) : (res_main_while0b_v102 V0 : IVec S8 32) (ix1 b) = (res_main_while0b_v96 V0 : IVec S8x4 32) (ix2 b 2) := by
  pointwise [res_main_while0b_v102]
theorem word_at3 (V0 : Valuation τ sig (Elt Ideal)) (b : Fin 8) : (res_main_while0b_v104 V0 : IVec S8 32) (ix1 b) = (res_main_while0b_v96 V0 : IVec S8x4 32) (ix2 b 3) := by
  pointwise [res_main_while0b_v104]

/-- One trip of the loop is one composition step. -/
theorem trip_at (V0 : Valuation τ sig (Elt Ideal)) (a2 : IVec S8x64x4 32) (n : ℕ) (hn : n < 64) (V : Fin 8 → Fin 1024 → Fin 512 → EReal)
    (h0 : (V0 (Proc.devRef .tc main_v63_0) : IVec S8x64x4 32) = a2) (h1 : ∀ b : Fin 8, (V0 (Proc.devRef .tc main_v63_1) : IVec S8 32) (ix1 b) = BitVec.ofNat 32 b.val)
    (h3 : ∀ p, (V0 (Proc.devRef .tc main_v63_3) : IVec S_ 32) p = BitVec.ofNat 32 n)
    (rows : ∀ (i : Fin 8) (j : Fin 64) (k : Fin 3), (a2 (ix3 i j k.succ)).toNat < 1024) (kids : ∀ (i : Fin 8) (j : Fin 64), a2 (ix3 i j 0) = 1#32 ∨ a2 (ix3 i j 0) = 2#32)
    (hV : Holds3 (V0 (Proc.devRef .tc main_v63_4) : FVec Ideal S8x1024x512 .f32) V) :
    Holds3 (step_main_v63_4 V0 : FVec Ideal S8x1024x512 .f32) (stepR (wordsR a2 n) V) := by
  have hw : ∀ (b : Fin 8) (k : Fin 4), (res_main_while0b_v96 V0 : IVec S8x4 32) (ix2 b k) = wordsR a2 n b k := fun b k => by
    rw [info_at V0 n hn h3, h0]
    exact congrArg (fun z => a2 (ix3 b z k)) (Fin.ext (Nat.mod_eq_of_lt hn).symm)
  have w0 : ∀ b : Fin 8, (res_main_while0b_v98 V0 : IVec S8 32) (ix1 b) = wordsR a2 n b 0 := fun b => (word_at0 V0 b).trans (hw b 0)
  have w1 : ∀ b : Fin 8, (res_main_while0b_v100 V0 : IVec S8 32) (ix1 b) = wordsR a2 n b 1 := fun b => (word_at1 V0 b).trans (hw b 1)
  have w2 : ∀ b : Fin 8, (res_main_while0b_v102 V0 : IVec S8 32) (ix1 b) = wordsR a2 n b 2 := fun b => (word_at2 V0 b).trans (hw b 2)
  have w3 : ∀ b : Fin 8, (res_main_while0b_v104 V0 : IVec S8 32) (ix1 b) = wordsR a2 n b 3 := fun b => (word_at3 V0 b).trans (hw b 3)
  have s1 : ∀ b : Fin 8, ((res_main_while0b_v100 V0 : IVec S8 32) (ix1 b)).toNat < 1024 := fun b => by rw [w1]; exact rows b _ 0
  have s2 : ∀ b : Fin 8, ((res_main_while0b_v102 V0 : IVec S8 32) (ix1 b)).toNat < 1024 := fun b => by rw [w2]; exact rows b _ 1
  have s3 : ∀ b : Fin 8, ((res_main_while0b_v104 V0 : IVec S8 32) (ix1 b)).toNat < 1024 := fun b => by rw [w3]; exact rows b _ 2
  have hl : ∀ (b : Fin 8) (q : Fin 512), (res_main_while0b_v118 V0 : FVec Ideal S8x512 .f32) (ix2 b q) = V b (rowOf (wordsR a2 n b 2)) q := fun b q => by
    rw [left_form, row_at _ _ _ _ _ (h1 b) (s2 b), w2]; exact hV _ _ _
  have hr : ∀ (b : Fin 8) (q : Fin 512), (res_main_while0b_v132 V0 : FVec Ideal S8x512 .f32) (ix2 b q) = V b (rowOf (wordsR a2 n b 3)) q := fun b q => by
    rw [right_form, row_at _ _ _ _ _ (h1 b) (s3 b), w3]; exact hV _ _ _
  intro b r q
  rw [step_form]
  by_cases e : r.val = (rowOf (wordsR a2 n b 1)).val
  · rw [scatter_hit _ _ _ _ (ix3 b r q) (ix2 b q) ((lands_at _ _ b b r q q h1 s1).2 ⟨rfl, by rw [w1]; exact e, rfl⟩) (fun j hj => by
      obtain ⟨b', q', rfl⟩ : ∃ (b' : Fin 8) (q' : Fin 512), j = ix2 b' q' := ⟨_, _, (ix2_eta j).symm⟩
      obtain ⟨rfl, -, rfl⟩ := (lands_at _ _ b' b r q' q h1 s1).1 hj
      rfl)]
    rw [new_at _ _ _ _ _ _ (by rw [w0]; exact kids b _), w0, hl]
    rw [sum_at, show (fun q => (res_main_while0b_v118 V0 : FVec Ideal S8x512 .f32) (ix2 b q)) = V b (rowOf (wordsR a2 n b 2)) from funext (hl b),
      show (fun q => (res_main_while0b_v132 V0 : FVec Ideal S8x512 .f32) (ix2 b q)) = V b (rowOf (wordsR a2 n b 3)) from funext (hr b)]
    unfold stepR
    rw [if_pos e]
  · rw [scatter_miss _ _ _ _ (ix3 b r q) (fun j hj => by
      obtain ⟨b', q', rfl⟩ : ∃ (b' : Fin 8) (q' : Fin 512), j = ix2 b' q' := ⟨_, _, (ix2_eta j).symm⟩
      obtain ⟨rfl, h, -⟩ := (lands_at _ _ b' b r q' q h1 s1).1 hj
      rw [w1] at h
      exact e h)]
    unfold stepR
    rw [if_neg e]
    exact hV _ _ _

end Cert.ReferenceIdeal.Hand

end
-- ==== Proof.RI.Entry.lean ====
module

public import proofs.«01_k».proof.Proof.RI.Keep
public import proofs.«01_k».proof.Proof.RI.Trip
public import Idealize.ShloMosaic.Lib.Pointwise

@[expose] public section

set_option maxRecDepth 65536
set_option maxHeartbeats 4000000

noncomputable section

namespace Cert.ReferenceIdeal.Hand

open Cert.ReferenceIdeal Cert.ReferenceIdeal.Gen Cert.ReferenceIdeal.Value Cert.Hand
open Idealize.ShloMosaic Idealize.ShloMosaic.TcCoe Idealize.ShloMosaic.Tactic Idealize.SL.Sem

/-- The leaves before the rectifier. -/
def dotForm (a0 : FVec Ideal S8x512x1024 .f32) (a4 a5 : FVec Ideal S512x512 .f32) : FVec Ideal S8x512x512 .f32 :=
  addf (Host.dotGeneral dot_S8x512x512_S512x512_S8x512x512_2_0_01_1_n_n none (extractStridedSlice S8x512x512 ![0, 0, 0] a0 slices_S8x512x1024_S8x512x512_0_0_0) (transpose S512x512 [1, 0] a4 transposes_S512x512_S512x512_1_0))
    (Host.dotGeneral dot_S8x512x512_S512x512_S8x512x512_2_0_01_1_n_n none (extractStridedSlice S8x512x512 ![0, 0, 512] a0 slices_S8x512x1024_S8x512x512_0_0_512) (transpose S512x512 [1, 0] a5 transposes_S512x512_S512x512_1_0))

/-- The leaky rectifier. -/
def leakyForm (x : FVec Ideal S8x512x512 .f32) : FVec Ideal S8x512x512 .f32 :=
  select (cmpf .oge x (broadcastInDim S8x512x512 ![] bcast_S_S8x512x512 (constant S_ .f32 0x00000000#32))) x
    (mulf (broadcastInDim S8x512x512 ![] bcast_S_S8x512x512 (constant S_ .f32 0x3C23D70A#32)) x)

/-- A column of the leaf positions. -/
def colForm0 (a1 : IVec S8x512x2 32) : IVec S8x512 32 := shapeCast S8x512 (extractStridedSlice S8x512x1 ![0, 0, 0] a1 slices_S8x512x2_S8x512x1_0_0_0) shapeCasts_S8x512x1_S8x512
def colForm1 (a1 : IVec S8x512x2 32) : IVec S8x512 32 := shapeCast S8x512 (extractStridedSlice S8x512x1 ![0, 0, 1] a1 slices_S8x512x2_S8x512x1_0_0_1) shapeCasts_S8x512x1_S8x512

/-- The sentence numbers, wrapped once if negative. -/
def sentForm : IVec S8x1 32 :=
  select (cmpi .slt (broadcastInDim S8x1 ![0] bcast_S8_S8x1_0 (iotaInDim S8 32 0)) (broadcastInDim S8x1 ![] bcast_S_S8x1 (constantI S_ 32 0#32)))
    (addi (broadcastInDim S8x1 ![0] bcast_S8_S8x1_0 (iotaInDim S8 32 0)) (broadcastInDim S8x1 ![] bcast_S_S8x1 (constantI S_ 32 8#32)))
    (broadcastInDim S8x1 ![0] bcast_S8_S8x1_0 (iotaInDim S8 32 0))

/-- Pairs of a sentence number and a position, each wrapped once if negative. -/
def placeForm (w : IVec S8x512 32) (n : BitVec 32) : IVec S8x512x2 32 :=
  concatenate S8x512x2 2 [⟨S8x512x1, broadcastInDim S8x512x1 ![0, 1] bcast_S8x512_S8x512x1_0_1 (broadcastInDim S8x512 ![0, 1] bcast_S8x1_S8x512_0_1 sentForm)⟩,
    ⟨S8x512x1, broadcastInDim S8x512x1 ![0, 1] bcast_S8x512_S8x512x1_0_1 (select (cmpi .slt w (broadcastInDim S8x512 ![] bcast_S_S8x512 (constantI S_ 32 0#32))) (addi w (broadcastInDim S8x512 ![] bcast_S_S8x512 (constantI S_ 32 n))) w)⟩]
    concatenates_S8x512x1_S8x512x1_S8x512x2_d2

/-- The buffer before the first step. -/
def startForm (a0 : FVec Ideal S8x512x1024 .f32) (a1 : IVec S8x512x2 32) (a4 a5 : FVec Ideal S512x512 .f32) : FVec Ideal S8x1024x512 .f32 :=
  Host.scatter scatter_S8x1024x512_S8x512x2_S8x512x512_2_01_01_2 (fun _ b => b) (broadcastInDim S8x1024x512 ![] bcast_S_S8x1024x512 (constant S_ .f32 0x00000000#32)) (placeForm (colForm0 a1) 1024#32)
    (Host.gather gather_S8x512x512_S8x512x2_S8x512x512_2_01_n_n_01_2_11512 (leakyForm (dotForm a0 a4 a5)) (placeForm (colForm1 a1) 512#32))

/-- The leaf rows. -/
def markForm (a1 : IVec S8x512x2 32) : IVec S8x1024 1 :=
  Host.scatter scatter_S8x1024_S8x512x2_S8x512_n_01_01_2 (fun _ b => b) (broadcastInDim S8x1024 ![] bcast_S_S8x1024 (constantI S_ 1 0#1)) (placeForm (colForm0 a1) 1024#32)
    (broadcastInDim S8x512 ![] bcast_S_S8x512 (constantI S_ 1 1#1))

open Cert.ReferenceIdeal Cert.ReferenceIdeal.Gen Cert.ReferenceIdeal.Value
open Idealize.ShloMosaic Idealize.ShloMosaic.TcCoe
open Idealize.ShloMosaic.StableHlo
open Idealize.SL Idealize.SL.RA Idealize.SL.BI
open scoped Idealize.SL.BI
open Idealize.SL.BI.BIBase Idealize.SL.Sem

variable (m : (ℓ : Loc nD τ sig) → Buf (Elt Ideal) ℓ)

theorem entry_info (c : Dev nD) : entryContents preI m c (Proc.devRef .tc main_v63_0) = m ((c.tc : Thread nD τ).loc main_arg2) := by
  simp only [entryContents, afterL_cons, afterL_nil]
  after_reads_simp
  try simp only [StableHlo.TRef.ofBuf, StableHlo.TRef.toBuf, cast_eq]
  rfl

theorem entry_sent (c : Dev nD) : entryContents preI m c (Proc.devRef .tc main_v63_1) = iotaInDim S8 32 0 := by
  simp only [entryContents, afterL_cons, afterL_nil]
  after_reads_simp
  try simp only [StableHlo.TRef.ofBuf, StableHlo.TRef.toBuf, cast_eq]
  rfl

theorem entry_index (c : Dev nD) : entryContents preI m c (Proc.devRef .tc main_v63_3) = constantI S_ 32 0#32 := by
  simp only [entryContents, afterL_cons, afterL_nil]
  after_reads_simp
  try simp only [StableHlo.TRef.ofBuf, StableHlo.TRef.toBuf, cast_eq]
  rfl

theorem entry_mark (c : Dev nD) : entryContents preI m c (Proc.devRef .tc main_v61) = markForm (m ((c.tc : Thread nD τ).loc main_arg1)) := by
  simp only [entryContents, afterL_cons, afterL_nil]
  after_reads_simp
  try simp only [StableHlo.TRef.ofBuf, StableHlo.TRef.toBuf, cast_eq]
  rfl

theorem entry_start (c : Dev nD) : entryContents preI m c (Proc.devRef .tc main_v63_4) =
    startForm (m ((c.tc : Thread nD τ).loc main_arg0)) (m ((c.tc : Thread nD τ).loc main_arg1)) (m ((c.tc : Thread nD τ).loc main_arg4)) (m ((c.tc : Thread nD τ).loc main_arg5)) := by
  simp only [entryContents, afterL_cons, afterL_nil]
  after_reads_simp
  try simp only [StableHlo.TRef.ofBuf, StableHlo.TRef.toBuf, cast_eq]
  rw [id_eq]
  unfold startForm
  apply congr
  · apply congr
    · rfl
    · rfl
  · apply congr
    · apply congr
      · rfl
      · unfold leakyForm dotForm
        rfl
    · rfl

end Cert.ReferenceIdeal.Hand

end
-- ==== Proof.RI.Start.lean ====
module

public import proofs.«01_k».proof.Proof.RI.Entry
public import Mathlib.Data.Fintype.EquivFin

@[expose] public section

set_option maxRecDepth 65536

noncomputable section

namespace Cert.ReferenceIdeal.Hand

open Cert.ReferenceIdeal Cert.ReferenceIdeal.Gen Cert.ReferenceIdeal.Value Cert.Hand
open Idealize.ShloMosaic Idealize.ShloMosaic.TcCoe

theorem col0_at (a1 : IVec S8x512x2 32) (b : Fin 8) (l : Fin 512) : colForm0 a1 (ix2 b l) = a1 (ix3 b l 0) := by pointwise [colForm0]
theorem col1_at (a1 : IVec S8x512x2 32) (b : Fin 8) (l : Fin 512) : colForm1 a1 (ix2 b l) = a1 (ix3 b l 1) := by pointwise [colForm1]

theorem sent_at (b : Fin 8) : sentForm (ix2 b 0) = BitVec.ofNat 32 b.val := by
  refine Eq.trans (b := Scalar.select (IntOp.cmpi CmpIPredicate.slt (BitVec.ofNat 32 b.val) 0#32) (IntOp.addi (BitVec.ofNat 32 b.val) 8#32) (BitVec.ofNat 32 b.val)) (by pointwise [sentForm]) ?_
  exact Routing.wrap_of_lt _ _ (by rw [small_word (by omega)]; omega)

theorem place_at0 (w : IVec S8x512 32) (n : BitVec 32) (b : Fin 8) (l : Fin 512) : placeForm w n (ix3 b l 0) = BitVec.ofNat 32 b.val := by
  refine Eq.trans (b := sentForm (ix2 b 0)) (by pointwise [placeForm]) (sent_at b)

theorem place_at1 (w : IVec S8x512 32) (n : BitVec 32) (b : Fin 8) (l : Fin 512) (h : (w (ix2 b l)).toNat < 512) : placeForm w n (ix3 b l 1) = w (ix2 b l) := by
  refine Eq.trans (b := Scalar.select (IntOp.cmpi CmpIPredicate.slt (w (ix2 b l)) 0#32) (IntOp.addi (w (ix2 b l)) n) (w (ix2 b l))) (by pointwise [placeForm]) ?_
  exact Routing.wrap_of_lt _ _ (by omega)

/-- The reference's encoded leaves. -/
theorem leaf_at (a0 : FVec Ideal S8x512x1024 .f32) (a4 a5 : FVec Ideal S512x512 .f32)
    (b : Fin 8) (l q : Fin 512) : leakyForm (dotForm a0 a4 a5) (ix3 b l q) = enc (seqR a0) (matR a4) (matR a5) b l q := by
  have hd : dotForm a0 a4 a5 (ix3 b l q) = ∑ k : Fin 1024, seqR a0 b l k * pairW (matR a4) (matR a5) k q := by
    pointwise [dotForm]
    rw [show (∑ k : Fin 1024, seqR a0 b l k * pairW (matR a4) (matR a5) k q) = _ from Fin.sum_univ_add (a := 512) (b := 512) fun k => seqR a0 b l k * pairW (matR a4) (matR a5) k q]
    refine congrArg₂ (fun a b : EReal => a + b) (Finset.sum_congr rfl fun k _ => ?_) (Finset.sum_congr rfl fun k _ => ?_)
    · rw [show pairW (matR a4) (matR a5) (Fin.castAdd 512 k) q = matR a4 q k from dif_pos k.isLt]
      rfl
    · rw [show pairW (matR a4) (matR a5) (Fin.natAdd 512 k) q = matR a5 q k from
        (dif_neg (show ¬ 512 + k.val < 512 by omega)).trans (congrArg (matR a5 q) (Fin.ext (show 512 + k.val - 512 = k.val by omega)))]
      rfl
  pointwise [leakyForm]
  rw [hd, show Ideal.ofBits FTy.f32 1008981770#32 = _ from slope_word]
  unfold enc leaky
  generalize (∑ k : Fin 1024, seqR a0 b l k * pairW (matR a4) (matR a5) k q) = z
  by_cases hp : 0 < z
  · rw [if_pos hp, if_pos hp.le]
  · rw [if_neg hp]
    by_cases hz : 0 ≤ z
    · rw [if_pos hz, le_antisymm (not_lt.1 hp) hz, mul_zero]
    · rw [if_neg hz]

/-- The buffer before the first step. -/
theorem start_at (a0 : FVec Ideal S8x512x1024 .f32) (a1 : IVec S8x512x2 32) (a2 : IVec S8x64x4 32) (a4 a5 : FVec Ideal S512x512 .f32) (D : Drawn a1 a2) :
    Holds3 (startForm a0 a1 a4 a5) (startR a0 a1 a4 a5) := by
  have lands : ∀ (b' b : Fin 8) (l : Fin 512) (r : Fin 1024) (q' q : Fin 512),
      (scatter_S8x1024x512_S8x512x2_S8x512x512_2_01_01_2).resultIdx? (ix3 b' l q') (placeForm (colForm0 a1) 1024#32) = some (ix3 b r q) ↔ b' = b ∧ (posR a1 0 b l).val = r.val ∧ q' = q := by
    intro b' b l r q' q
    rw [scatter_leaves_lands, place_at0, place_at1 _ _ _ _ (by rw [col0_at]; exact D.tgt _ _), col0_at, StableHlo.Predicate.toInt_ofNat_small _ (by omega), StableHlo.Predicate.toInt_eq_toNat_of_lt (by have := D.tgt b' l; omega)]
    have e : ∀ b, (posR a1 0 b l).val = (a1 (ix3 b l 0)).toNat := fun b => Nat.mod_eq_of_lt (D.tgt b l)
    rw [e]
    constructor
    · rintro ⟨e0, e1, e2⟩
      have e : b' = b := Fin.ext (by omega)
      subst e
      exact ⟨rfl, by omega, e2⟩
    · rintro ⟨rfl, e1, e2⟩
      exact ⟨rfl, by omega, e2⟩
  have upd : ∀ (b : Fin 8) (l q : Fin 512), Host.gather gather_S8x512x512_S8x512x2_S8x512x512_2_01_n_n_01_2_11512 (leakyForm (dotForm a0 a4 a5)) (placeForm (colForm1 a1) 512#32) (ix3 b l q)
      = enc (seqR a0) (matR a4) (matR a5) b (posR a1 1 b l) q := by
    intro b l q
    rw [gather_leaves, ← leaf_at a0 a4 a5]
    refine congrArg₂ (fun u v => leakyForm (dotForm a0 a4 a5) (ix3 u v q)) (Fin.ext ?_) (Fin.ext ?_)
    · show min (placeForm (colForm1 a1) 512#32 (ix3 b l 0)).toInt.toNat 7 = b.val
      rw [place_at0, StableHlo.Predicate.toInt_ofNat_small _ (by omega)]
      simp; omega
    · show min (placeForm (colForm1 a1) 512#32 (ix3 b l 1)).toInt.toNat 511 = (a1 (ix3 b l 1)).toNat % 512
      have hs := D.src b l
      rw [place_at1 _ _ _ _ (by rw [col1_at]; exact hs), col1_at, StableHlo.Predicate.toInt_eq_toNat_of_lt (by omega), Nat.mod_eq_of_lt hs]
      simp; omega
  have inj : ∀ (b : Fin 8) (j k : Fin 512), (posR a1 0 b j).val = (posR a1 0 b k).val → j = k := fun b j k h => by
    refine D.inj b j k (BitVec.eq_of_toNat_eq ?_)
    change (a1 (ix3 b j 0)).toNat % 512 = (a1 (ix3 b k 0)).toNat % 512 at h
    rwa [Nat.mod_eq_of_lt (D.tgt b j), Nat.mod_eq_of_lt (D.tgt b k)] at h
  intro b r q
  unfold startForm startR start
  by_cases hr : ∃ l, (posR a1 0 b l).val = r.val
  · obtain ⟨l, hl⟩ := hr
    rw [scatter_hit _ _ _ _ (ix3 b r q) (ix3 b l q) ((lands b b l r q q).2 ⟨rfl, hl, rfl⟩) (fun j hj => by
      obtain ⟨b', l', q', rfl⟩ : ∃ (b' : Fin 8) (l' q' : Fin 512), j = ix3 b' l' q' := ⟨_, _, _, (ix3_eta j).symm⟩
      obtain ⟨rfl, h, rfl⟩ := (lands b' b l' r q' q).1 hj
      rw [inj _ _ _ (h.trans hl.symm)]), upd]
    rw [Finset.sum_eq_single l (fun l' _ hne => if_neg fun h => hne (inj _ _ _ (h.trans hl.symm))) (fun h => absurd (Finset.mem_univ l) h), if_pos hl]
  · rw [scatter_miss _ _ _ _ (ix3 b r q) (fun j hj => by
      obtain ⟨b', l', q', rfl⟩ : ∃ (b' : Fin 8) (l' q' : Fin 512), j = ix3 b' l' q' := ⟨_, _, _, (ix3_eta j).symm⟩
      obtain ⟨rfl, h, -⟩ := (lands b' b l' r q' q).1 hj
      exact hr ⟨l', h⟩)]
    rw [Finset.sum_eq_zero fun l _ => if_neg fun h => hr ⟨l, h⟩]
    pointwise

/-- The leaf rows are the first 512. -/
theorem mark_at (a1 : IVec S8x512x2 32) (a2 : IVec S8x64x4 32) (D : Drawn a1 a2) (b : Fin 8) (r : Fin 1024) :
    markForm a1 (ix2 b r) = if r.val < 512 then 1#1 else 0#1 := by
  have lands : ∀ (b' b : Fin 8) (l : Fin 512) (r : Fin 1024),
      (scatter_S8x1024_S8x512x2_S8x512_n_01_01_2).resultIdx? (ix2 b' l) (placeForm (colForm0 a1) 1024#32) = some (ix2 b r) ↔ b' = b ∧ (posR a1 0 b l).val = r.val := by
    intro b' b l r
    rw [scatter_marks_lands, place_at0, place_at1 _ _ _ _ (by rw [col0_at]; exact D.tgt _ _), col0_at, StableHlo.Predicate.toInt_ofNat_small _ (by omega), StableHlo.Predicate.toInt_eq_toNat_of_lt (by have := D.tgt b' l; omega)]
    have e : ∀ b, (posR a1 0 b l).val = (a1 (ix3 b l 0)).toNat := fun b => Nat.mod_eq_of_lt (D.tgt b l)
    rw [e]
    constructor
    · rintro ⟨e0, e1⟩
      have e : b' = b := Fin.ext (by omega)
      subst e
      exact ⟨rfl, by omega⟩
    · rintro ⟨rfl, e1⟩
      exact ⟨rfl, by omega⟩
  have inj : Function.Injective (posR a1 0 b) := fun j k h => by
    refine D.inj b j k (BitVec.eq_of_toNat_eq ?_)
    have h := congrArg Fin.val h
    change (a1 (ix3 b j 0)).toNat % 512 = (a1 (ix3 b k 0)).toNat % 512 at h
    rwa [Nat.mod_eq_of_lt (D.tgt b j), Nat.mod_eq_of_lt (D.tgt b k)] at h
  unfold markForm
  by_cases hr : r.val < 512
  · obtain ⟨l, hl⟩ := (Finite.injective_iff_surjective.1 inj) ⟨r.val, hr⟩
    rw [if_pos hr, scatter_hit _ _ _ _ (ix2 b r) (ix2 b l) ((lands b b l r).2 ⟨rfl, congrArg Fin.val hl⟩) (fun j _ => rfl)]
    rfl
  · rw [if_neg hr, scatter_miss _ _ _ _ (ix2 b r) (fun j hj => by
      obtain ⟨b', l', rfl⟩ : ∃ (b' : Fin 8) (l' : Fin 512), j = ix2 b' l' := ⟨_, _, (ix2_eta j).symm⟩
      obtain ⟨rfl, h⟩ := (lands b' b l' r).1 hj
      exact hr (h ▸ (posR a1 0 b' l').isLt))]
    rfl

end Cert.ReferenceIdeal.Hand

end
-- ==== Proof.RI.Post.lean ====
module

public import proofs.«01_k».proof.Proof.RI.Start

@[expose] public section

set_option maxRecDepth 65536

noncomputable section

namespace Cert.ReferenceIdeal.Hand

open Cert.ReferenceIdeal Cert.ReferenceIdeal.Gen Cert.ReferenceIdeal.Value Cert.Hand
open Idealize.ShloMosaic Idealize.ShloMosaic.TcCoe Idealize.ShloMosaic.Tactic Idealize.SL.Sem

/-- The word logits, masked to the leaf rows. -/
def wordForm (v : FVec Ideal S8x1024x512 .f32) (k : IVec S8x1024 1) (a6 : FVec Ideal S512x512 .f32) (a7 : FVec Ideal S512 .f32) : FVec Ideal S8x1024x512 .f32 :=
  mulf (addf (Host.dotGeneral dot_S8x1024x512_S512x512_S8x1024x512_2_0_01_1_n_n none v (transpose S512x512 [1, 0] a6 transposes_S512x512_S512x512_1_0))
      (broadcastInDim S8x1024x512 ![0, 1, 2] bcast_S1x1x512_S8x1024x512_0_1_2 (broadcastInDim S1x1x512 ![2] bcast_S512_S1x1x512_2 a7)))
    (broadcastInDim S8x1024x512 ![0, 1, 2] bcast_S8x1024x1_S8x1024x512_0_1_2 (uitofp .f32 (broadcastInDim S8x1024x1 ![0, 1] bcast_S8x1024_S8x1024x1_0_1 k)))

/-- The phrase logits, masked to the other rows. -/
def phraseForm (v : FVec Ideal S8x1024x512 .f32) (k : IVec S8x1024 1) (a8 : FVec Ideal S1024x512 .f32) (a9 : FVec Ideal S1024 .f32) : FVec Ideal S8x1024x1024 .f32 :=
  mulf (addf (Host.dotGeneral dot_S8x1024x512_S512x1024_S8x1024x1024_2_0_01_1_n_n none v (transpose S512x1024 [1, 0] a8 transposes_S1024x512_S512x1024_1_0))
      (broadcastInDim S8x1024x1024 ![0, 1, 2] bcast_S1x1x1024_S8x1024x1024_0_1_2 (broadcastInDim S1x1x1024 ![2] bcast_S1024_S1x1x1024_2 a9)))
    (broadcastInDim S8x1024x1024 ![0, 1, 2] bcast_S8x1024x1_S8x1024x1024_0_1_2 (uitofp .f32 (broadcastInDim S8x1024x1 ![0, 1] bcast_S8x1024_S8x1024x1_0_1 (noti k))))

/-- The result by the final buffer. -/
def outForm (v : FVec Ideal S8x1024x512 .f32) (k : IVec S8x1024 1) (a6 : FVec Ideal S512x512 .f32) (a7 : FVec Ideal S512 .f32) (a8 : FVec Ideal S1024x512 .f32) (a9 : FVec Ideal S1024 .f32) : FVec Ideal S8x1024x1536 .f32 :=
  concatenate S8x1024x1536 2 [⟨S8x1024x512, wordForm v k a6 a7⟩, ⟨S8x1024x1024, phraseForm v k a8 a9⟩] concatenates_S8x1024x512_S8x1024x1024_S8x1024x1536_d2

theorem post_read (V : Valuation τ sig (Elt Ideal)) : StableHlo.after hostOps0_3 V (Proc.devRef .tc main_v83) =
    outForm (V (Proc.devRef .tc main_v63_4)) (V (Proc.devRef .tc main_v61)) (V (Proc.devRef .tc main_arg6)) (V (Proc.devRef .tc main_arg7)) (V (Proc.devRef .tc main_arg8)) (V (Proc.devRef .tc main_arg9)) := by
  after_reads_simp
  try simp only [StableHlo.TRef.ofBuf, StableHlo.TRef.toBuf, cast_eq]
  rfl

theorem mask_one : (FloatOps.uitofp (F := Ideal) FTy.f32 (1#1) : EReal) = 1 := by
  show (((1#1).toNat : ℝ) : EReal) = 1
  simp
theorem mask_zero : (FloatOps.uitofp (F := Ideal) FTy.f32 (0#1) : EReal) = 0 := by
  show (((0#1).toNat : ℝ) : EReal) = 0
  simp

theorem word_form_at (v : FVec Ideal S8x1024x512 .f32) (k : IVec S8x1024 1) (a6 : FVec Ideal S512x512 .f32) (a7 : FVec Ideal S512 .f32) (V : Fin 8 → Fin 1024 → Fin 512 → EReal) (hv : Holds3 v V)
    (hk : ∀ (b : Fin 8) (r : Fin 1024), k (ix2 b r) = if r.val < 512 then 1#1 else 0#1) (b : Fin 8) (r : Fin 1024) (q : Fin 512) :
    wordForm v k a6 a7 (ix3 b r q) = if r.val < 512 then ∑ x : Fin 512, V b r x * a6 (ix2 q x) + a7 (ix1 q) else 0 := by
  pointwise [wordForm]
  rw [hk]
  refine (congrArg (fun z : EReal => (z + _) * _) (Finset.sum_congr rfl fun x _ => congrArg (· * _) (hv b r x))).trans ?_
  by_cases h : r.val < 512
  · rw [if_pos h, if_pos h, mask_one, mul_one]
  · rw [if_neg h, if_neg h, mask_zero, mul_zero]

theorem phrase_form_at (v : FVec Ideal S8x1024x512 .f32) (k : IVec S8x1024 1) (a8 : FVec Ideal S1024x512 .f32) (a9 : FVec Ideal S1024 .f32) (V : Fin 8 → Fin 1024 → Fin 512 → EReal) (hv : Holds3 v V)
    (hk : ∀ (b : Fin 8) (r : Fin 1024), k (ix2 b r) = if r.val < 512 then 1#1 else 0#1) (b : Fin 8) (r q : Fin 1024) :
    phraseForm v k a8 a9 (ix3 b r q) = if r.val < 512 then 0 else ∑ x : Fin 512, V b r x * a8 (ix2 q x) + a9 (ix1 q) := by
  pointwise [phraseForm]
  rw [hk]
  refine (congrArg (fun z : EReal => (z + _) * _) (Finset.sum_congr rfl fun x _ => congrArg (· * _) (hv b r x))).trans ?_
  by_cases h : r.val < 512
  · rw [if_pos h, if_pos h, show ~~~(1#1) = 0#1 from rfl, mask_zero, mul_zero]
  · rw [if_neg h, if_neg h, show ~~~(0#1) = 1#1 from rfl, mask_one, mul_one]

theorem out_at (v : FVec Ideal S8x1024x512 .f32) (k : IVec S8x1024 1) (a6 : FVec Ideal S512x512 .f32) (a7 : FVec Ideal S512 .f32) (a8 : FVec Ideal S1024x512 .f32) (a9 : FVec Ideal S1024 .f32) (V : Fin 8 → Fin 1024 → Fin 512 → EReal) (hv : Holds3 v V)
    (hk : ∀ (b : Fin 8) (r : Fin 1024), k (ix2 b r) = if r.val < 512 then 1#1 else 0#1) (b : Fin 8) (r : Fin 1024) (q : Fin 1536) :
    outForm v k a6 a7 a8 a9 (ix3 b r q) = outSpec V a6 a7 a8 a9 b r q := by
  pointwise [outForm]
  unfold outSpec
  by_cases h : q.val < 512
  · rw [dif_pos h, dif_pos h]; exact word_form_at v k a6 a7 V hv hk b r ⟨q.val, h⟩
  · rw [dif_neg h, dif_neg h]; exact phrase_form_at v k a8 a9 V hv hk b r ⟨q.val - 512, by omega⟩

end Cert.ReferenceIdeal.Hand

end
-- ==== Proof.RI.Value.lean ====
module

public import proofs.«01_k».proof.Proof.RI.Post

@[expose] public section

set_option maxRecDepth 65536

noncomputable section

namespace Cert.ReferenceIdeal.Hand

open Cert.ReferenceIdeal Cert.ReferenceIdeal.Gen Cert.ReferenceIdeal.Value Cert.Hand
open Idealize.ShloMosaic Idealize.ShloMosaic.TcCoe
open Idealize.ShloMosaic.StableHlo
open Idealize.SL Idealize.SL.RA Idealize.SL.BI
open scoped Idealize.SL.BI
open Idealize.SL.BI.BIBase Idealize.SL.Sem

variable (m : (ℓ : Loc nD τ sig) → Buf (Elt Ideal) ℓ) (ρ : Dev nD → PrngReg)

/-- The launch's arguments are as the inputs are drawn. -/
abbrev DrawnAt (c : Dev nD) : Prop :=
  Drawn (m ((c.tc : Thread nD τ).loc main_arg1)) (m ((c.tc : Thread nD τ).loc main_arg2))

/-- The result by the launch's argument arrays. -/
def res (c : Dev nD) : Buf (Elt Ideal) ((c.tc : Thread nD τ).loc main_v83) :=
  result (m ((c.tc : Thread nD τ).loc main_arg0)) (m ((c.tc : Thread nD τ).loc main_arg1)) (m ((c.tc : Thread nD τ).loc main_arg2)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- What the carried buffers hold after `k` trips. -/
theorem trips_at (c : Dev nD) (D : DrawnAt m c) : ∀ k : ℕ, k ≤ 64 →
    ((STEP^[k] (entryContents preI m c)) (Proc.devRef .tc main_v63_0) : IVec S8x64x4 32) = m ((c.tc : Thread nD τ).loc main_arg2)
    ∧ (∀ b : Fin 8, ((STEP^[k] (entryContents preI m c)) (Proc.devRef .tc main_v63_1) : IVec S8 32) (ix1 b) = BitVec.ofNat 32 b.val)
    ∧ (∀ p, ((STEP^[k] (entryContents preI m c)) (Proc.devRef .tc main_v63_3) : IVec S_ 32) p = BitVec.ofNat 32 k)
    ∧ Holds3 ((STEP^[k] (entryContents preI m c)) (Proc.devRef .tc main_v63_4) : FVec Ideal S8x1024x512 .f32)
        (stepsR (wordsR (m ((c.tc : Thread nD τ).loc main_arg2))) (startR (m ((c.tc : Thread nD τ).loc main_arg0)) (m ((c.tc : Thread nD τ).loc main_arg1)) (m ((c.tc : Thread nD τ).loc main_arg4)) (m ((c.tc : Thread nD τ).loc main_arg5))) k)
  | 0, _ => by
    rw [Function.iterate_zero_apply]
    refine ⟨entry_info m c, fun b => ?_, fun p => ?_, ?_⟩
    · rw [entry_sent]; rfl
    · rw [entry_index]; rfl
    · rw [entry_start]; exact start_at _ _ _ _ _ D
  | k + 1, hk => by
    obtain ⟨i0, i1, i3, i4⟩ := trips_at c D k (by omega)
    rw [Function.iterate_succ_apply']
    generalize STEP^[k] (entryContents preI m c) = X at i0 i1 i3 i4
    rw [STEP_main_v63_0, STEP_main_v63_1, STEP_main_v63_3, STEP_main_v63_4]
    refine ⟨i0, i1, fun p => ?_, trip_at X _ k (by omega) _ i0 i1 i3 D.rows D.kids i4⟩
    rw [BitVec.ofNat_add]
    exact congrArg (fun z : BitVec 32 => z + 1#32) (i3 p)

theorem v61_loop : main_v61 ∉ loopW := by decide +kernel
theorem v61_cond : main_v61 ∉ condOps_W := by decide +kernel
theorem v63_4_cond : main_v63_4 ∉ condOps_W := by decide +kernel
theorem arg6_cond : main_arg6 ∉ condOps_W := by decide +kernel
theorem arg7_cond : main_arg7 ∉ condOps_W := by decide +kernel
theorem arg8_cond : main_arg8 ∉ condOps_W := by decide +kernel
theorem arg9_cond : main_arg9 ∉ condOps_W := by decide +kernel

/-- The output array at the end. -/
theorem final_res (c : Dev nD) (D : DrawnAt m c) : finalContents condOps preI bodyI postI 64 m c (Proc.devRef .tc main_v83) = res m c := by
  simp only [finalContents, afterL_cons, afterL_nil]
  rw [post_read]
  have hv : Holds3 (after condOps (atK m 64 c) (Proc.devRef .tc main_v63_4) : FVec Ideal S8x1024x512 .f32)
      (bufR (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) := by
    rw [cond_kept v63_4_cond, atK_agree m c 64 main_v63_4 (by decide)]
    exact (trips_at m c D 64 le_rfl).2.2.2
  have hk : ∀ (b : Fin 8) (r : Fin 1024), (after condOps (atK m 64 c) (Proc.devRef .tc main_v61) : IVec S8x1024 1) (ix2 b r) = if r.val < 512 then 1#1 else 0#1 := fun b r => by
    rw [cond_kept v61_cond, atK_kept m v61_loop, entry_mark]
    exact mark_at _ _ D b r
  have h6 : after condOps (atK m 64 c) (Proc.devRef .tc main_arg6) = m ((c.tc : Thread nD τ).loc main_arg6) := by
    rw [cond_kept arg6_cond, atK_kept m arg6_loop, entry_kept m arg6_pre]
  have h7 : after condOps (atK m 64 c) (Proc.devRef .tc main_arg7) = m ((c.tc : Thread nD τ).loc main_arg7) := by
    rw [cond_kept arg7_cond, atK_kept m arg7_loop, entry_kept m arg7_pre]
  have h8 : after condOps (atK m 64 c) (Proc.devRef .tc main_arg8) = m ((c.tc : Thread nD τ).loc main_arg8) := by
    rw [cond_kept arg8_cond, atK_kept m arg8_loop, entry_kept m arg8_pre]
  have h9 : after condOps (atK m 64 c) (Proc.devRef .tc main_arg9) = m ((c.tc : Thread nD τ).loc main_arg9) := by
    rw [cond_kept arg9_cond, atK_kept m arg9_loop, entry_kept m arg9_pre]
  rw [h6, h7, h8, h9]
  funext p
  refine (congrArg (outForm _ _ _ _ _ _) (ix3_eta p).symm).trans ?_
  exact out_at _ _ _ _ _ _ _ hv hk (p 0) (p 1) (p 2)

/-- The reference's result, and every argument array as it was. -/
theorem run_value (D : ∀ c, DrawnAt m c) : θ_run (defs (F := Ideal)) (onTc (τ := τ) (main (F := Ideal))) ⟨m, fun _ => 0, ρ⟩ (fun r => ∀ c : Dev nD,
      r.2.mem ((c.tc : Thread nD τ).loc main_v83) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun r h c => ⟨(h c main_v83 rfl).trans (final_res m c (D c)),
    (h c main_arg0 rfl).trans (final_kept m arg0_pre arg0_loop arg0_post c),
    (h c main_arg1 rfl).trans (final_kept m arg1_pre arg1_loop arg1_post c),
    (h c main_arg2 rfl).trans (final_kept m arg2_pre arg2_loop arg2_post c),
    (h c main_arg3 rfl).trans (final_kept m arg3_pre arg3_loop arg3_post c),
    (h c main_arg4 rfl).trans (final_kept m arg4_pre arg4_loop arg4_post c),
    (h c main_arg5 rfl).trans (final_kept m arg5_pre arg5_loop arg5_post c),
    (h c main_arg6 rfl).trans (final_kept m arg6_pre arg6_loop arg6_post c),
    (h c main_arg7 rfl).trans (final_kept m arg7_pre arg7_loop arg7_post c),
    (h c main_arg8 rfl).trans (final_kept m arg8_pre arg8_loop arg8_post c),
    (h c main_arg9 rfl).trans (final_kept m arg9_pre arg9_loop arg9_post c)⟩) (run_fold m ρ)

end Cert.ReferenceIdeal.Hand

end
-- ==== Proof.lean ====
/- The certificate of the launch and of the reference: each program's claims, assembled from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_rows_in_range
public import proofs.«01_k».proof.Proof.Gen.Pre_drawn
public import proofs.«01_k».proof.Proof.K.Rows
public import proofs.«01_k».proof.Proof.KI.Rows
public import proofs.«01_k».proof.Proof.KI.Value
public import proofs.«01_k».proof.Proof.RI.Value

@[expose] public section

noncomputable section

namespace Cert.Proof

open Idealize.ShloMosaic Idealize.SL.Sem

/-- The kernel terminates without fault, leaves its arguments as they were and every semaphore at zero. -/
theorem kernel_runs : Cert.quiescent_Kernel :=
  fun m ρ h => Cert.Kernel.Hand.frame_run m ρ fun c => Cert.Kernel.Hand.rowsOk m h c _

/-- So does its idealization. -/
theorem kernelIdeal_runs : Cert.quiescent_KernelIdeal :=
  fun m ρ h => Cert.KernelIdeal.Hand.frame_run m ρ fun c => Cert.KernelIdeal.Hand.rowsOk m h c _

/-- So does the reference. -/
theorem reference_runs : Cert.quiescent_ReferenceIdeal :=
  fun m ρ _ => Cert.ReferenceIdeal.Hand.frame_run m ρ

/-- The second precondition at each device, as plain conditions on the argument arrays. -/
theorem drawn (m : (ℓ : Loc Cert.KernelIdeal.nD Cert.KernelIdeal.τ Cert.KernelIdeal.sig) → Buf (Elt Ideal) ℓ) (h : Cert.Pre_KernelIdeal_drawn m) (c : Dev Cert.KernelIdeal.nD) :
    Cert.Hand.Drawn (m ((c.tc : Thread Cert.KernelIdeal.nD Cert.KernelIdeal.τ).loc Cert.KernelIdeal.main_arg1)) (m ((c.tc : Thread Cert.KernelIdeal.nD Cert.KernelIdeal.τ).loc Cert.KernelIdeal.main_arg2)) :=
  Cert.Hand.drawn_of _ _ _ _ _ _ _ _ _ _ (h c)

/-- The idealized kernel runs as well where the inputs are as they are drawn. -/
theorem kernelIdeal_runs_drawn : Cert.quiescent_KernelIdeal_pre_drawn :=
  fun m ρ h => Cert.KernelIdeal.Hand.frame_run m ρ fun c => by
    rw [Cert.KernelIdeal.Hand.iblk9]; exact Cert.KernelIdeal.Hand.rowsOk_of _ (drawn m h c).rows

/-- So does the reference. -/
theorem reference_runs_drawn : Cert.quiescent_ReferenceIdeal_pre_drawn :=
  fun m ρ _ => Cert.ReferenceIdeal.Hand.frame_run m ρ

/-- Over the ideal values the kernel and the reference compute the same array from the same arguments. -/
theorem same_result : Cert.algebraic_KernelIdeal_ReferenceIdeal_pre_drawn := by
  intro m g m' g' h e
  refine ⟨Cert.KernelIdeal.Hand.res m, Cert.KernelIdeal.Hand.run_value m g (drawn m h), ?_⟩
  have D : ∀ c, Cert.ReferenceIdeal.Hand.DrawnAt m' c := fun c => by
    obtain ⟨e0, e1, e2, e3, e4, e5, e6, e7, e8, e9⟩ := e c
    unfold Cert.ReferenceIdeal.Hand.DrawnAt
    rw [e1, e2]
    exact drawn m h c
  refine (θ_run _ _ _).mono (fun r hr c => ⟨(hr c).1.trans ?_, (hr c).2⟩) (Cert.ReferenceIdeal.Hand.run_value m' g' D)
  obtain ⟨e0, e1, e2, e3, e4, e5, e6, e7, e8, e9⟩ := e c
  unfold Cert.ReferenceIdeal.Hand.res Cert.KernelIdeal.Hand.res
  rw [e0, e1, e2, e4, e5, e6, e7, e8, e9]

/-- Every claim, with the witnesses of the programs' stated facts. -/
theorem claim : Cert.Claim :=
  ⟨Cert.Kernel.Gen.facts, Cert.KernelIdeal.Gen.facts, Cert.ReferenceIdeal.Gen.facts, Cert.Pre_rows_in_range.Gen.facts, Cert.Pre_drawn.Gen.facts,
    kernel_runs, kernelIdeal_runs, kernelIdeal_runs_drawn, reference_runs, reference_runs_drawn, trivial, same_result⟩

end Cert.Proof

end
